-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_grid [hPre_in_grid : Cert.Pre_in_grid.Facts] (m : (ℓ : Loc Cert.KernelIdeal.nD Cert.KernelIdeal.τ Cert.KernelIdeal.sig) → Buf (Elt Ideal) ℓ) : Prop :=
  ∀ c : Dev Cert.KernelIdeal.nD,
    (Cert.Pre_in_grid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_grid [hPre_in_grid : Cert.Pre_in_grid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_grid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_KernelIdeal_pre_in_grid [hKernelIdeal : Cert.KernelIdeal.Facts] [hPre_in_grid : Cert.Pre_in_grid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_grid m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_in_grid [hReferenceIdeal : Cert.ReferenceIdeal.Facts] [hPre_in_grid : Cert.Pre_in_grid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_grid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  True

def algebraic_KernelIdeal_ReferenceIdeal_pre_in_grid [hKernelIdeal : Cert.KernelIdeal.Facts] [hReferenceIdeal : Cert.ReferenceIdeal.Facts] [hPre_in_grid : Cert.Pre_in_grid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_grid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v192)) (v1 : (c : Dev Cert.KernelIdeal.nD) → Buf (Elt Ideal) ((c.tc : Thread Cert.KernelIdeal.nD Cert.KernelIdeal.τ).loc Cert.KernelIdeal.main_v193)) (v2 : (c : Dev Cert.KernelIdeal.nD) → Buf (Elt Ideal) ((c.tc : Thread Cert.KernelIdeal.nD Cert.KernelIdeal.τ).loc Cert.KernelIdeal.main_v194)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v192) = v0 c
          ∧ r.2.mem ((c.tc : Thread Cert.KernelIdeal.nD Cert.KernelIdeal.τ).loc Cert.KernelIdeal.main_v193) = v1 c
          ∧ r.2.mem ((c.tc : Thread Cert.KernelIdeal.nD Cert.KernelIdeal.τ).loc Cert.KernelIdeal.main_v194) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_v87) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_in_grid : Cert.Pre_in_grid.Facts),
    quiescent_Kernel (hKernel := hKernel)
    ∧ quiescent_KernelIdeal (hKernelIdeal := hKernelIdeal)
    ∧ quiescent_KernelIdeal_pre_in_grid (hKernelIdeal := hKernelIdeal) (hPre_in_grid := hPre_in_grid)
    ∧ quiescent_ReferenceIdeal (hReferenceIdeal := hReferenceIdeal)
    ∧ quiescent_ReferenceIdeal_pre_in_grid (hReferenceIdeal := hReferenceIdeal) (hPre_in_grid := hPre_in_grid)
    ∧ preserves_Kernel_KernelIdeal
    ∧ algebraic_KernelIdeal_ReferenceIdeal_pre_in_grid (hKernelIdeal := hKernelIdeal) (hReferenceIdeal := hReferenceIdeal) (hPre_in_grid := hPre_in_grid)
-- ==== Pre_in_grid.lean ====
abbrev S12000x35x7 : Shape := ⟨3, ![12000, 35, 7]⟩
abbrev S12000x4 : Shape := ⟨2, ![12000, 4]⟩
abbrev S7x16 : Shape := ⟨2, ![7, 16]⟩
abbrev S16 : Shape := ⟨1, ![16]⟩
abbrev S32x64 : Shape := ⟨2, ![32, 64]⟩
abbrev S64 : Shape := ⟨1, ![64]⟩
abbrev S128x128 : Shape := ⟨2, ![128, 128]⟩
abbrev S128 : Shape := ⟨1, ![128]⟩
abbrev S64x128x3x3x3 : Shape := ⟨5, ![64, 128, 3, 3, 3]⟩
abbrev S64x64x3x3x3 : Shape := ⟨5, ![64, 64, 3, 3, 3]⟩
abbrev S128x128x3x3 : Shape := ⟨4, ![128, 128, 3, 3]⟩
abbrev S2x128x1x1 : Shape := ⟨4, ![2, 128, 1, 1]⟩
abbrev S2 : Shape := ⟨1, ![2]⟩
abbrev S14x128x1x1 : Shape := ⟨4, ![14, 128, 1, 1]⟩
abbrev S14 : Shape := ⟨1, ![14]⟩
abbrev S4x128x1x1 : Shape := ⟨4, ![4, 128, 1, 1]⟩
abbrev S4 : Shape := ⟨1, ![4]⟩
abbrev S12000x1 : Shape := ⟨2, ![12000, 1]⟩
abbrev S12000 : Shape := ⟨1, ![12000]⟩
abbrev S_ : Shape := ⟨0, ![]⟩

class Facts : Prop where
  slices_S12000x4_S12000x1_0_0 : S12000x4.Slices ![0, 0] S12000x1
  shapeCasts_S12000x1_S12000 : S12000x1.ShapeCasts S12000
  slices_S12000x4_S12000x1_0_1 : S12000x4.Slices ![0, 1] S12000x1
  slices_S12000x4_S12000x1_0_2 : S12000x4.Slices ![0, 2] S12000x1
  slices_S12000x4_S12000x1_0_3 : S12000x4.Slices ![0, 3] S12000x1
  bcast_S_S12000 : S_.BroadcastsInDim S12000 (![] : Fin 0 → Fin S12000.rank)
  reducesTo_S12000_S_d0 : S12000.ReducesTo [0] S_
  h_S_ : 0 < S_.numel

variable [Facts]

def fn_part1 {F : FTy → Type} [FloatOps F] (main_v5 : IVec S12000 32) (main_v7 : IVec S12000 32) (main_v18 : IVec S12000 1) (main_c_3 : IVec S_ 32) : IVec S_ 1 :=
  let main_v19 : IVec S12000 32 := broadcastInDim S12000 ![] bcast_S_S12000 main_c_3
  let main_v20 : IVec S12000 1 := cmpi .slt main_v5 main_v19
  let main_v21 : IVec S12000 1 := andi main_v18 main_v20
  let main_c_4 : IVec S_ 32 := constantI S_ 32 0#32
  let main_v22 : IVec S12000 32 := broadcastInDim S12000 ![] bcast_S_S12000 main_c_4
  let main_v23 : IVec S12000 1 := cmpi .sge main_v7 main_v22
  let main_v24 : IVec S12000 1 := andi main_v21 main_v23
  let main_c_5 : IVec S_ 32 := constantI S_ 32 8#32
  let main_v25 : IVec S12000 32 := broadcastInDim S12000 ![] bcast_S_S12000 main_c_5
  let main_v26 : IVec S12000 1 := cmpi .slt main_v7 main_v25
  let main_v27 : IVec S12000 1 := andi main_v24 main_v26
  let main_c_6 : IVec S_ 1 := constantI S_ 1 1#1
  let main_v28 : IVec S_ 1 := (fun x v => Host.reduce IntOp.andi x v reducesTo_S12000_S_d0 h_S_) main_v27 main_c_6
  main_v28

def fn {F : FTy → Type} [FloatOps F] (main_arg0 : FVec F S12000x35x7 .f32) (main_arg1 : IVec S12000x4 32) (main_arg2 : FVec F S7x16 .f32) (main_arg3 : FVec F S16 .f32) (main_arg4 : FVec F S32x64 .f32) (main_arg5 : FVec F S64 .f32) (main_arg6 : FVec F S128x128 .f32) (main_arg7 : FVec F S128 .f32) (main_arg8 : FVec F S64x128x3x3x3 .f32) (main_arg9 : FVec F S64 .f32) (main_arg10 : FVec F S64x64x3x3x3 .f32) (main_arg11 : FVec F S64 .f32) (main_arg12 : FVec F S128x128x3x3 .f32) (main_arg13 : FVec F S128 .f32) (main_arg14 : FVec F S2x128x1x1 .f32) (main_arg15 : FVec F S2 .f32) (main_arg16 : FVec F S14x128x1x1 .f32) (main_arg17 : FVec F S14 .f32) (main_arg18 : FVec F S4x128x1x1 .f32) (main_arg19 : FVec F S4 .f32) : IVec S_ 1 :=
  let main_v0 : IVec S12000x1 32 := (extractStridedSlice S12000x1 ![0, 0] · slices_S12000x4_S12000x1_0_0) main_arg1
  let main_v1 : IVec S12000 32 := shapeCast S12000 main_v0 shapeCasts_S12000x1_S12000
  let main_v2 : IVec S12000x1 32 := (extractStridedSlice S12000x1 ![0, 1] · slices_S12000x4_S12000x1_0_1) main_arg1
  let main_v3 : IVec S12000 32 := shapeCast S12000 main_v2 shapeCasts_S12000x1_S12000
  let main_v4 : IVec S12000x1 32 := (extractStridedSlice S12000x1 ![0, 2] · slices_S12000x4_S12000x1_0_2) main_arg1
  let main_v5 : IVec S12000 32 := shapeCast S12000 main_v4 shapeCasts_S12000x1_S12000
  let main_v6 : IVec S12000x1 32 := (extractStridedSlice S12000x1 ![0, 3] · slices_S12000x4_S12000x1_0_3) main_arg1
  let main_v7 : IVec S12000 32 := shapeCast S12000 main_v6 shapeCasts_S12000x1_S12000
  let main_c : IVec S_ 32 := constantI S_ 32 0#32
  let main_v8 : IVec S12000 32 := broadcastInDim S12000 ![] bcast_S_S12000 main_c
  let main_v9 : IVec S12000 1 := cmpi .eq main_v1 main_v8
  let main_c_0 : IVec S_ 32 := constantI S_ 32 0#32
  let main_v10 : IVec S12000 32 := broadcastInDim S12000 ![] bcast_S_S12000 main_c_0
  let main_v11 : IVec S12000 1 := cmpi .sge main_v3 main_v10
  let main_v12 : IVec S12000 1 := andi main_v9 main_v11
  let main_c_1 : IVec S_ 32 := constantI S_ 32 100#32
  let main_v13 : IVec S12000 32 := broadcastInDim S12000 ![] bcast_S_S12000 main_c_1
  let main_v14 : IVec S12000 1 := cmpi .slt main_v3 main_v13
  let main_v15 : IVec S12000 1 := andi main_v12 main_v14
  let main_c_2 : IVec S_ 32 := constantI S_ 32 0#32
  let main_v16 : IVec S12000 32 := broadcastInDim S12000 ![] bcast_S_S12000 main_c_2
  let main_v17 : IVec S12000 1 := cmpi .sge main_v5 main_v16
  let main_v18 : IVec S12000 1 := andi main_v15 main_v17
  let main_c_3 : IVec S_ 32 := constantI S_ 32 88#32
  fn_part1 (F := F) main_v5 main_v7 main_v18 main_c_3
-- ==== Kernel.lean ====
abbrev S12000x35x7 : Shape := ⟨3, ![12000, 35, 7]⟩
abbrev S12000x4 : Shape := ⟨2, ![12000, 4]⟩
abbrev S7x16 : Shape := ⟨2, ![7, 16]⟩
abbrev S16 : Shape := ⟨1, ![16]⟩
abbrev S32x64 : Shape := ⟨2, ![32, 64]⟩
abbrev S64 : Shape := ⟨1, ![64]⟩
abbrev S128x128 : Shape := ⟨2, ![128, 128]⟩
abbrev S128 : Shape := ⟨1, ![128]⟩
abbrev S64x128x3x3x3 : Shape := ⟨5, ![64, 128, 3, 3, 3]⟩
abbrev S64x64x3x3x3 : Shape := ⟨5, ![64, 64, 3, 3, 3]⟩
abbrev S128x128x3x3 : Shape := ⟨4, ![128, 128, 3, 3]⟩
abbrev S2x128x1x1 : Shape := ⟨4, ![2, 128, 1, 1]⟩
abbrev S2 : Shape := ⟨1, ![2]⟩
abbrev S14x128x1x1 : Shape := ⟨4, ![14, 128, 1, 1]⟩
abbrev S14 : Shape := ⟨1, ![14]⟩
abbrev S4x128x1x1 : Shape := ⟨4, ![4, 128, 1, 1]⟩
abbrev S4 : Shape := ⟨1, ![4]⟩
abbrev S12000x1x7 : Shape := ⟨3, ![12000, 1, 7]⟩
abbrev S12000x5x7 : Shape := ⟨3, ![12000, 5, 7]⟩
abbrev S12000x40x7 : Shape := ⟨3, ![12000, 40, 7]⟩
abbrev S_ : Shape := ⟨0, ![]⟩
abbrev S12288x40x7 : Shape := ⟨3, ![12288, 40, 7]⟩
abbrev S16x64 : Shape := ⟨2, ![16, 64]⟩
abbrev S64x128 : Shape := ⟨2, ![64, 128]⟩
abbrev S12288x128 : Shape := ⟨2, ![12288, 128]⟩
abbrev S256x40x7 : Shape := ⟨3, ![256, 40, 7]⟩
abbrev S256x128 : Shape := ⟨2, ![256, 128]⟩
abbrev S10240x7 : Shape := ⟨2, ![10240, 7]⟩
abbrev S10240x16 : Shape := ⟨2, ![10240, 16]⟩
abbrev S1x16 : Shape := ⟨2, ![1, 16]⟩
abbrev S256x40x16 : Shape := ⟨3, ![256, 40, 16]⟩
abbrev S256x16 : Shape := ⟨2, ![256, 16]⟩
abbrev S256x64 : Shape := ⟨2, ![256, 64]⟩
abbrev S1x64 : Shape := ⟨2, ![1, 64]⟩
abbrev S10240x64 : Shape := ⟨2, ![10240, 64]⟩
abbrev S256x40x64 : Shape := ⟨3, ![256, 40, 64]⟩
abbrev S256x1x64 : Shape := ⟨3, ![256, 1, 64]⟩
abbrev S1x128 : Shape := ⟨2, ![1, 128]⟩
abbrev S10240x128 : Shape := ⟨2, ![10240, 128]⟩
abbrev S256x40x128 : Shape := ⟨3, ![256, 40, 128]⟩
abbrev S256x1x128 : Shape := ⟨3, ![256, 1, 128]⟩
abbrev S12288 : Shape := ⟨1, ![12288]⟩
abbrev S12000x1 : Shape := ⟨2, ![12000, 1]⟩
abbrev S12000 : Shape := ⟨1, ![12000]⟩
abbrev S78464 : Shape := ⟨1, ![78464]⟩
abbrev S12288x1 : Shape := ⟨2, ![12288, 1]⟩
abbrev S78464x128 : Shape := ⟨2, ![78464, 128]⟩
abbrev S3x3x3x128x64 : Shape := ⟨5, ![3, 3, 3, 128, 64]⟩
abbrev S3x3x8x128x4x64 : Shape := ⟨6, ![3, 3, 8, 128, 4, 64]⟩
abbrev S3x3x1x128x64 : Shape := ⟨5, ![3, 3, 1, 128, 64]⟩
abbrev S3x3x128x64 : Shape := ⟨4, ![3, 3, 128, 64]⟩
abbrev S1 : Shape := ⟨1, ![1]⟩
abbrev S9x1024x256 : Shape := ⟨3, ![9, 1024, 256]⟩
abbrev S4x64 : Shape := ⟨2, ![4, 64]⟩
abbrev S256 : Shape := ⟨1, ![256]⟩
abbrev S102x96x256 : Shape := ⟨3, ![102, 96, 256]⟩
abbrev S4608x128 : Shape := ⟨2, ![4608, 128]⟩
abbrev S6x96x256 : Shape := ⟨3, ![6, 96, 256]⟩
abbrev S6x96x1024 : Shape := ⟨3, ![6, 96, 1024]⟩
abbrev S18x96x1024 : Shape := ⟨3, ![18, 96, 1024]⟩
abbrev S6x96x1 : Shape := ⟨3, ![6, 96, 1]⟩
abbrev S1x1024x256 : Shape := ⟨3, ![1, 1024, 256]⟩
abbrev S1024x256 : Shape := ⟨2, ![1024, 256]⟩
abbrev S6x1x256 : Shape := ⟨3, ![6, 1, 256]⟩
abbrev S6x97x256 : Shape := ⟨3, ![6, 97, 256]⟩
abbrev S6x98x256 : Shape := ⟨3, ![6, 98, 256]⟩
abbrev S1x1x256 : Shape := ⟨3, ![1, 1, 256]⟩
abbrev S3x3x3x64x64 : Shape := ⟨5, ![3, 3, 3, 64, 64]⟩
abbrev S3x3x4x64x2x64 : Shape := ⟨6, ![3, 3, 4, 64, 2, 64]⟩
abbrev S3x3x1x64x64 : Shape := ⟨5, ![3, 3, 1, 64, 64]⟩
abbrev S3x3x64x64 : Shape := ⟨4, ![3, 3, 64, 64]⟩
abbrev S9x256x128 : Shape := ⟨3, ![9, 256, 128]⟩
abbrev S2x64 : Shape := ⟨2, ![2, 64]⟩
abbrev S102x96x128 : Shape := ⟨3, ![102, 96, 128]⟩
abbrev S6x96x128 : Shape := ⟨3, ![6, 96, 128]⟩
abbrev S18x96x256 : Shape := ⟨3, ![18, 96, 256]⟩
abbrev S1x256x128 : Shape := ⟨3, ![1, 256, 128]⟩
abbrev S6x1x128 : Shape := ⟨3, ![6, 1, 128]⟩
abbrev S6x97x128 : Shape := ⟨3, ![6, 97, 128]⟩
abbrev S6x98x128 : Shape := ⟨3, ![6, 98, 128]⟩
abbrev S1x1x128 : Shape := ⟨3, ![1, 1, 128]⟩
abbrev S3x3x128x128 : Shape := ⟨4, ![3, 3, 128, 128]⟩
abbrev S128x1 : Shape := ⟨2, ![128, 1]⟩
abbrev S9x128x128 : Shape := ⟨3, ![9, 128, 128]⟩
abbrev S2x128 : Shape := ⟨2, ![2, 128]⟩
abbrev S128x2 : Shape := ⟨2, ![128, 2]⟩
abbrev S14x128 : Shape := ⟨2, ![14, 128]⟩
abbrev S128x14 : Shape := ⟨2, ![128, 14]⟩
abbrev S4x128 : Shape := ⟨2, ![4, 128]⟩
abbrev S128x4 : Shape := ⟨2, ![128, 4]⟩
abbrev S128x20 : Shape := ⟨2, ![128, 20]⟩
abbrev S20 : Shape := ⟨1, ![20]⟩
abbrev S102x96x20 : Shape := ⟨3, ![102, 96, 20]⟩
abbrev S6x96x20 : Shape := ⟨3, ![6, 96, 20]⟩
abbrev S18x96x128 : Shape := ⟨3, ![18, 96, 128]⟩
abbrev S1x128x128 : Shape := ⟨3, ![1, 128, 128]⟩
abbrev S576x128 : Shape := ⟨2, ![576, 128]⟩
abbrev S576x20 : Shape := ⟨2, ![576, 20]⟩
abbrev S1x20 : Shape := ⟨2, ![1, 20]⟩
abbrev S100x88x20 : Shape := ⟨3, ![100, 88, 20]⟩
abbrev S20x100x88 : Shape := ⟨3, ![20, 100, 88]⟩
abbrev S1x20x100x88 : Shape := ⟨4, ![1, 20, 100, 88]⟩
abbrev S1x2x100x88 : Shape := ⟨4, ![1, 2, 100, 88]⟩
abbrev S1x14x100x88 : Shape := ⟨4, ![1, 14, 100, 88]⟩
abbrev S1x4x100x88 : Shape := ⟨4, ![1, 4, 100, 88]⟩

abbrev nBuf : Space → Nat
  | .hbm => 281
  | .vmem => 44
  | .smem => 0
  | _ => 0

abbrev hbmTy0_0 (i : Nat) : BufTy := match i % 128 with
  | 0 => ⟨S12000x35x7, .f32⟩
  | 1 => ⟨S12000x4, .i32⟩
  | 2 => ⟨S7x16, .f32⟩
  | 3 => ⟨S16, .f32⟩
  | 4 => ⟨S32x64, .f32⟩
  | 5 => ⟨S64, .f32⟩
  | 6 => ⟨S128x128, .f32⟩
  | 7 => ⟨S128, .f32⟩
  | 8 => ⟨S64x128x3x3x3, .f32⟩
  | 9 => ⟨S64, .f32⟩
  | 10 => ⟨S64x64x3x3x3, .f32⟩
  | 11 => ⟨S64, .f32⟩
  | 12 => ⟨S128x128x3x3, .f32⟩
  | 13 => ⟨S128, .f32⟩
  | 14 => ⟨S2x128x1x1, .f32⟩
  | 15 => ⟨S2, .f32⟩
  | 16 => ⟨S14x128x1x1, .f32⟩
  | 17 => ⟨S14, .f32⟩
  | 18 => ⟨S4x128x1x1, .f32⟩
  | 19 => ⟨S4, .f32⟩
  | 20 => ⟨S128, .i32⟩
  | 21 => ⟨S12000x1x7, .f32⟩
  | 22 => ⟨S12000x5x7, .f32⟩
  | 23 => ⟨S12000x40x7, .f32⟩
  | 24 => ⟨S_, .i32⟩
  | 25 => ⟨S_, .f32⟩
  | 26 => ⟨S12288x40x7, .f32⟩
  | 27 => ⟨S16x64, .f32⟩
  | 28 => ⟨S16x64, .f32⟩
  | 29 => ⟨S64x128, .f32⟩
  | 30 => ⟨S64x128, .f32⟩
  | 31 => ⟨S12288x128, .f32⟩
  | 32 => ⟨S12288, .i32⟩
  | 33 => ⟨S12000x1, .i32⟩
  | 34 => ⟨S12000, .i32⟩
  | 35 => ⟨S_, .i32⟩
  | 36 => ⟨S_, .i32⟩
  | 37 => ⟨S12288, .i32⟩
  | 38 => ⟨S12000x1, .i32⟩
  | 39 => ⟨S12000, .i32⟩
  | 40 => ⟨S_, .i32⟩
  | 41 => ⟨S_, .i32⟩
  | 42 => ⟨S12288, .i32⟩
  | 43 => ⟨S12000x1, .i32⟩
  | 44 => ⟨S12000, .i32⟩
  | 45 => ⟨S_, .i32⟩
  | 46 => ⟨S_, .i32⟩
  | 47 => ⟨S12288, .i32⟩
  | 48 => ⟨S_, .i32⟩
  | 49 => ⟨S12288, .i32⟩
  | 50 => ⟨S12288, .i1⟩
  | 51 => ⟨S_, .i32⟩
  | 52 => ⟨S12288, .i32⟩
  | 53 => ⟨S12288, .i32⟩
  | 54 => ⟨S_, .i32⟩
  | 55 => ⟨S12288, .i32⟩
  | 56 => ⟨S12288, .i32⟩
  | 57 => ⟨S_, .i32⟩
  | 58 => ⟨S12288, .i32⟩
  | 59 => ⟨S12288, .i32⟩
  | 60 => ⟨S12288, .i32⟩
  | 61 => ⟨S_, .i32⟩
  | 62 => ⟨S12288, .i32⟩
  | 63 => ⟨S12288, .i32⟩
  | 64 => ⟨S12288, .i32⟩
  | 65 => ⟨S_, .i32⟩
  | 66 => ⟨S_, .i32⟩
  | 67 => ⟨S12288, .i32⟩
  | 68 => ⟨S12288, .i32⟩
  | 69 => ⟨S_, .i32⟩
  | 70 => ⟨S78464, .i32⟩
  | 71 => ⟨S_, .i32⟩
  | 72 => ⟨S12288, .i32⟩
  | 73 => ⟨S12288, .i32⟩
  | 74 => ⟨S_, .i32⟩
  | 75 => ⟨S12288, .i32⟩
  | 76 => ⟨S12288, .i1⟩
  | 77 => ⟨S_, .i32⟩
  | 78 => ⟨S12288, .i32⟩
  | 79 => ⟨S12288, .i32⟩
  | 80 => ⟨S12288, .i32⟩
  | 81 => ⟨S12288x1, .i32⟩
  | 82 => ⟨S78464, .i32⟩
  | 83 => ⟨S_, .i32⟩
  | 84 => ⟨S12288, .i32⟩
  | 85 => ⟨S12288, .i1⟩
  | 86 => ⟨S_, .i32⟩
  | 87 => ⟨S12288, .i32⟩
  | 88 => ⟨S12288, .i32⟩
  | 89 => ⟨S12288, .i32⟩
  | 90 => ⟨S12288x1, .i32⟩
  | 91 => ⟨S12288, .i32⟩
  | 92 => ⟨S_, .i32⟩
  | 93 => ⟨S12288, .i32⟩
  | 94 => ⟨S12288, .i32⟩
  | 95 => ⟨S12288, .i1⟩
  | 96 => ⟨S_, .i32⟩
  | 97 => ⟨S_, .i32⟩
  | 98 => ⟨S12288, .i32⟩
  | 99 => ⟨S12288, .i32⟩
  | 100 => ⟨S_, .f32⟩
  | 101 => ⟨S78464x128, .f32⟩
  | 102 => ⟨S_, .i32⟩
  | 103 => ⟨S12288, .i32⟩
  | 104 => ⟨S12288, .i1⟩
  | 105 => ⟨S_, .i32⟩
  | 106 => ⟨S12288, .i32⟩
  | 107 => ⟨S12288, .i32⟩
  | 108 => ⟨S12288, .i32⟩
  | 109 => ⟨S12288x1, .i32⟩
  | 110 => ⟨S78464x128, .f32⟩
  | 111 => ⟨S3x3x3x128x64, .f32⟩
  | 112 => ⟨S_, .f32⟩
  | 113 => ⟨S3x3x8x128x4x64, .f32⟩
  | 114 => ⟨S3x3x1x128x64, .f32⟩
  | 115 => ⟨S3x3x128x64, .f32⟩
  | 116 => ⟨S_, .i32⟩
  | 117 => ⟨S1, .i32⟩
  | 118 => ⟨S_, .i32⟩
  | 119 => ⟨S1, .i32⟩
  | 120 => ⟨S2, .i32⟩
  | 121 => ⟨S3x3x8x128x4x64, .f32⟩
  | 122 => ⟨S3x3x1x128x64, .f32⟩
  | 123 => ⟨S3x3x128x64, .f32⟩
  | 124 => ⟨S_, .i32⟩
  | 125 => ⟨S1, .i32⟩
  | 126 => ⟨S_, .i32⟩
  | 127 => ⟨S1, .i32⟩
  | _ => ⟨S12000x35x7, .f32⟩

abbrev hbmTy0_1 (i : Nat) : BufTy := match i % 128 with
  | 0 => ⟨S2, .i32⟩
  | 1 => ⟨S3x3x8x128x4x64, .f32⟩
  | 2 => ⟨S3x3x1x128x64, .f32⟩
  | 3 => ⟨S3x3x128x64, .f32⟩
  | 4 => ⟨S_, .i32⟩
  | 5 => ⟨S1, .i32⟩
  | 6 => ⟨S_, .i32⟩
  | 7 => ⟨S1, .i32⟩
  | 8 => ⟨S2, .i32⟩
  | 9 => ⟨S3x3x8x128x4x64, .f32⟩
  | 10 => ⟨S3x3x1x128x64, .f32⟩
  | 11 => ⟨S3x3x128x64, .f32⟩
  | 12 => ⟨S_, .i32⟩
  | 13 => ⟨S1, .i32⟩
  | 14 => ⟨S_, .i32⟩
  | 15 => ⟨S1, .i32⟩
  | 16 => ⟨S2, .i32⟩
  | 17 => ⟨S3x3x8x128x4x64, .f32⟩
  | 18 => ⟨S3x3x1x128x64, .f32⟩
  | 19 => ⟨S3x3x128x64, .f32⟩
  | 20 => ⟨S_, .i32⟩
  | 21 => ⟨S1, .i32⟩
  | 22 => ⟨S_, .i32⟩
  | 23 => ⟨S1, .i32⟩
  | 24 => ⟨S2, .i32⟩
  | 25 => ⟨S3x3x8x128x4x64, .f32⟩
  | 26 => ⟨S3x3x1x128x64, .f32⟩
  | 27 => ⟨S3x3x128x64, .f32⟩
  | 28 => ⟨S_, .i32⟩
  | 29 => ⟨S1, .i32⟩
  | 30 => ⟨S_, .i32⟩
  | 31 => ⟨S1, .i32⟩
  | 32 => ⟨S2, .i32⟩
  | 33 => ⟨S3x3x8x128x4x64, .f32⟩
  | 34 => ⟨S3x3x1x128x64, .f32⟩
  | 35 => ⟨S3x3x128x64, .f32⟩
  | 36 => ⟨S_, .i32⟩
  | 37 => ⟨S1, .i32⟩
  | 38 => ⟨S_, .i32⟩
  | 39 => ⟨S1, .i32⟩
  | 40 => ⟨S2, .i32⟩
  | 41 => ⟨S3x3x8x128x4x64, .f32⟩
  | 42 => ⟨S3x3x1x128x64, .f32⟩
  | 43 => ⟨S3x3x128x64, .f32⟩
  | 44 => ⟨S_, .i32⟩
  | 45 => ⟨S1, .i32⟩
  | 46 => ⟨S_, .i32⟩
  | 47 => ⟨S1, .i32⟩
  | 48 => ⟨S2, .i32⟩
  | 49 => ⟨S3x3x8x128x4x64, .f32⟩
  | 50 => ⟨S3x3x1x128x64, .f32⟩
  | 51 => ⟨S3x3x128x64, .f32⟩
  | 52 => ⟨S_, .i32⟩
  | 53 => ⟨S1, .i32⟩
  | 54 => ⟨S_, .i32⟩
  | 55 => ⟨S1, .i32⟩
  | 56 => ⟨S2, .i32⟩
  | 57 => ⟨S3x3x8x128x4x64, .f32⟩
  | 58 => ⟨S3x3x1x128x64, .f32⟩
  | 59 => ⟨S3x3x128x64, .f32⟩
  | 60 => ⟨S_, .i32⟩
  | 61 => ⟨S1, .i32⟩
  | 62 => ⟨S_, .i32⟩
  | 63 => ⟨S1, .i32⟩
  | 64 => ⟨S2, .i32⟩
  | 65 => ⟨S3x3x8x128x4x64, .f32⟩
  | 66 => ⟨S3x3x1x128x64, .f32⟩
  | 67 => ⟨S3x3x128x64, .f32⟩
  | 68 => ⟨S_, .i32⟩
  | 69 => ⟨S1, .i32⟩
  | 70 => ⟨S_, .i32⟩
  | 71 => ⟨S1, .i32⟩
  | 72 => ⟨S2, .i32⟩
  | 73 => ⟨S3x3x8x128x4x64, .f32⟩
  | 74 => ⟨S9x1024x256, .f32⟩
  | 75 => ⟨S1x64, .f32⟩
  | 76 => ⟨S4x64, .f32⟩
  | 77 => ⟨S256, .f32⟩
  | 78 => ⟨S102x96x256, .f32⟩
  | 79 => ⟨S3x3x3x64x64, .f32⟩
  | 80 => ⟨S_, .f32⟩
  | 81 => ⟨S3x3x4x64x2x64, .f32⟩
  | 82 => ⟨S3x3x1x64x64, .f32⟩
  | 83 => ⟨S3x3x64x64, .f32⟩
  | 84 => ⟨S_, .i32⟩
  | 85 => ⟨S1, .i32⟩
  | 86 => ⟨S_, .i32⟩
  | 87 => ⟨S1, .i32⟩
  | 88 => ⟨S2, .i32⟩
  | 89 => ⟨S3x3x4x64x2x64, .f32⟩
  | 90 => ⟨S3x3x1x64x64, .f32⟩
  | 91 => ⟨S3x3x64x64, .f32⟩
  | 92 => ⟨S_, .i32⟩
  | 93 => ⟨S1, .i32⟩
  | 94 => ⟨S_, .i32⟩
  | 95 => ⟨S1, .i32⟩
  | 96 => ⟨S2, .i32⟩
  | 97 => ⟨S3x3x4x64x2x64, .f32⟩
  | 98 => ⟨S3x3x1x64x64, .f32⟩
  | 99 => ⟨S3x3x64x64, .f32⟩
  | 100 => ⟨S_, .i32⟩
  | 101 => ⟨S1, .i32⟩
  | 102 => ⟨S_, .i32⟩
  | 103 => ⟨S1, .i32⟩
  | 104 => ⟨S2, .i32⟩
  | 105 => ⟨S3x3x4x64x2x64, .f32⟩
  | 106 => ⟨S3x3x1x64x64, .f32⟩
  | 107 => ⟨S3x3x64x64, .f32⟩
  | 108 => ⟨S_, .i32⟩
  | 109 => ⟨S1, .i32⟩
  | 110 => ⟨S_, .i32⟩
  | 111 => ⟨S1, .i32⟩
  | 112 => ⟨S2, .i32⟩
  | 113 => ⟨S3x3x4x64x2x64, .f32⟩
  | 114 => ⟨S3x3x1x64x64, .f32⟩
  | 115 => ⟨S3x3x64x64, .f32⟩
  | 116 => ⟨S_, .i32⟩
  | 117 => ⟨S1, .i32⟩
  | 118 => ⟨S_, .i32⟩
  | 119 => ⟨S1, .i32⟩
  | 120 => ⟨S2, .i32⟩
  | 121 => ⟨S3x3x4x64x2x64, .f32⟩
  | 122 => ⟨S9x256x128, .f32⟩
  | 123 => ⟨S1x64, .f32⟩
  | 124 => ⟨S2x64, .f32⟩
  | 125 => ⟨S128, .f32⟩
  | 126 => ⟨S102x96x128, .f32⟩
  | 127 => ⟨S3x3x128x128, .f32⟩
  | _ => ⟨S12000x35x7, .f32⟩

abbrev hbmTy0_2 (i : Nat) : BufTy := match i % 128 with
  | 0 => ⟨S_, .i32⟩
  | 1 => ⟨S128, .i32⟩
  | 2 => ⟨S128, .i1⟩
  | 3 => ⟨S_, .i32⟩
  | 4 => ⟨S128, .i32⟩
  | 5 => ⟨S128, .i32⟩
  | 6 => ⟨S128, .i32⟩
  | 7 => ⟨S128x1, .i32⟩
  | 8 => ⟨S3x3x128x128, .f32⟩
  | 9 => ⟨S9x128x128, .f32⟩
  | 10 => ⟨S2x128, .f32⟩
  | 11 => ⟨S128x2, .f32⟩
  | 12 => ⟨S14x128, .f32⟩
  | 13 => ⟨S128x14, .f32⟩
  | 14 => ⟨S4x128, .f32⟩
  | 15 => ⟨S128x4, .f32⟩
  | 16 => ⟨S128x20, .f32⟩
  | 17 => ⟨S20, .f32⟩
  | 18 => ⟨S102x96x20, .f32⟩
  | 19 => ⟨S100x88x20, .f32⟩
  | 20 => ⟨S20x100x88, .f32⟩
  | 21 => ⟨S1x20x100x88, .f32⟩
  | 22 => ⟨S1x2x100x88, .f32⟩
  | 23 => ⟨S1x14x100x88, .f32⟩
  | 24 => ⟨S1x4x100x88, .f32⟩
  | _ => ⟨S12000x35x7, .f32⟩

abbrev hbmTy (i : Nat) : BufTy := match i / 128 with
  | 0 => hbmTy0_0 i
  | 1 => hbmTy0_1 i
  | 2 => hbmTy0_2 i
  | _ => ⟨S12000x35x7, .f32⟩

abbrev bufTy : (tb : Table) → Fin (tcTables nBuf tb) → BufTy
  | .hbm, ⟨i, _⟩ => hbmTy i
  | .local _ .vmem, ⟨0, _⟩ => ⟨S256x40x7, .f32⟩
  | .local _ .vmem, ⟨1, _⟩ => ⟨S256x40x7, .f32⟩
  | .local _ .vmem, ⟨2, _⟩ => ⟨S7x16, .f32⟩
  | .local _ .vmem, ⟨3, _⟩ => ⟨S16, .f32⟩
  | .local _ .vmem, ⟨4, _⟩ => ⟨S16x64, .f32⟩
  | .local _ .vmem, ⟨5, _⟩ => ⟨S16x64, .f32⟩
  | .local _ .vmem, ⟨6, _⟩ => ⟨S64, .f32⟩
  | .local _ .vmem, ⟨7, _⟩ => ⟨S64x128, .f32⟩
  | .local _ .vmem, ⟨8, _⟩ => ⟨S64x128, .f32⟩
  | .local _ .vmem, ⟨9, _⟩ => ⟨S128, .f32⟩
  | .local _ .vmem, ⟨10, _⟩ => ⟨S256x128, .f32⟩
  | .local _ .vmem, ⟨11, _⟩ => ⟨S256x128, .f32⟩
  | .local _ .vmem, ⟨12, _⟩ => ⟨S4608x128, .f32⟩
  | .local _ .vmem, ⟨13, _⟩ => ⟨S4608x128, .f32⟩
  | .local _ .vmem, ⟨14, _⟩ => ⟨S4608x128, .f32⟩
  | .local _ .vmem, ⟨15, _⟩ => ⟨S4608x128, .f32⟩
  | .local _ .vmem, ⟨16, _⟩ => ⟨S4608x128, .f32⟩
  | .local _ .vmem, ⟨17, _⟩ => ⟨S4608x128, .f32⟩
  | .local _ .vmem, ⟨18, _⟩ => ⟨S9x1024x256, .f32⟩
  | .local _ .vmem, ⟨19, _⟩ => ⟨S256, .f32⟩
  | .local _ .vmem, ⟨20, _⟩ => ⟨S6x96x256, .f32⟩
  | .local _ .vmem, ⟨21, _⟩ => ⟨S6x96x256, .f32⟩
  | .local _ .vmem, ⟨22, _⟩ => ⟨S6x96x256, .f32⟩
  | .local _ .vmem, ⟨23, _⟩ => ⟨S6x96x256, .f32⟩
  | .local _ .vmem, ⟨24, _⟩ => ⟨S6x96x256, .f32⟩
  | .local _ .vmem, ⟨25, _⟩ => ⟨S6x96x256, .f32⟩
  | .local _ .vmem, ⟨26, _⟩ => ⟨S6x96x256, .f32⟩
  | .local _ .vmem, ⟨27, _⟩ => ⟨S6x96x256, .f32⟩
  | .local _ .vmem, ⟨28, _⟩ => ⟨S9x256x128, .f32⟩
  | .local _ .vmem, ⟨29, _⟩ => ⟨S128, .f32⟩
  | .local _ .vmem, ⟨30, _⟩ => ⟨S6x96x128, .f32⟩
  | .local _ .vmem, ⟨31, _⟩ => ⟨S6x96x128, .f32⟩
  | .local _ .vmem, ⟨32, _⟩ => ⟨S6x96x128, .f32⟩
  | .local _ .vmem, ⟨33, _⟩ => ⟨S6x96x128, .f32⟩
  | .local _ .vmem, ⟨34, _⟩ => ⟨S6x96x128, .f32⟩
  | .local _ .vmem, ⟨35, _⟩ => ⟨S6x96x128, .f32⟩
  | .local _ .vmem, ⟨36, _⟩ => ⟨S6x96x128, .f32⟩
  | .local _ .vmem, ⟨37, _⟩ => ⟨S6x96x128, .f32⟩
  | .local _ .vmem, ⟨38, _⟩ => ⟨S9x128x128, .f32⟩
  | .local _ .vmem, ⟨39, _⟩ => ⟨S128, .f32⟩
  | .local _ .vmem, ⟨40, _⟩ => ⟨S128x20, .f32⟩
  | .local _ .vmem, ⟨41, _⟩ => ⟨S20, .f32⟩
  | .local _ .vmem, ⟨42, _⟩ => ⟨S6x96x20, .f32⟩
  | .local _ .vmem, ⟨43, _⟩ => ⟨S6x96x20, .f32⟩
  | _, _ => ⟨S12000x35x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_c_0 : Ref sig .tc := ⟨.hbm, 24, rfl⟩
abbrev main_call0_v0 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_c_1 : Ref sig .tc := ⟨.hbm, 35, rfl⟩
abbrev main_call1_v0 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_c_2 : Ref sig .tc := ⟨.hbm, 40, rfl⟩
abbrev main_call2_v0 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_c_3 : Ref sig .tc := ⟨.hbm, 45, rfl⟩
abbrev main_call3_v0 : Ref sig .tc := ⟨.hbm, 46, rfl⟩
abbrev main_v18 : Ref sig .tc := ⟨.hbm, 47, rfl⟩
abbrev main_c_4 : Ref sig .tc := ⟨.hbm, 48, rfl⟩
abbrev main_v19 : Ref sig .tc := ⟨.hbm, 49, rfl⟩
abbrev main_v20 : Ref sig .tc := ⟨.hbm, 50, rfl⟩
abbrev main_c_5 : Ref sig .tc := ⟨.hbm, 51, rfl⟩
abbrev main_v21 : Ref sig .tc := ⟨.hbm, 52, rfl⟩
abbrev main_v22 : Ref sig .tc := ⟨.hbm, 53, rfl⟩
abbrev main_c_6 : Ref sig .tc := ⟨.hbm, 54, rfl⟩
abbrev main_v23 : Ref sig .tc := ⟨.hbm, 55, rfl⟩
abbrev main_v24 : Ref sig .tc := ⟨.hbm, 56, rfl⟩
abbrev main_c_7 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_c_8 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_c_9 : Ref sig .tc := ⟨.hbm, 65, rfl⟩
abbrev main_call4_v0 : Ref sig .tc := ⟨.hbm, 66, rfl⟩
abbrev main_call4_v1 : Ref sig .tc := ⟨.hbm, 67, rfl⟩
abbrev main_v31 : Ref sig .tc := ⟨.hbm, 68, rfl⟩
abbrev main_c_10 : Ref sig .tc := ⟨.hbm, 69, rfl⟩
abbrev main_v32 : Ref sig .tc := ⟨.hbm, 70, rfl⟩
abbrev main_c_11 : Ref sig .tc := ⟨.hbm, 71, rfl⟩
abbrev main_v33 : Ref sig .tc := ⟨.hbm, 72, rfl⟩
abbrev main_v34 : Ref sig .tc := ⟨.hbm, 73, rfl⟩
abbrev main_c_12 : Ref sig .tc := ⟨.hbm, 74, rfl⟩
abbrev main_v35 : Ref sig .tc := ⟨.hbm, 75, rfl⟩
abbrev main_v36 : Ref sig .tc := ⟨.hbm, 76, rfl⟩
abbrev main_c_13 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_c_14 : Ref sig .tc := ⟨.hbm, 83, rfl⟩
abbrev main_v42 : Ref sig .tc := ⟨.hbm, 84, rfl⟩
abbrev main_v43 : Ref sig .tc := ⟨.hbm, 85, rfl⟩
abbrev main_c_15 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_c_16 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_c_17 : Ref sig .tc := ⟨.hbm, 96, rfl⟩
abbrev main_call5_v0 : Ref sig .tc := ⟨.hbm, 97, rfl⟩
abbrev main_call5_v1 : Ref sig .tc := ⟨.hbm, 98, rfl⟩
abbrev main_v52 : Ref sig .tc := ⟨.hbm, 99, rfl⟩
abbrev main_cst : Ref sig .tc := ⟨.hbm, 100, rfl⟩
abbrev main_v53 : Ref sig .tc := ⟨.hbm, 101, rfl⟩
abbrev main_c_18 : Ref sig .tc := ⟨.hbm, 102, rfl⟩
abbrev main_v54 : Ref sig .tc := ⟨.hbm, 103, rfl⟩
abbrev main_v55 : Ref sig .tc := ⟨.hbm, 104, rfl⟩
abbrev main_c_19 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_cst_20 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_c_21 : Ref sig .tc := ⟨.hbm, 116, rfl⟩
abbrev main_v65 : Ref sig .tc := ⟨.hbm, 117, rfl⟩
abbrev main_c_22 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_c_23 : Ref sig .tc := ⟨.hbm, 124, rfl⟩
abbrev main_v71 : Ref sig .tc := ⟨.hbm, 125, rfl⟩
abbrev main_c_24 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_c_25 : Ref sig .tc := ⟨.hbm, 132, rfl⟩
abbrev main_v77 : Ref sig .tc := ⟨.hbm, 133, rfl⟩
abbrev main_c_26 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_c_27 : Ref sig .tc := ⟨.hbm, 140, rfl⟩
abbrev main_v83 : Ref sig .tc := ⟨.hbm, 141, rfl⟩
abbrev main_c_28 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_c_29 : Ref sig .tc := ⟨.hbm, 148, rfl⟩
abbrev main_v89 : Ref sig .tc := ⟨.hbm, 149, rfl⟩
abbrev main_c_30 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_c_31 : Ref sig .tc := ⟨.hbm, 156, rfl⟩
abbrev main_v95 : Ref sig .tc := ⟨.hbm, 157, rfl⟩
abbrev main_c_32 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_c_33 : Ref sig .tc := ⟨.hbm, 164, rfl⟩
abbrev main_v101 : Ref sig .tc := ⟨.hbm, 165, rfl⟩
abbrev main_c_34 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_c_35 : Ref sig .tc := ⟨.hbm, 172, rfl⟩
abbrev main_v107 : Ref sig .tc := ⟨.hbm, 173, rfl⟩
abbrev main_c_36 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_c_37 : Ref sig .tc := ⟨.hbm, 180, rfl⟩
abbrev main_v113 : Ref sig .tc := ⟨.hbm, 181, rfl⟩
abbrev main_c_38 : Ref sig .tc := ⟨.hbm, 182, rfl⟩
abbrev main_v114 : Ref sig .tc := ⟨.hbm, 183, rfl⟩
abbrev main_v115 : Ref sig .tc := ⟨.hbm, 184, rfl⟩
abbrev main_v116 : Ref sig .tc := ⟨.hbm, 185, rfl⟩
abbrev main_v117 : Ref sig .tc := ⟨.hbm, 186, rfl⟩
abbrev main_v118 : Ref sig .tc := ⟨.hbm, 187, rfl⟩
abbrev main_c_39 : Ref sig .tc := ⟨.hbm, 188, rfl⟩
abbrev main_v119 : Ref sig .tc := ⟨.hbm, 189, rfl⟩
abbrev main_c_40 : Ref sig .tc := ⟨.hbm, 190, rfl⟩
abbrev main_v120 : Ref sig .tc := ⟨.hbm, 191, rfl⟩
abbrev main_v121 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_c_41 : Ref sig .tc := ⟨.hbm, 196, rfl⟩
abbrev main_v125 : Ref sig .tc := ⟨.hbm, 197, rfl⟩
abbrev main_c_42 : Ref sig .tc := ⟨.hbm, 198, rfl⟩
abbrev main_v126 : Ref sig .tc := ⟨.hbm, 199, rfl⟩
abbrev main_v127 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_v134 : Ref sig .tc := ⟨.hbm, 207, rfl⟩
abbrev main_cst_43 : Ref sig .tc := ⟨.hbm, 208, rfl⟩
abbrev main_v135 : Ref sig .tc := ⟨.hbm, 209, rfl⟩
abbrev main_v136 : Ref sig .tc := ⟨.hbm, 210, rfl⟩
abbrev main_v137 : Ref sig .tc := ⟨.hbm, 211, rfl⟩
abbrev main_c_44 : Ref sig .tc := ⟨.hbm, 212, rfl⟩
abbrev main_v138 : Ref sig .tc := ⟨.hbm, 213, rfl⟩
abbrev main_c_45 : Ref sig .tc := ⟨.hbm, 214, rfl⟩
abbrev main_v139 : Ref sig .tc := ⟨.hbm, 215, rfl⟩
abbrev main_v140 : Ref sig .tc := ⟨.hbm, 216, rfl⟩
abbrev main_v141 : Ref sig .tc := ⟨.hbm, 217, rfl⟩
abbrev main_v142 : Ref sig .tc := ⟨.hbm, 218, rfl⟩
abbrev main_v143 : Ref sig .tc := ⟨.hbm, 219, rfl⟩
abbrev main_c_46 : Ref sig .tc := ⟨.hbm, 220, rfl⟩
abbrev main_v144 : Ref sig .tc := ⟨.hbm, 221, rfl⟩
abbrev main_c_47 : Ref sig .tc := ⟨.hbm, 222, rfl⟩
abbrev main_v145 : Ref sig .tc := ⟨.hbm, 223, rfl⟩
abbrev main_v146 : Ref sig .tc := ⟨.hbm, 224, rfl⟩
abbrev main_v147 : Ref sig .tc := ⟨.hbm, 225, rfl⟩
abbrev main_v148 : Ref sig .tc := ⟨.hbm, 226, rfl⟩
abbrev main_v149 : Ref sig .tc := ⟨.hbm, 227, rfl⟩
abbrev main_c_48 : Ref sig .tc := ⟨.hbm, 228, rfl⟩
abbrev main_v150 : Ref sig .tc := ⟨.hbm, 229, rfl⟩
abbrev main_c_49 : Ref sig .tc := ⟨.hbm, 230, rfl⟩
abbrev main_v151 : Ref sig .tc := ⟨.hbm, 231, rfl⟩
abbrev main_v152 : Ref sig .tc := ⟨.hbm, 232, rfl⟩
abbrev main_v153 : Ref sig .tc := ⟨.hbm, 233, rfl⟩
abbrev main_v154 : Ref sig .tc := ⟨.hbm, 234, rfl⟩
abbrev main_v155 : Ref sig .tc := ⟨.hbm, 235, rfl⟩
abbrev main_c_50 : Ref sig .tc := ⟨.hbm, 236, rfl⟩
abbrev main_v156 : Ref sig .tc := ⟨.hbm, 237, rfl⟩
abbrev main_c_51 : Ref sig .tc := ⟨.hbm, 238, rfl⟩
abbrev main_v157 : Ref sig .tc := ⟨.hbm, 239, rfl⟩
abbrev main_v158 : Ref sig .tc := ⟨.hbm, 240, rfl⟩
abbrev main_v159 : Ref sig .tc := ⟨.hbm, 241, rfl⟩
abbrev main_v160 : Ref sig .tc := ⟨.hbm, 242, rfl⟩
abbrev main_v161 : Ref sig .tc := ⟨.hbm, 243, rfl⟩
abbrev main_c_52 : Ref sig .tc := ⟨.hbm, 244, rfl⟩
abbrev main_v162 : Ref sig .tc := ⟨.hbm, 245, rfl⟩
abbrev main_c_53 : Ref sig .tc := ⟨.hbm, 246, rfl⟩
abbrev main_v163 : Ref sig .tc := ⟨.hbm, 247, rfl⟩
abbrev main_v164 : Ref sig .tc := ⟨.hbm, 248, rfl⟩
abbrev main_v165 : Ref sig .tc := ⟨.hbm, 249, rfl⟩
abbrev main_v166 : Ref sig .tc := ⟨.hbm, 250, rfl⟩
abbrev main_v167 : Ref sig .tc := ⟨.hbm, 251, rfl⟩
abbrev main_v168 : Ref sig .tc := ⟨.hbm, 252, rfl⟩
abbrev main_v169 : Ref sig .tc := ⟨.hbm, 253, rfl⟩
abbrev main_v170 : Ref sig .tc := ⟨.hbm, 254, rfl⟩
abbrev main_v171 : Ref sig .tc := ⟨.hbm, 255, rfl⟩
abbrev main_c_54 : Ref sig .tc := ⟨.hbm, 256, rfl⟩
abbrev main_v172 : Ref sig .tc := ⟨.hbm, 257, rfl⟩
abbrev main_v173 : Ref sig .tc := ⟨.hbm, 258, rfl⟩
abbrev main_c_55 : Ref sig .tc := ⟨.hbm, 259, rfl⟩
abbrev main_v174 : Ref sig .tc := ⟨.hbm, 260, rfl⟩
abbrev main_v175 : Ref sig .tc := ⟨.hbm, 261, rfl⟩
abbrev main_v176 : Ref sig .tc := ⟨.hbm, 262, rfl⟩
abbrev main_v177 : Ref sig .tc := ⟨.hbm, 263, rfl⟩
abbrev main_v178 : Ref sig .tc := ⟨.hbm, 264, rfl⟩
abbrev main_v179 : Ref sig .tc := ⟨.hbm, 265, rfl⟩
abbrev main_v180 : Ref sig .tc := ⟨.hbm, 266, rfl⟩
abbrev main_v181 : Ref sig .tc := ⟨.hbm, 267, rfl⟩
abbrev main_v182 : Ref sig .tc := ⟨.hbm, 268, rfl⟩
abbrev main_v183 : Ref sig .tc := ⟨.hbm, 269, rfl⟩
abbrev main_v184 : Ref sig .tc := ⟨.hbm, 270, rfl⟩
abbrev main_v185 : Ref sig .tc := ⟨.hbm, 271, rfl⟩
abbrev main_v186 : Ref sig .tc := ⟨.hbm, 272, rfl⟩
abbrev main_v187 : Ref sig .tc := ⟨.hbm, 273, rfl⟩
abbrev main_v188 : Ref sig .tc := ⟨.hbm, 274, rfl⟩
abbrev main_v189 : Ref sig .tc := ⟨.hbm, 275, rfl⟩
abbrev main_v190 : Ref sig .tc := ⟨.hbm, 276, rfl⟩
abbrev main_v191 : Ref sig .tc := ⟨.hbm, 277, rfl⟩
abbrev main_v192 : Ref sig .tc := ⟨.hbm, 278, rfl⟩
abbrev main_v193 : Ref sig .tc := ⟨.hbm, 279, rfl⟩
abbrev main_v194 : Ref sig .tc := ⟨.hbm, 280, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg5_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg2_1 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg6_0 : Ref sig .tc := ⟨.vmem, 41, rfl⟩
abbrev cc3_stg7_0 : Ref sig .tc := ⟨.vmem, 42, rfl⟩
abbrev cc3_stg7_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem5_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem5_1 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem2_1 : DmaSem sig := 37
abbrev cc3_sem3_0 : DmaSem sig := 38
abbrev cc3_sem4_0 : DmaSem sig := 39
abbrev cc3_sem5_0 : DmaSem sig := 40
abbrev cc3_sem6_0 : DmaSem sig := 41
abbrev cc3_sem7_0 : DmaSem sig := 42
abbrev cc3_sem7_1 : DmaSem sig := 43

abbrev nD : Nat := 1
abbrev τ : Topo := Topo.v7x

variable {F : FTy → Type} [FloatOps F]

abbrev grid0 : Pipeline.Grid := ⟨1, ![48], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x40x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![17], ![false]⟩

def cc1_transform_0 (i : grid1.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.minsi v0 c16_i32
  let c0_i32 : BitVec 32 := 0#32
  let c0_i32_0 : BitVec 32 := 0#32
  ![v1.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4608x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4608x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4608x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S9x1024x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S6x96x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![17], ![false]⟩

def cc2_transform_0 (i : grid2.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.minsi v0 c16_i32
  let c0_i32 : BitVec 32 := 0#32
  let c0_i32_0 : BitVec 32 := 0#32
  let c0_i32_1 : BitVec 32 := 0#32
  ![v1.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S6x96x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6x96x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S6x96x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S9x256x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S6x96x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![17], ![false]⟩

def cc3_transform_0 (i : grid3.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.minsi v0 c16_i32
  let c0_i32 : BitVec 32 := 0#32
  let c0_i32_0 : BitVec 32 := 0#32
  let c0_i32_1 : BitVec 32 := 0#32
  ![v1.toNat, c0_i32.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S6x96x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S6x96x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S6x96x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S9x128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x20 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S20 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S6x96x20 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]
-- ==== ReferenceIdeal.lean ====
abbrev S12000x35x7 : Shape := ⟨3, ![12000, 35, 7]⟩
abbrev S12000x4 : Shape := ⟨2, ![12000, 4]⟩
abbrev S7x16 : Shape := ⟨2, ![7, 16]⟩
abbrev S16 : Shape := ⟨1, ![16]⟩
abbrev S32x64 : Shape := ⟨2, ![32, 64]⟩
abbrev S64 : Shape := ⟨1, ![64]⟩
abbrev S128x128 : Shape := ⟨2, ![128, 128]⟩
abbrev S128 : Shape := ⟨1, ![128]⟩
abbrev S64x128x3x3x3 : Shape := ⟨5, ![64, 128, 3, 3, 3]⟩
abbrev S64x64x3x3x3 : Shape := ⟨5, ![64, 64, 3, 3, 3]⟩
abbrev S128x128x3x3 : Shape := ⟨4, ![128, 128, 3, 3]⟩
abbrev S2x128x1x1 : Shape := ⟨4, ![2, 128, 1, 1]⟩
abbrev S2 : Shape := ⟨1, ![2]⟩
abbrev S14x128x1x1 : Shape := ⟨4, ![14, 128, 1, 1]⟩
abbrev S14 : Shape := ⟨1, ![14]⟩
abbrev S4x128x1x1 : Shape := ⟨4, ![4, 128, 1, 1]⟩
abbrev S4 : Shape := ⟨1, ![4]⟩
abbrev S12000x35x16 : Shape := ⟨3, ![12000, 35, 16]⟩
abbrev S_ : Shape := ⟨0, ![]⟩
abbrev S12000x16 : Shape := ⟨2, ![12000, 16]⟩
abbrev S12000x35x32 : Shape := ⟨3, ![12000, 35, 32]⟩
abbrev S12000x35x64 : Shape := ⟨3, ![12000, 35, 64]⟩
abbrev S12000x64 : Shape := ⟨2, ![12000, 64]⟩
abbrev S12000x35x128 : Shape := ⟨3, ![12000, 35, 128]⟩
abbrev S12000x128 : Shape := ⟨2, ![12000, 128]⟩
abbrev S1x128x8x100x88 : Shape := ⟨5, ![1, 128, 8, 100, 88]⟩
abbrev S128x8x100x88 : Shape := ⟨4, ![128, 8, 100, 88]⟩
abbrev S128x10x102x90 : Shape := ⟨4, ![128, 10, 102, 90]⟩
abbrev S128x10x102x88 : Shape := ⟨4, ![128, 10, 102, 88]⟩
abbrev S384x10x102x88 : Shape := ⟨4, ![384, 10, 102, 88]⟩
abbrev S384x10x100x88 : Shape := ⟨4, ![384, 10, 100, 88]⟩
abbrev S1152x10x100x88 : Shape := ⟨4, ![1152, 10, 100, 88]⟩
abbrev S1152x4x100x88 : Shape := ⟨4, ![1152, 4, 100, 88]⟩
abbrev S3456x4x100x88 : Shape := ⟨4, ![3456, 4, 100, 88]⟩
abbrev S64x3x3x3x128 : Shape := ⟨5, ![64, 3, 3, 3, 128]⟩
abbrev S64x3456 : Shape := ⟨2, ![64, 3456]⟩
abbrev S64x4x100x88 : Shape := ⟨4, ![64, 4, 100, 88]⟩
abbrev S64x6x102x90 : Shape := ⟨4, ![64, 6, 102, 90]⟩
abbrev S64x6x102x88 : Shape := ⟨4, ![64, 6, 102, 88]⟩
abbrev S192x6x102x88 : Shape := ⟨4, ![192, 6, 102, 88]⟩
abbrev S192x6x100x88 : Shape := ⟨4, ![192, 6, 100, 88]⟩
abbrev S576x6x100x88 : Shape := ⟨4, ![576, 6, 100, 88]⟩
abbrev S576x2x100x88 : Shape := ⟨4, ![576, 2, 100, 88]⟩
abbrev S1728x2x100x88 : Shape := ⟨4, ![1728, 2, 100, 88]⟩
abbrev S64x3x3x3x64 : Shape := ⟨5, ![64, 3, 3, 3, 64]⟩
abbrev S64x1728 : Shape := ⟨2, ![64, 1728]⟩
abbrev S64x2x100x88 : Shape := ⟨4, ![64, 2, 100, 88]⟩
abbrev S128x100x88 : Shape := ⟨3, ![128, 100, 88]⟩
abbrev S128x102x90 : Shape := ⟨3, ![128, 102, 90]⟩
abbrev S128x102x88 : Shape := ⟨3, ![128, 102, 88]⟩
abbrev S384x102x88 : Shape := ⟨3, ![384, 102, 88]⟩
abbrev S384x100x88 : Shape := ⟨3, ![384, 100, 88]⟩
abbrev S1152x100x88 : Shape := ⟨3, ![1152, 100, 88]⟩
abbrev S128x3x3x128 : Shape := ⟨4, ![128, 3, 3, 128]⟩
abbrev S128x1152 : Shape := ⟨2, ![128, 1152]⟩
abbrev S1x2x128 : Shape := ⟨3, ![1, 2, 128]⟩
abbrev S1x2x100x88 : Shape := ⟨4, ![1, 2, 100, 88]⟩
abbrev S1x14x128 : Shape := ⟨3, ![1, 14, 128]⟩
abbrev S1x14x100x88 : Shape := ⟨4, ![1, 14, 100, 88]⟩
abbrev S1x4x128 : Shape := ⟨3, ![1, 4, 128]⟩
abbrev S1x4x100x88 : Shape := ⟨4, ![1, 4, 100, 88]⟩

abbrev nBuf : Space → Nat
  | .hbm => 127
  | .vmem => 0
  | .smem => 0
  | _ => 0

abbrev bufTy : (tb : Table) → Fin (tcTables nBuf tb) → BufTy
  | .hbm, ⟨0, _⟩ => ⟨S12000x35x7, .f32⟩
  | .hbm, ⟨1, _⟩ => ⟨S12000x4, .i32⟩
  | .hbm, ⟨2, _⟩ => ⟨S7x16, .f32⟩
  | .hbm, ⟨3, _⟩ => ⟨S16, .f32⟩
  | .hbm, ⟨4, _⟩ => ⟨S32x64, .f32⟩
  | .hbm, ⟨5, _⟩ => ⟨S64, .f32⟩
  | .hbm, ⟨6, _⟩ => ⟨S128x128, .f32⟩
  | .hbm, ⟨7, _⟩ => ⟨S128, .f32⟩
  | .hbm, ⟨8, _⟩ => ⟨S64x128x3x3x3, .f32⟩
  | .hbm, ⟨9, _⟩ => ⟨S64, .f32⟩
  | .hbm, ⟨10, _⟩ => ⟨S64x64x3x3x3, .f32⟩
  | .hbm, ⟨11, _⟩ => ⟨S64, .f32⟩
  | .hbm, ⟨12, _⟩ => ⟨S128x128x3x3, .f32⟩
  | .hbm, ⟨13, _⟩ => ⟨S128, .f32⟩
  | .hbm, ⟨14, _⟩ => ⟨S2x128x1x1, .f32⟩
  | .hbm, ⟨15, _⟩ => ⟨S2, .f32⟩
  | .hbm, ⟨16, _⟩ => ⟨S14x128x1x1, .f32⟩
  | .hbm, ⟨17, _⟩ => ⟨S14, .f32⟩
  | .hbm, ⟨18, _⟩ => ⟨S4x128x1x1, .f32⟩
  | .hbm, ⟨19, _⟩ => ⟨S4, .f32⟩
  | .hbm, ⟨20, _⟩ => ⟨S12000x35x16, .f32⟩
  | .hbm, ⟨21, _⟩ => ⟨S12000x35x16, .f32⟩
  | .hbm, ⟨22, _⟩ => ⟨S12000x35x16, .f32⟩
  | .hbm, ⟨23, _⟩ => ⟨S_, .f32⟩
  | .hbm, ⟨24, _⟩ => ⟨S12000x35x16, .f32⟩
  | .hbm, ⟨25, _⟩ => ⟨S12000x35x16, .f32⟩
  | .hbm, ⟨26, _⟩ => ⟨S_, .f32⟩
  | .hbm, ⟨27, _⟩ => ⟨S12000x16, .f32⟩
  | .hbm, ⟨28, _⟩ => ⟨S12000x35x16, .f32⟩
  | .hbm, ⟨29, _⟩ => ⟨S12000x35x32, .f32⟩
  | .hbm, ⟨30, _⟩ => ⟨S12000x35x64, .f32⟩
  | .hbm, ⟨31, _⟩ => ⟨S12000x35x64, .f32⟩
  | .hbm, ⟨32, _⟩ => ⟨S12000x35x64, .f32⟩
  | .hbm, ⟨33, _⟩ => ⟨S_, .f32⟩
  | .hbm, ⟨34, _⟩ => ⟨S12000x35x64, .f32⟩
  | .hbm, ⟨35, _⟩ => ⟨S12000x35x64, .f32⟩
  | .hbm, ⟨36, _⟩ => ⟨S_, .f32⟩
  | .hbm, ⟨37, _⟩ => ⟨S12000x64, .f32⟩
  | .hbm, ⟨38, _⟩ => ⟨S12000x35x64, .f32⟩
  | .hbm, ⟨39, _⟩ => ⟨S12000x35x128, .f32⟩
  | .hbm, ⟨40, _⟩ => ⟨S12000x35x128, .f32⟩
  | .hbm, ⟨41, _⟩ => ⟨S12000x35x128, .f32⟩
  | .hbm, ⟨42, _⟩ => ⟨S12000x35x128, .f32⟩
  | .hbm, ⟨43, _⟩ => ⟨S_, .f32⟩
  | .hbm, ⟨44, _⟩ => ⟨S12000x35x128, .f32⟩
  | .hbm, ⟨45, _⟩ => ⟨S12000x35x128, .f32⟩
  | .hbm, ⟨46, _⟩ => ⟨S_, .f32⟩
  | .hbm, ⟨47, _⟩ => ⟨S12000x128, .f32⟩
  | .hbm, ⟨48, _⟩ => ⟨S_, .f32⟩
  | .hbm, ⟨49, _⟩ => ⟨S1x128x8x100x88, .f32⟩
  | .hbm, ⟨50, _⟩ => ⟨S1x128x8x100x88, .f32⟩
  | .hbm, ⟨51, _⟩ => ⟨S128x8x100x88, .f32⟩
  | .hbm, ⟨52, _⟩ => ⟨S_, .f32⟩
  | .hbm, ⟨53, _⟩ => ⟨S128x10x102x90, .f32⟩
  | .hbm, ⟨54, _⟩ => ⟨S128x10x102x88, .f32⟩
  | .hbm, ⟨55, _⟩ => ⟨S128x10x102x88, .f32⟩
  | .hbm, ⟨56, _⟩ => ⟨S128x10x102x88, .f32⟩
  | .hbm, ⟨57, _⟩ => ⟨S384x10x102x88, .f32⟩
  | .hbm, ⟨58, _⟩ => ⟨S384x10x100x88, .f32⟩
  | .hbm, ⟨59, _⟩ => ⟨S384x10x100x88, .f32⟩
  | .hbm, ⟨60, _⟩ => ⟨S384x10x100x88, .f32⟩
  | .hbm, ⟨61, _⟩ => ⟨S1152x10x100x88, .f32⟩
  | .hbm, ⟨62, _⟩ => ⟨S1152x4x100x88, .f32⟩
  | .hbm, ⟨63, _⟩ => ⟨S1152x4x100x88, .f32⟩
  | .hbm, ⟨64, _⟩ => ⟨S1152x4x100x88, .f32⟩
  | .hbm, ⟨65, _⟩ => ⟨S3456x4x100x88, .f32⟩
  | .hbm, ⟨66, _⟩ => ⟨S64x3x3x3x128, .f32⟩
  | .hbm, ⟨67, _⟩ => ⟨S64x3456, .f32⟩
  | .hbm, ⟨68, _⟩ => ⟨S64x4x100x88, .f32⟩
  | .hbm, ⟨69, _⟩ => ⟨S64x4x100x88, .f32⟩
  | .hbm, ⟨70, _⟩ => ⟨S64x4x100x88, .f32⟩
  | .hbm, ⟨71, _⟩ => ⟨S_, .f32⟩
  | .hbm, ⟨72, _⟩ => ⟨S64x4x100x88, .f32⟩
  | .hbm, ⟨73, _⟩ => ⟨S64x4x100x88, .f32⟩
  | .hbm, ⟨74, _⟩ => ⟨S_, .f32⟩
  | .hbm, ⟨75, _⟩ => ⟨S64x6x102x90, .f32⟩
  | .hbm, ⟨76, _⟩ => ⟨S64x6x102x88, .f32⟩
  | .hbm, ⟨77, _⟩ => ⟨S64x6x102x88, .f32⟩
  | .hbm, ⟨78, _⟩ => ⟨S64x6x102x88, .f32⟩
  | .hbm, ⟨79, _⟩ => ⟨S192x6x102x88, .f32⟩
  | .hbm, ⟨80, _⟩ => ⟨S192x6x100x88, .f32⟩
  | .hbm, ⟨81, _⟩ => ⟨S192x6x100x88, .f32⟩
  | .hbm, ⟨82, _⟩ => ⟨S192x6x100x88, .f32⟩
  | .hbm, ⟨83, _⟩ => ⟨S576x6x100x88, .f32⟩
  | .hbm, ⟨84, _⟩ => ⟨S576x2x100x88, .f32⟩
  | .hbm, ⟨85, _⟩ => ⟨S576x2x100x88, .f32⟩
  | .hbm, ⟨86, _⟩ => ⟨S576x2x100x88, .f32⟩
  | .hbm, ⟨87, _⟩ => ⟨S1728x2x100x88, .f32⟩
  | .hbm, ⟨88, _⟩ => ⟨S64x3x3x3x64, .f32⟩
  | .hbm, ⟨89, _⟩ => ⟨S64x1728, .f32⟩
  | .hbm, ⟨90, _⟩ => ⟨S64x2x100x88, .f32⟩
  | .hbm, ⟨91, _⟩ => ⟨S64x2x100x88, .f32⟩
  | .hbm, ⟨92, _⟩ => ⟨S64x2x100x88, .f32⟩
  | .hbm, ⟨93, _⟩ => ⟨S_, .f32⟩
  | .hbm, ⟨94, _⟩ => ⟨S64x2x100x88, .f32⟩
  | .hbm, ⟨95, _⟩ => ⟨S64x2x100x88, .f32⟩
  | .hbm, ⟨96, _⟩ => ⟨S128x100x88, .f32⟩
  | .hbm, ⟨97, _⟩ => ⟨S_, .f32⟩
  | .hbm, ⟨98, _⟩ => ⟨S128x102x90, .f32⟩
  | .hbm, ⟨99, _⟩ => ⟨S128x102x88, .f32⟩
  | .hbm, ⟨100, _⟩ => ⟨S128x102x88, .f32⟩
  | .hbm, ⟨101, _⟩ => ⟨S128x102x88, .f32⟩
  | .hbm, ⟨102, _⟩ => ⟨S384x102x88, .f32⟩
  | .hbm, ⟨103, _⟩ => ⟨S384x100x88, .f32⟩
  | .hbm, ⟨104, _⟩ => ⟨S384x100x88, .f32⟩
  | .hbm, ⟨105, _⟩ => ⟨S384x100x88, .f32⟩
  | .hbm, ⟨106, _⟩ => ⟨S1152x100x88, .f32⟩
  | .hbm, ⟨107, _⟩ => ⟨S128x3x3x128, .f32⟩
  | .hbm, ⟨108, _⟩ => ⟨S128x1152, .f32⟩
  | .hbm, ⟨109, _⟩ => ⟨S128x100x88, .f32⟩
  | .hbm, ⟨110, _⟩ => ⟨S128x100x88, .f32⟩
  | .hbm, ⟨111, _⟩ => ⟨S128x100x88, .f32⟩
  | .hbm, ⟨112, _⟩ => ⟨S_, .f32⟩
  | .hbm, ⟨113, _⟩ => ⟨S128x100x88, .f32⟩
  | .hbm, ⟨114, _⟩ => ⟨S128x100x88, .f32⟩
  | .hbm, ⟨115, _⟩ => ⟨S1x2x128, .f32⟩
  | .hbm, ⟨116, _⟩ => ⟨S1x2x100x88, .f32⟩
  | .hbm, ⟨117, _⟩ => ⟨S1x2x100x88, .f32⟩
  | .hbm, ⟨118, _⟩ => ⟨S1x2x100x88, .f32⟩
  | .hbm, ⟨119, _⟩ => ⟨S1x14x128, .f32⟩
  | .hbm, ⟨120, _⟩ => ⟨S1x14x100x88, .f32⟩
  | .hbm, ⟨121, _⟩ => ⟨S1x14x100x88, .f32⟩
  | .hbm, ⟨122, _⟩ => ⟨S1x14x100x88, .f32⟩
  | .hbm, ⟨123, _⟩ => ⟨S1x4x128, .f32⟩
  | .hbm, ⟨124, _⟩ => ⟨S1x4x100x88, .f32⟩
  | .hbm, ⟨125, _⟩ => ⟨S1x4x100x88, .f32⟩
  | .hbm, ⟨126, _⟩ => ⟨S1x4x100x88, .f32⟩
  | _, _ => ⟨S12000x35x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_call0_cst : Ref sig .tc := ⟨.hbm, 23, rfl⟩
abbrev main_call0_v0 : Ref sig .tc := ⟨.hbm, 24, rfl⟩
abbrev main_v3 : Ref sig .tc := ⟨.hbm, 25, rfl⟩
abbrev main_cst : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_call1_cst : Ref sig .tc := ⟨.hbm, 33, rfl⟩
abbrev main_call1_v0 : Ref sig .tc := ⟨.hbm, 34, rfl⟩
abbrev main_v10 : Ref sig .tc := ⟨.hbm, 35, rfl⟩
abbrev main_cst_0 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_call2_cst : Ref sig .tc := ⟨.hbm, 43, rfl⟩
abbrev main_call2_v0 : Ref sig .tc := ⟨.hbm, 44, rfl⟩
abbrev main_v17 : Ref sig .tc := ⟨.hbm, 45, rfl⟩
abbrev main_cst_1 : Ref sig .tc := ⟨.hbm, 46, rfl⟩
abbrev main_v18 : Ref sig .tc := ⟨.hbm, 47, rfl⟩
abbrev main_cst_2 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_cst_3 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_call3_cst : Ref sig .tc := ⟨.hbm, 71, rfl⟩
abbrev main_call3_v0 : Ref sig .tc := ⟨.hbm, 72, rfl⟩
abbrev main_v40 : Ref sig .tc := ⟨.hbm, 73, rfl⟩
abbrev main_cst_4 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_call4_cst : Ref sig .tc := ⟨.hbm, 93, rfl⟩
abbrev main_call4_v0 : Ref sig .tc := ⟨.hbm, 94, rfl⟩
abbrev main_v59 : Ref sig .tc := ⟨.hbm, 95, rfl⟩
abbrev main_v60 : Ref sig .tc := ⟨.hbm, 96, rfl⟩
abbrev main_cst_5 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_call5_cst : Ref sig .tc := ⟨.hbm, 112, rfl⟩
abbrev main_call5_v0 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩

abbrev nD : Nat := 1
abbrev τ : Topo := Topo.v7x

variable {F : FTy → Type} [FloatOps F]
-- ==== Proof.KQuiet.lean ====
module

public import proofs.«01_k».proof.Proof.KRun

/-! What a run of `Kernel` leaves in its arguments: every argument array as it was, every semaphore at zero. -/

@[expose] public section

set_option maxRecDepth 16384
noncomputable section
open Idealize.ShloMosaic Idealize.ShloMosaic.TcCoe Idealize.SL.Sem
namespace Cert.Kernel.Run
open Cert.Kernel Cert.Kernel.Gen
variable {F : FTy → Type} [FloatOps F]

/-- At the end of a run a buffer outside every scope that no operation writes holds what the launch put there. -/
theorem kept (m : (ℓ : Loc nD τ sig) → Buf (Elt F) ℓ) (ρ : Dev nD → PrngReg) (mem : (ℓ : Loc nD τ sig) → Buf (Elt F) ℓ)
    (h : ∀ c : Dev nD, ∀ b ∈ Pipeline.ucRefs τ sig, mem ((c : Thread nD τ).1, b) = W21 m ρ c b)
    (c : Dev nD) (b : Ref sig .tc) (hb : b ∈ argRefs) (hs : ¬ (Proc.devRef .tc b : DevRef τ sig).isScoped) :
    mem ((c.tc : Thread nD τ).loc b) = m ((c.tc : Thread nD τ).loc b) :=
  (h c _ (mem_uc b hs)).trans (W21_args m ρ c b hb)

end Cert.Kernel.Run
end
-- ==== Proof.IReg01.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The voxel encoder and the first convolution: what the body leaves in each output block, and the proof data of the two pipelines. -/

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 0 of @main: custom_call 0, `cc0__vfe_body` (pipeline 0), at the entry contents `V` -/

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S256x40x7 := Rect.unit (s := S256x40x7) ![0, 0, 0] S256x40x7.size inb_S256x40x7_S256x40x7_0_0_0
abbrev r0_1 : Rect S7x16 := Rect.unit (s := S7x16) ![0, 0] S7x16.size inb_S7x16_S7x16_0_0
abbrev r0_2 : Rect S16 := Rect.unit (s := S16) ![0] S16.size inb_S16_S16_0
abbrev r0_3 : Rect S16x64 := Rect.unit (s := S16x64) ![0, 0] S16x64.size inb_S16x64_S16x64_0_0
abbrev r0_4 : Rect S64 := Rect.unit (s := S64) ![0] S64.size inb_S64_S64_0
abbrev r0_5 : Rect S64x128 := Rect.unit (s := S64x128) ![0, 0] S64x128.size inb_S64x128_S64x128_0_0
abbrev r0_6 : Rect S128 := Rect.unit (s := S128) ![0] S128.size inb_S128_S128_0
abbrev r0_7 : Rect S256x128 := Rect.unit (s := S256x128) ![0, 0] S256x128.size inb_S256x128_S256x128_0_0

def out0_9 (x0 : Vec F S256x40x7 .f32) (x1 : Vec F S7x16 .f32) (x2 : Vec F S16 .f32) (x3 : Vec F S16x64 .f32) (x4 : Vec F S16x64 .f32) (x5 : Vec F S64 .f32) (x6 : Vec F S64x128 .f32) (x7 : Vec F S64x128 .f32) (x8 : Vec F S128 .f32) : Vec F S256x128 .f32 :=
  View.canon [⟨r0_7, k0_pay1 (k0_pay2 (View.ld x0 r0_0) (View.ld x1 r0_1) (View.ld x2 r0_2) (View.ld x4 r0_3) (View.ld x5 r0_4) (View.ld x3 r0_3)) (k0_pay3 (View.ld x0 r0_0) (View.ld x1 r0_1) (View.ld x2 r0_2) (View.ld x4 r0_3) (View.ld x5 r0_4) (View.ld x3 r0_3) (View.ld x7 r0_5) (View.ld x8 r0_6)) (View.ld x6 r0_5)⟩]

theorem cover0_9 (p0 : Vec F S256x128 .f32) (y : S256x128.Idx) :
    ∃ pc ∈ ([⟨r0_7, p0⟩] : List (View.Piece (Elt F) S256x128 .f32)), y ∈ pc.1.set :=
  View.cover_of_tiled [⟨r0_7, p0⟩] S256x128.size (by rfl) y

set_option maxHeartbeats 1000000 in
theorem sound_kernel0 (c : Dev nD) (E : Set ℕ) (i : grid0.Coords) (arg1 : Memref sig .tc .vmem S256x40x7 .f32) (harg1 : arg1.IsWhole) (arg2 : Memref sig .tc .vmem S7x16 .f32) (harg2 : arg2.IsWhole) (arg3 : Memref sig .tc .vmem S16 .f32) (harg3 : arg3.IsWhole) (arg4 : Memref sig .tc .vmem S16x64 .f32) (harg4 : arg4.IsWhole) (arg5 : Memref sig .tc .vmem S16x64 .f32) (harg5 : arg5.IsWhole) (arg6 : Memref sig .tc .vmem S64 .f32) (harg6 : arg6.IsWhole) (arg7 : Memref sig .tc .vmem S64x128 .f32) (harg7 : arg7.IsWhole) (arg8 : Memref sig .tc .vmem S64x128 .f32) (harg8 : arg8.IsWhole) (arg9 : Memref sig .tc .vmem S128 .f32) (harg9 : arg9.IsWhole) (arg10 : Memref sig .tc .vmem S256x128 .f32) (harg10 : arg10.IsWhole)
    (x0 : Vec F S256x40x7 .f32) (x1 : Vec F S7x16 .f32) (x2 : Vec F S16 .f32) (x3 : Vec F S16x64 .f32) (x4 : Vec F S16x64 .f32) (x5 : Vec F S64 .f32) (x6 : Vec F S64x128 .f32) (x7 : Vec F S64x128 .f32) (x8 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8)) -∗ K ⟨⟩))
      ⊢ wp frame (wpE (defs₀ (F := F)) Variants.none c none) E (cc0__vfe_body i arg1 harg1 arg2 harg2 arg3 harg3 arg4 harg4 arg5 harg5 arg6 harg6 arg7 harg7 arg8 harg8 arg9 harg9 arg10 harg10) K := by
  simp only [cc0__vfe_body_eq_skeleton]; unfold cc0__vfe_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover0_9 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ (grid0.coords t) _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- A default for a part of a staging buffer that a fetch leaves as it was; there is none, so nothing reads it. -/
def dflt1 (w : Fin cfg1.W) : (cfg1.win w).block.Idx → Elt F (cfg1.win w).elt := fun _ => Classical.choice inferInstance
/-- The buffer of input window `w` when the body runs at point `t`: its block, typed at the whole block. -/
def X1 (c : Dev nD) (w : Fin cfg1.W) (t : Fin cfg1.N) : (cfg1.win w).block.Idx → Elt F (cfg1.win w).elt :=
  (cfg1.win w).fill (cfg1.grid.coords t) (dflt1 w) (iblk1 V c w t)
/-- No block of the input windows sharing the grid array is cut. -/
theorem clip1_0 : ∀ (i : grid1.Coords) a, win1_0.clip i a = none := by decide +kernel
theorem clip1_1 : ∀ (i : grid1.Coords) a, win1_1.clip i a = none := by decide +kernel
theorem clip1_2 : ∀ (i : grid1.Coords) a, win1_2.clip i a = none := by decide +kernel
/-- A window none of whose blocks is cut holds its block, read off the array, whenever the body runs. -/
theorem before1_of {c : Dev nD} (dat : Dat τ (Elt F) Unit ℕ (UR sig nD τ) ℕ cfg1 c) (w : Fin cfg1.W) (hw : (cfg1.win w).isOut = false)
    (hl : ∀ i, cfg1.idle w i = false) (hclip : ∀ (i : grid1.Coords) a, (cfg1.win w).clip i a = none)
    (hA : dat.A w = V c (Pipeline.arrRef spec1 w)) (hafter : ∀ t, dat.after w t = X1 V c w t) (t : Fin cfg1.N) (d) :
    dat.before w t d = X1 V c w t :=
  (dat.before_in_eq_fetched w hw hl (fun t t' _ => funext fun a => (hclip _ a).trans (hclip _ a).symm)
      (fun t => by rw [hafter]; unfold X1; rw [Pipeline.Window.cut_fill]; unfold Dat.blockOf iblk1; rw [hA]) t d).trans
    (by unfold Dat.fetched X1 Dat.blockOf iblk1; rw [hA]; exact Pipeline.fill_of_clip_none w _ (hclip _) _ _ _)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S4608x128 := Rect.unit (s := S4608x128) ![0, 0] S4608x128.size inb_S4608x128_S4608x128_0_0
abbrev r1_1 : Rect S9x1024x256 := Rect.unit (s := S9x1024x256) ![0, 0, 0] S1x1024x256.size inb_S9x1024x256_S1x1024x256_0_0_0
abbrev r1_2 : Rect S9x1024x256 := Rect.unit (s := S9x1024x256) ![1, 0, 0] S1x1024x256.size inb_S9x1024x256_S1x1024x256_1_0_0
abbrev r1_3 : Rect S9x1024x256 := Rect.unit (s := S9x1024x256) ![2, 0, 0] S1x1024x256.size inb_S9x1024x256_S1x1024x256_2_0_0
abbrev r1_4 : Rect S9x1024x256 := Rect.unit (s := S9x1024x256) ![3, 0, 0] S1x1024x256.size inb_S9x1024x256_S1x1024x256_3_0_0
abbrev r1_5 : Rect S9x1024x256 := Rect.unit (s := S9x1024x256) ![4, 0, 0] S1x1024x256.size inb_S9x1024x256_S1x1024x256_4_0_0
abbrev r1_6 : Rect S9x1024x256 := Rect.unit (s := S9x1024x256) ![5, 0, 0] S1x1024x256.size inb_S9x1024x256_S1x1024x256_5_0_0
abbrev r1_7 : Rect S9x1024x256 := Rect.unit (s := S9x1024x256) ![6, 0, 0] S1x1024x256.size inb_S9x1024x256_S1x1024x256_6_0_0
abbrev r1_8 : Rect S9x1024x256 := Rect.unit (s := S9x1024x256) ![7, 0, 0] S1x1024x256.size inb_S9x1024x256_S1x1024x256_7_0_0
abbrev r1_9 : Rect S9x1024x256 := Rect.unit (s := S9x1024x256) ![8, 0, 0] S1x1024x256.size inb_S9x1024x256_S1x1024x256_8_0_0
abbrev r1_10 : Rect S256 := Rect.unit (s := S256) ![0] S256.size inb_S256_S256_0
abbrev r1_11 : Rect S6x96x256 := Rect.unit (s := S6x96x256) ![0, 0, 0] S6x96x256.size inb_S6x96x256_S6x96x256_0_0_0

def k1_pay9 (i : grid1.Coords) (x0 : Vec F S4608x128 .f32) (x1 : Vec F S4608x128 .f32) (x2 : Vec F S4608x128 .f32) (x3 : Vec F S9x1024x256 .f32) (x4 : Vec F S256 .f32) : FVec F S18x96x1024 .f32 :=
  k1_pay2 (View.ld x0 r1_0) (View.ld x1 r1_0) (View.ld x2 r1_0)

def out1_5 (i : grid1.Coords) (x0 : Vec F S4608x128 .f32) (x1 : Vec F S4608x128 .f32) (x2 : Vec F S4608x128 .f32) (x3 : Vec F S9x1024x256 .f32) (x4 : Vec F S256 .f32) : Vec F S6x96x256 .f32 :=
  View.canon [⟨r1_11, k1_pay1 (k1_pay3 (F := F) i) (k1_pay8 (k1_pay9 i x0 x1 x2 x3 x4) (k1_pay6 (k1_pay9 i x0 x1 x2 x3 x4)) (k1_pay7 (k1_pay9 i x0 x1 x2 x3 x4) (k1_pay4 (View.ld x0 r1_0) (View.ld x1 r1_0) (View.ld x2 r1_0)) (k1_pay5 (View.ld x0 r1_0) (View.ld x1 r1_0) (View.ld x2 r1_0) (View.ld x3 r1_1)) (View.ld x3 r1_2) (View.ld x3 r1_3) (View.ld x3 r1_4) (View.ld x3 r1_5)) (View.ld x3 r1_6) (View.ld x3 r1_7) (View.ld x3 r1_8) (View.ld x3 r1_9)) (View.ld x4 r1_10)⟩]

theorem cover1_5 (p0 : Vec F S6x96x256 .f32) (y : S6x96x256.Idx) :
    ∃ pc ∈ ([⟨r1_11, p0⟩] : List (View.Piece (Elt F) S6x96x256 .f32)), y ∈ pc.1.set :=
  View.cover_of_tiled [⟨r1_11, p0⟩] S6x96x256.size (by rfl) y

set_option maxHeartbeats 1000000 in
theorem sound_kernel1 (c : Dev nD) (E : Set ℕ) (i : grid1.Coords) (arg1 : Memref sig .tc .vmem S4608x128 .f32) (harg1 : arg1.IsWhole) (arg2 : Memref sig .tc .vmem S4608x128 .f32) (harg2 : arg2.IsWhole) (arg3 : Memref sig .tc .vmem S4608x128 .f32) (harg3 : arg3.IsWhole) (arg4 : Memref sig .tc .vmem S9x1024x256 .f32) (harg4 : arg4.IsWhole) (arg5 : Memref sig .tc .vmem S256 .f32) (harg5 : arg5.IsWhole) (arg6 : Memref sig .tc .vmem S6x96x256 .f32) (harg6 : arg6.IsWhole)
    (x0 : Vec F S4608x128 .f32) (x1 : Vec F S4608x128 .f32) (x2 : Vec F S4608x128 .f32) (x3 : Vec F S9x1024x256 .f32) (x4 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 i x0 x1 x2 x3 x4)) -∗ K ⟨⟩))
      ⊢ wp frame (wpE (defs₀ (F := F)) Variants.none c none) E (cc1__conv1_body i arg1 harg1 arg2 harg2 arg3 harg3 arg4 harg4 arg5 harg5 arg6 harg6) K := by
  simp only [cc1__conv1_body_eq_skeleton]; unfold cc1__conv1_body_skel
  simp only [k1_part1_eq_skeleton, k1_part2_eq_skeleton, k1_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (View.read_writes_eq_canon _ _ _ (cover1_5 _)).trans ?_
  rfl

def dat1 (c : Dev nD) : Dat τ (Elt F) Unit ℕ (UR sig nD τ) ℕ cfg1 c where
  A w := V c (Pipeline.arrRef spec1 w)
  after w t := match w with
    | ⟨0, _⟩ => X1 V c 0 t
    | ⟨1, _⟩ => X1 V c 1 t
    | ⟨2, _⟩ => X1 V c 2 t
    | ⟨3, _⟩ => iblk1 V c 3 t
    | ⟨4, _⟩ => iblk1 V c 4 t
    | ⟨5, _⟩ => out1_5 (grid1.coords t) (X1 V c 0 t) (X1 V c 1 t) (X1 V c 2 t) (iblk1 V c 3 t) (iblk1 V c 4 t)
  Φ _ := Pipeline.ΦA spec1 c
  q w := Pipeline.shareOf spec1 w
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = X1 V c 0 t := by dsimp only [dat1]
theorem after1_1 (c : Dev nD) (t : Fin cfg1.N) : (dat1 V c).after 1 t = X1 V c 1 t := by dsimp only [dat1]
theorem after1_2 (c : Dev nD) (t : Fin cfg1.N) : (dat1 V c).after 2 t = X1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (grid1.coords t) (X1 V c 0 t) (X1 V c 1 t) (X1 V c 2 t) (iblk1 V c 3 t) (iblk1 V c 4 t) := by dsimp only [dat1]

theorem before1_0 (c : Dev nD) (t : Fin cfg1.N) (d) : (dat1 V c).before 0 t d = X1 V c 0 t :=
  before1_of V (dat1 V c) 0 rfl (fun _ => rfl) clip1_0 (A_eq1 V c 0) (after1_0 V c) t d
theorem before1_1 (c : Dev nD) (t : Fin cfg1.N) (d) : (dat1 V c).before 1 t d = X1 V c 1 t :=
  before1_of V (dat1 V c) 1 rfl (fun _ => rfl) clip1_1 (A_eq1 V c 1) (after1_1 V c) t d
theorem before1_2 (c : Dev nD) (t : Fin cfg1.N) (d) : (dat1 V c).before 2 t d = X1 V c 2 t :=
  before1_of V (dat1 V c) 2 rfl (fun _ => rfl) clip1_2 (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (X1 V c 0 t) (X1 V c 1 t) (X1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Run

end
-- ==== Proof.IReg23.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The second convolution and the heads: what the body leaves in each output block, and the proof data of the two pipelines. -/

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 2 of @main: custom_call 2, `cc2__conv2_body` (pipeline 2), at the entry contents `V` -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S6x96x256 := Rect.unit (s := S6x96x256) ![0, 0, 0] S6x96x256.size inb_S6x96x256_S6x96x256_0_0_0
abbrev r2_1 : Rect S9x256x128 := Rect.unit (s := S9x256x128) ![0, 0, 0] S1x256x128.size inb_S9x256x128_S1x256x128_0_0_0
abbrev r2_2 : Rect S9x256x128 := Rect.unit (s := S9x256x128) ![1, 0, 0] S1x256x128.size inb_S9x256x128_S1x256x128_1_0_0
abbrev r2_3 : Rect S9x256x128 := Rect.unit (s := S9x256x128) ![2, 0, 0] S1x256x128.size inb_S9x256x128_S1x256x128_2_0_0
abbrev r2_4 : Rect S9x256x128 := Rect.unit (s := S9x256x128) ![3, 0, 0] S1x256x128.size inb_S9x256x128_S1x256x128_3_0_0
abbrev r2_5 : Rect S9x256x128 := Rect.unit (s := S9x256x128) ![4, 0, 0] S1x256x128.size inb_S9x256x128_S1x256x128_4_0_0
abbrev r2_6 : Rect S9x256x128 := Rect.unit (s := S9x256x128) ![5, 0, 0] S1x256x128.size inb_S9x256x128_S1x256x128_5_0_0
abbrev r2_7 : Rect S9x256x128 := Rect.unit (s := S9x256x128) ![6, 0, 0] S1x256x128.size inb_S9x256x128_S1x256x128_6_0_0
abbrev r2_8 : Rect S9x256x128 := Rect.unit (s := S9x256x128) ![7, 0, 0] S1x256x128.size inb_S9x256x128_S1x256x128_7_0_0
abbrev r2_9 : Rect S9x256x128 := Rect.unit (s := S9x256x128) ![8, 0, 0] S1x256x128.size inb_S9x256x128_S1x256x128_8_0_0
abbrev r2_10 : Rect S128 := Rect.unit (s := S128) ![0] S128.size inb_S128_S128_0
abbrev r2_11 : Rect S6x96x128 := Rect.unit (s := S6x96x128) ![0, 0, 0] S6x96x128.size inb_S6x96x128_S6x96x128_0_0_0

def k2_pay9 (i : grid2.Coords) (x0 : Vec F S6x96x256 .f32) (x1 : Vec F S6x96x256 .f32) (x2 : Vec F S6x96x256 .f32) (x3 : Vec F S9x256x128 .f32) (x4 : Vec F S128 .f32) : FVec F S18x96x256 .f32 :=
  k2_pay2 (View.ld x0 r2_0) (View.ld x1 r2_0) (View.ld x2 r2_0)

def out2_5 (i : grid2.Coords) (x0 : Vec F S6x96x256 .f32) (x1 : Vec F S6x96x256 .f32) (x2 : Vec F S6x96x256 .f32) (x3 : Vec F S9x256x128 .f32) (x4 : Vec F S128 .f32) : Vec F S6x96x128 .f32 :=
  View.canon [⟨r2_11, k2_pay1 (k2_pay3 (F := F) i) (k2_pay8 (k2_pay9 i x0 x1 x2 x3 x4) (k2_pay6 (k2_pay9 i x0 x1 x2 x3 x4)) (k2_pay7 (k2_pay9 i x0 x1 x2 x3 x4) (k2_pay4 (View.ld x0 r2_0) (View.ld x1 r2_0) (View.ld x2 r2_0)) (k2_pay5 (View.ld x0 r2_0) (View.ld x1 r2_0) (View.ld x2 r2_0) (View.ld x3 r2_1)) (View.ld x3 r2_2) (View.ld x3 r2_3) (View.ld x3 r2_4) (View.ld x3 r2_5)) (View.ld x3 r2_6) (View.ld x3 r2_7) (View.ld x3 r2_8) (View.ld x3 r2_9)) (View.ld x4 r2_10)⟩]

theorem cover2_5 (p0 : Vec F S6x96x128 .f32) (y : S6x96x128.Idx) :
    ∃ pc ∈ ([⟨r2_11, p0⟩] : List (View.Piece (Elt F) S6x96x128 .f32)), y ∈ pc.1.set :=
  View.cover_of_tiled [⟨r2_11, p0⟩] S6x96x128.size (by rfl) y

set_option maxHeartbeats 1000000 in
theorem sound_kernel2 (c : Dev nD) (E : Set ℕ) (i : grid2.Coords) (arg1 : Memref sig .tc .vmem S6x96x256 .f32) (harg1 : arg1.IsWhole) (arg2 : Memref sig .tc .vmem S6x96x256 .f32) (harg2 : arg2.IsWhole) (arg3 : Memref sig .tc .vmem S6x96x256 .f32) (harg3 : arg3.IsWhole) (arg4 : Memref sig .tc .vmem S9x256x128 .f32) (harg4 : arg4.IsWhole) (arg5 : Memref sig .tc .vmem S128 .f32) (harg5 : arg5.IsWhole) (arg6 : Memref sig .tc .vmem S6x96x128 .f32) (harg6 : arg6.IsWhole)
    (x0 : Vec F S6x96x256 .f32) (x1 : Vec F S6x96x256 .f32) (x2 : Vec F S6x96x256 .f32) (x3 : Vec F S9x256x128 .f32) (x4 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 i x0 x1 x2 x3 x4)) -∗ K ⟨⟩))
      ⊢ wp frame (wpE (defs₀ (F := F)) Variants.none c none) E (cc2__conv2_body i arg1 harg1 arg2 harg2 arg3 harg3 arg4 harg4 arg5 harg5 arg6 harg6) K := by
  simp only [cc2__conv2_body_eq_skeleton]; unfold cc2__conv2_body_skel
  simp only [k2_part1_eq_skeleton, k2_part2_eq_skeleton, k2_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (View.read_writes_eq_canon _ _ _ (cover2_5 _)).trans ?_
  rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (grid2.coords t) (iblk2 V c 0 t) (iblk2 V c 1 t) (iblk2 V c 2 t) (iblk2 V c 3 t) (iblk2 V c 4 t)
  Φ _ := Pipeline.ΦA spec2 c
  q w := Pipeline.shareOf spec2 w
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (grid2.coords t) (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem defs₀_row2 (t : Fin cfg2.N) :
    defs₀ (F := F) .tc cfg2.body (cfg2.bodyArgs t (cfg2.slots t)) = bodyAt2 t := by
  unfold defs₀; rw [Defs.onTc_tc]

theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

/-! # REGION 3 of @main: custom_call 3, `cc3__rpn_body` (pipeline 3), at the entry contents `V` -/

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S6x96x128 := Rect.unit (s := S6x96x128) ![0, 0, 0] S6x96x128.size inb_S6x96x128_S6x96x128_0_0_0
abbrev r3_1 : Rect S9x128x128 := Rect.unit (s := S9x128x128) ![0, 0, 0] S1x128x128.size inb_S9x128x128_S1x128x128_0_0_0
abbrev r3_2 : Rect S9x128x128 := Rect.unit (s := S9x128x128) ![1, 0, 0] S1x128x128.size inb_S9x128x128_S1x128x128_1_0_0
abbrev r3_3 : Rect S9x128x128 := Rect.unit (s := S9x128x128) ![2, 0, 0] S1x128x128.size inb_S9x128x128_S1x128x128_2_0_0
abbrev r3_4 : Rect S9x128x128 := Rect.unit (s := S9x128x128) ![3, 0, 0] S1x128x128.size inb_S9x128x128_S1x128x128_3_0_0
abbrev r3_5 : Rect S9x128x128 := Rect.unit (s := S9x128x128) ![4, 0, 0] S1x128x128.size inb_S9x128x128_S1x128x128_4_0_0
abbrev r3_6 : Rect S9x128x128 := Rect.unit (s := S9x128x128) ![5, 0, 0] S1x128x128.size inb_S9x128x128_S1x128x128_5_0_0
abbrev r3_7 : Rect S9x128x128 := Rect.unit (s := S9x128x128) ![6, 0, 0] S1x128x128.size inb_S9x128x128_S1x128x128_6_0_0
abbrev r3_8 : Rect S9x128x128 := Rect.unit (s := S9x128x128) ![7, 0, 0] S1x128x128.size inb_S9x128x128_S1x128x128_7_0_0
abbrev r3_9 : Rect S9x128x128 := Rect.unit (s := S9x128x128) ![8, 0, 0] S1x128x128.size inb_S9x128x128_S1x128x128_8_0_0
abbrev r3_10 : Rect S128 := Rect.unit (s := S128) ![0] S128.size inb_S128_S128_0
abbrev r3_11 : Rect S128x20 := Rect.unit (s := S128x20) ![0, 0] S128x20.size inb_S128x20_S128x20_0_0
abbrev r3_12 : Rect S20 := Rect.unit (s := S20) ![0] S20.size inb_S20_S20_0
abbrev r3_13 : Rect S6x96x20 := Rect.unit (s := S6x96x20) ![0, 0, 0] S6x96x20.size inb_S6x96x20_S6x96x20_0_0_0

def k3_pay11 (x0 : Vec F S6x96x128 .f32) (x1 : Vec F S6x96x128 .f32) (x2 : Vec F S6x96x128 .f32) (x3 : Vec F S9x128x128 .f32) (x4 : Vec F S128 .f32) (x5 : Vec F S128x20 .f32) (x6 : Vec F S20 .f32) : FVec F S18x96x128 .f32 :=
  k3_pay1 (View.ld x0 r3_0) (View.ld x1 r3_0) (View.ld x2 r3_0)

def out3_7 (x0 : Vec F S6x96x128 .f32) (x1 : Vec F S6x96x128 .f32) (x2 : Vec F S6x96x128 .f32) (x3 : Vec F S9x128x128 .f32) (x4 : Vec F S128 .f32) (x5 : Vec F S128x20 .f32) (x6 : Vec F S20 .f32) : Vec F S6x96x20 .f32 :=
  View.canon [⟨r3_13, k3_pay10 (k3_pay7 (k3_pay11 x0 x1 x2 x3 x4 x5 x6) (k3_pay3 (View.ld x0 r3_0) (View.ld x1 r3_0) (View.ld x2 r3_0) (View.ld x3 r3_1) (View.ld x3 r3_2)) (k3_pay4 (View.ld x0 r3_0) (View.ld x1 r3_0) (View.ld x2 r3_0) (View.ld x3 r3_3)) (k3_pay5 (F := F)) (k3_pay6 (F := F)) (View.ld x3 r3_4) (View.ld x3 r3_5) (View.ld x3 r3_6)) (k3_pay8 (k3_pay11 x0 x1 x2 x3 x4 x5 x6)) (k3_pay9 (k3_pay11 x0 x1 x2 x3 x4 x5 x6) (View.ld x3 r3_7)) 0#32 (View.ld x3 r3_8) (View.ld x3 r3_9) (View.ld x4 r3_10) (View.ld x5 r3_11) (View.ld x6 r3_12)⟩]

theorem cover3_7 (p0 : Vec F S6x96x20 .f32) (y : S6x96x20.Idx) :
    ∃ pc ∈ ([⟨r3_13, p0⟩] : List (View.Piece (Elt F) S6x96x20 .f32)), y ∈ pc.1.set :=
  View.cover_of_tiled [⟨r3_13, p0⟩] S6x96x20.size (by rfl) y

set_option maxHeartbeats 1000000 in
theorem sound_kernel3 (c : Dev nD) (E : Set ℕ) (i : grid3.Coords) (arg1 : Memref sig .tc .vmem S6x96x128 .f32) (harg1 : arg1.IsWhole) (arg2 : Memref sig .tc .vmem S6x96x128 .f32) (harg2 : arg2.IsWhole) (arg3 : Memref sig .tc .vmem S6x96x128 .f32) (harg3 : arg3.IsWhole) (arg4 : Memref sig .tc .vmem S9x128x128 .f32) (harg4 : arg4.IsWhole) (arg5 : Memref sig .tc .vmem S128 .f32) (harg5 : arg5.IsWhole) (arg6 : Memref sig .tc .vmem S128x20 .f32) (harg6 : arg6.IsWhole) (arg7 : Memref sig .tc .vmem S20 .f32) (harg7 : arg7.IsWhole) (arg8 : Memref sig .tc .vmem S6x96x20 .f32) (harg8 : arg8.IsWhole)
    (x0 : Vec F S6x96x128 .f32) (x1 : Vec F S6x96x128 .f32) (x2 : Vec F S6x96x128 .f32) (x3 : Vec F S9x128x128 .f32) (x4 : Vec F S128 .f32) (x5 : Vec F S128x20 .f32) (x6 : Vec F S20 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out3_7 x0 x1 x2 x3 x4 x5 x6)) -∗ K ⟨⟩))
      ⊢ wp frame (wpE (defs₀ (F := F)) Variants.none c none) E (cc3__rpn_body i arg1 harg1 arg2 harg2 arg3 harg3 arg4 harg4 arg5 harg5 arg6 harg6 arg7 harg7 arg8 harg8) K := by
  simp only [cc3__rpn_body_eq_skeleton]; unfold cc3__rpn_body_skel
  simp only [k3_part1_eq_skeleton, k3_part2_eq_skeleton, k3_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  refine (View.read_writes_eq_canon _ _ _ (cover3_7 _)).trans ?_
  rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q w := Pipeline.shareOf spec3 w
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) (iblk3 V c 6 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ (grid3.coords t) _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row3 (t : Fin cfg3.N) :
    defs₀ (F := F) .tc cfg3.body (cfg3.bodyArgs t (cfg3.slots t)) = bodyAt3 t := by
  unfold defs₀; rw [Defs.onTc_tc]

theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Cert.KernelIdeal.Run

end
-- ==== Proof.IRun.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.IReg01
public import proofs.«01_k».proof.Proof.IReg23

/-! The run of the whole program: the contents of every buffer after each stretch of host operations and each kernel. -/

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19]

theorem hostOps0_fresh : (hostOps0 : List (HloOp τ sig (Elt F))).Forall fun op => op.fresh = ∅ := by
  simp only [List.Forall]; repeat' constructor
abbrev hostOps0_W : List (Ref sig .tc) := [main_c, main_v0, main_v1, main_v2, main_c_0]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps0_1_fresh : (hostOps0_1 : List (HloOp τ sig (Elt F))).Forall fun op => op.fresh = ∅ := by
  simp only [List.Forall]; repeat' constructor
abbrev hostOps0_1_W : List (Ref sig .tc) := [main_call0_v0, main_v3]
theorem hostOps0_1_writes : (hostOps0_1 : List (HloOp τ sig (Elt F))).Forall fun op => op.writes ⊆ (hostOps0_1_W.map (Proc.devRef (τ := τ) .tc)).toFinset :=
  StableHlo.forall_writes_sub_of_map rfl
theorem hostOps0_1_args : ∀ a ∈ argRefs, a ∉ hostOps0_1_W := ListAll.forall_mem_of_all_decide (by decide +kernel)

theorem hostOps0_2_fresh : (hostOps0_2 : List (HloOp τ sig (Elt F))).Forall fun op => op.fresh = ∅ := by
  simp only [List.Forall]; repeat' constructor
abbrev hostOps0_2_W : List (Ref sig .tc) := [main_v4, main_v5, main_v6, main_v7]
theorem hostOps0_2_writes : (hostOps0_2 : List (HloOp τ sig (Elt F))).Forall fun op => op.writes ⊆ (hostOps0_2_W.map (Proc.devRef (τ := τ) .tc)).toFinset :=
  StableHlo.forall_writes_sub_of_map rfl
theorem hostOps0_2_args : ∀ a ∈ argRefs, a ∉ hostOps0_2_W := ListAll.forall_mem_of_all_decide (by decide +kernel)

theorem hostOps1_fresh : (hostOps1 : List (HloOp τ sig (Elt F))).Forall fun op => op.fresh = ∅ := by
  simp only [List.Forall]; repeat' constructor
abbrev hostOps1_W : List (Ref sig .tc) := [main_v9, main_v10, main_v11, main_c_1]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

theorem hostOps1_1_fresh : (hostOps1_1 : List (HloOp τ sig (Elt F))).Forall fun op => op.fresh = ∅ := by
  simp only [List.Forall]; repeat' constructor
abbrev hostOps1_1_W : List (Ref sig .tc) := [main_call1_v0, main_v12]
theorem hostOps1_1_writes : (hostOps1_1 : List (HloOp τ sig (Elt F))).Forall fun op => op.writes ⊆ (hostOps1_1_W.map (Proc.devRef (τ := τ) .tc)).toFinset :=
  StableHlo.forall_writes_sub_of_map rfl
theorem hostOps1_1_args : ∀ a ∈ argRefs, a ∉ hostOps1_1_W := ListAll.forall_mem_of_all_decide (by decide +kernel)

theorem hostOps1_2_fresh : (hostOps1_2 : List (HloOp τ sig (Elt F))).Forall fun op => op.fresh = ∅ := by
  simp only [List.Forall]; repeat' constructor
abbrev hostOps1_2_W : List (Ref sig .tc) := [main_v13, main_v14, main_c_2]
theorem hostOps1_2_writes : (hostOps1_2 : List (HloOp τ sig (Elt F))).Forall fun op => op.writes ⊆ (hostOps1_2_W.map (Proc.devRef (τ := τ) .tc)).toFinset :=
  StableHlo.forall_writes_sub_of_map rfl
theorem hostOps1_2_args : ∀ a ∈ argRefs, a ∉ hostOps1_2_W := ListAll.forall_mem_of_all_decide (by decide +kernel)

theorem hostOps1_3_fresh : (hostOps1_3 : List (HloOp τ sig (Elt F))).Forall fun op => op.fresh = ∅ := by
  simp only [List.Forall]; repeat' constructor
abbrev hostOps1_3_W : List (Ref sig .tc) := [main_call2_v0, main_v15]
theorem hostOps1_3_writes : (hostOps1_3 : List (HloOp τ sig (Elt F))).Forall fun op => op.writes ⊆ (hostOps1_3_W.map (Proc.devRef (τ := τ) .tc)).toFinset :=
  StableHlo.forall_writes_sub_of_map rfl
theorem hostOps1_3_args : ∀ a ∈ argRefs, a ∉ hostOps1_3_W := ListAll.forall_mem_of_all_decide (by decide +kernel)

theorem hostOps1_4_fresh : (hostOps1_4 : List (HloOp τ sig (Elt F))).Forall fun op => op.fresh = ∅ := by
  simp only [List.Forall]; repeat' constructor
abbrev hostOps1_4_W : List (Ref sig .tc) := [main_v16, main_v17, main_c_3]
theorem hostOps1_4_writes : (hostOps1_4 : List (HloOp τ sig (Elt F))).Forall fun op => op.writes ⊆ (hostOps1_4_W.map (Proc.devRef (τ := τ) .tc)).toFinset :=
  StableHlo.forall_writes_sub_of_map rfl
theorem hostOps1_4_args : ∀ a ∈ argRefs, a ∉ hostOps1_4_W := ListAll.forall_mem_of_all_decide (by decide +kernel)

theorem hostOps1_5_fresh : (hostOps1_5 : List (HloOp τ sig (Elt F))).Forall fun op => op.fresh = ∅ := by
  simp only [List.Forall]; repeat' constructor
abbrev hostOps1_5_W : List (Ref sig .tc) := [main_call3_v0, main_v18]
theorem hostOps1_5_writes : (hostOps1_5 : List (HloOp τ sig (Elt F))).Forall fun op => op.writes ⊆ (hostOps1_5_W.map (Proc.devRef (τ := τ) .tc)).toFinset :=
  StableHlo.forall_writes_sub_of_map rfl
theorem hostOps1_5_args : ∀ a ∈ argRefs, a ∉ hostOps1_5_W := ListAll.forall_mem_of_all_decide (by decide +kernel)

theorem hostOps1_6_fresh : (hostOps1_6 : List (HloOp τ sig (Elt F))).Forall fun op => op.fresh = ∅ := by
  simp only [List.Forall]; repeat' constructor
abbrev hostOps1_6_W : List (Ref sig .tc) := [main_c_4, main_v19, main_v20, main_c_5, main_v21, main_v22, main_c_6, main_v23, main_v24, main_c_7, main_v25, main_v26, main_v27, main_c_8, main_v28, main_v29, main_v30, main_c_9]
theorem hostOps1_6_writes : (hostOps1_6 : List (HloOp τ sig (Elt F))).Forall fun op => op.writes ⊆ (hostOps1_6_W.map (Proc.devRef (τ := τ) .tc)).toFinset :=
  StableHlo.forall_writes_sub_of_map rfl
theorem hostOps1_6_args : ∀ a ∈ argRefs, a ∉ hostOps1_6_W := ListAll.forall_mem_of_all_decide (by decide +kernel)

theorem hostOps1_7_fresh : (hostOps1_7 : List (HloOp τ sig (Elt F))).Forall fun op => op.fresh = ∅ := by
  simp only [List.Forall]; repeat' constructor
abbrev hostOps1_7_W : List (Ref sig .tc) := [main_call4_v0, main_call4_v1, main_v31]
theorem hostOps1_7_writes : (hostOps1_7 : List (HloOp τ sig (Elt F))).Forall fun op => op.writes ⊆ (hostOps1_7_W.map (Proc.devRef (τ := τ) .tc)).toFinset :=
  StableHlo.forall_writes_sub_of_map rfl
theorem hostOps1_7_args : ∀ a ∈ argRefs, a ∉ hostOps1_7_W := ListAll.forall_mem_of_all_decide (by decide +kernel)

theorem hostOps1_8_fresh : (hostOps1_8 : List (HloOp τ sig (Elt F))).Forall fun op => op.fresh = ∅ := by
  simp only [List.Forall]; repeat' constructor
abbrev hostOps1_8_W : List (Ref sig .tc) := [main_c_10, main_v32, main_c_11, main_v33, main_v34, main_c_12, main_v35, main_v36, main_c_13, main_v37, main_v38, main_v39, main_v40, main_v41, main_c_14, main_v42, main_v43, main_c_15, main_v44, main_v45, main_v46, main_v47, main_v48, main_c_16, main_v49, main_v50, main_v51, main_c_17]
theorem hostOps1_8_writes : (hostOps1_8 : List (HloOp τ sig (Elt F))).Forall fun op => op.writes ⊆ (hostOps1_8_W.map (Proc.devRef (τ := τ) .tc)).toFinset :=
  StableHlo.forall_writes_sub_of_map rfl
theorem hostOps1_8_args : ∀ a ∈ argRefs, a ∉ hostOps1_8_W := ListAll.forall_mem_of_all_decide (by decide +kernel)

theorem hostOps1_9_fresh : (hostOps1_9 : List (HloOp τ sig (Elt F))).Forall fun op => op.fresh = ∅ := by
  simp only [List.Forall]; repeat' constructor
abbrev hostOps1_9_W : List (Ref sig .tc) := [main_call5_v0, main_call5_v1, main_v52]
theorem hostOps1_9_writes : (hostOps1_9 : List (HloOp τ sig (Elt F))).Forall fun op => op.writes ⊆ (hostOps1_9_W.map (Proc.devRef (τ := τ) .tc)).toFinset :=
  StableHlo.forall_writes_sub_of_map rfl
theorem hostOps1_9_args : ∀ a ∈ argRefs, a ∉ hostOps1_9_W := ListAll.forall_mem_of_all_decide (by decide +kernel)

theorem hostOps1_10_fresh : (hostOps1_10 : List (HloOp τ sig (Elt F))).Forall fun op => op.fresh = ∅ := by
  simp only [List.Forall]; repeat' constructor
abbrev hostOps1_10_W : List (Ref sig .tc) := [main_cst, main_v53, main_c_18, main_v54, main_v55, main_c_19, main_v56, main_v57, main_v58, main_v59, main_v60, main_v61, main_cst_20, main_v62, main_v63, main_v64, main_c_21, main_v65, main_c_22, main_v66, main_v67, main_v68, main_v69, main_v70, main_c_23, main_v71, main_c_24, main_v72, main_v73, main_v74, main_v75, main_v76, main_c_25, main_v77, main_c_26, main_v78, main_v79, main_v80, main_v81, main_v82, main_c_27, main_v83, main_c_28, main_v84, main_v85, main_v86, main_v87, main_v88, main_c_29, main_v89, main_c_30, main_v90, main_v91, main_v92, main_v93, main_v94, main_c_31, main_v95, main_c_32, main_v96, main_v97, main_v98, main_v99, main_v100, main_c_33, main_v101, main_c_34, main_v102, main_v103, main_v104, main_v105, main_v106, main_c_35, main_v107, main_c_36, main_v108, main_v109, main_v110, main_v111, main_v112, main_c_37, main_v113, main_c_38, main_v114, main_v115, main_v116, main_v117, main_v118, main_c_39, main_v119, main_c_40, main_v120, main_v121, main_v122, main_v123, main_v124, main_c_41, main_v125, main_c_42, main_v126, main_v127, main_v128, main_v129, main_v130, main_v131, main_v132]
theorem hostOps1_10_writes : (hostOps1_10 : List (HloOp τ sig (Elt F))).Forall fun op => op.writes ⊆ (hostOps1_10_W.map (Proc.devRef (τ := τ) .tc)).toFinset :=
  StableHlo.forall_writes_sub_of_map rfl
theorem hostOps1_10_args : ∀ a ∈ argRefs, a ∉ hostOps1_10_W := ListAll.forall_mem_of_all_decide (by decide +kernel)

theorem hostOps2_fresh : (hostOps2 : List (HloOp τ sig (Elt F))).Forall fun op => op.fresh = ∅ := by
  simp only [List.Forall]; repeat' constructor
abbrev hostOps2_W : List (Ref sig .tc) := [main_v134, main_cst_43, main_v135, main_v136, main_v137, main_c_44, main_v138, main_c_45, main_v139, main_v140, main_v141, main_v142, main_v143, main_c_46, main_v144, main_c_47, main_v145, main_v146, main_v147, main_v148, main_v149, main_c_48, main_v150, main_c_49, main_v151, main_v152, main_v153, main_v154, main_v155, main_c_50, main_v156, main_c_51, main_v157, main_v158, main_v159, main_v160, main_v161, main_c_52, main_v162, main_c_53, main_v163, main_v164, main_v165, main_v166, main_v167, main_v168, main_v169]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)

theorem hostOps3_fresh : (hostOps3 : List (HloOp τ sig (Elt F))).Forall fun op => op.fresh = ∅ := by
  simp only [List.Forall]; repeat' constructor
abbrev hostOps3_W : List (Ref sig .tc) := [main_v171, main_c_54, main_v172, main_v173, main_c_55, main_v174, main_v175, main_v176, main_v177, main_v178, main_v179, main_v180, main_v181, main_v182, main_v183, main_v184, main_v185, main_v186, main_v187]
theorem hostOps3_writes : (hostOps3 : List (HloOp τ sig (Elt F))).Forall fun op => op.writes ⊆ (hostOps3_W.map (Proc.devRef (τ := τ) .tc)).toFinset :=
  StableHlo.forall_writes_sub_of_map rfl
theorem hostOps3_args : ∀ a ∈ argRefs, a ∉ hostOps3_W := ListAll.forall_mem_of_all_decide (by decide +kernel)

theorem hostOps4_fresh : (hostOps4 : List (HloOp τ sig (Elt F))).Forall fun op => op.fresh = ∅ := by
  simp only [List.Forall]; repeat' constructor
abbrev hostOps4_W : List (Ref sig .tc) := [main_v189, main_v190, main_v191, main_v192, main_v193, main_v194]
theorem hostOps4_writes : (hostOps4 : List (HloOp τ sig (Elt F))).Forall fun op => op.writes ⊆ (hostOps4_W.map (Proc.devRef (τ := τ) .tc)).toFinset :=
  StableHlo.forall_writes_sub_of_map rfl
theorem hostOps4_args : ∀ a ∈ argRefs, a ∉ hostOps4_W := ListAll.forall_mem_of_all_decide (by decide +kernel)

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev W2 : Dev nD → Valuation τ sig (Elt F) := fun c => StableHlo.after hostOps0_1 (W1 m ρ c)
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
abbrev W3 : Dev nD → Valuation τ sig (Elt F) := fun c => StableHlo.after hostOps0_2 (W2 m ρ c)
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
abbrev V3 : (c : Dev nD) → (b : Ref sig .tc) → Buf (Elt F) ((c : Thread nD τ).loc b) := fun c b => W3 m ρ c b
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
theorem W4_of (c : Dev nD) (r : Ref sig .tc) (h : ∀ w : Fin cfg0.W, Pipeline.arrRef spec0 w = r → (cfg0.win w).isOut = false) :
    W4 m ρ c (Proc.devRef .tc r) = W3 m ρ c (Proc.devRef .tc r) := by
  by_cases hw : ∃ w : Fin cfg0.W, Pipeline.arrRef spec0 w = r
  · obtain ⟨w, rfl⟩ := hw
    exact (W4_arr m ρ c w).trans (((dat0 (V3 m ρ) c).arrAt_in w (h w rfl) _).trans (A_eq0 (V3 m ρ) c w))
  · exact W4_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn0 a ha)).trans (W3_args m ρ c a ha)
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps1 (W4 m ρ c)
theorem W5_of (c : Dev nD) (r : Ref sig .tc) (h : r ∉ hostOps1_W) : W5 m ρ c (Proc.devRef .tc r) = W4 m ρ c (Proc.devRef .tc r) :=
  StableHlo.after_of_writes_sub hostOps1 _ hostOps1_writes h
theorem W5_args (c : Dev nD) : ∀ a ∈ argRefs, W5 m ρ c (Proc.devRef .tc a) = m ((c : Thread nD τ).loc a) :=
  fun a ha => (W5_of m ρ c a (hostOps1_args a ha)).trans (W4_args m ρ c a ha)
abbrev W6 : Dev nD → Valuation τ sig (Elt F) := fun c => StableHlo.after hostOps1_1 (W5 m ρ c)
theorem W6_of (c : Dev nD) (r : Ref sig .tc) (h : r ∉ hostOps1_1_W) : W6 m ρ c (Proc.devRef .tc r) = W5 m ρ c (Proc.devRef .tc r) :=
  StableHlo.after_of_writes_sub hostOps1_1 _ hostOps1_1_writes h
theorem W6_args (c : Dev nD) : ∀ a ∈ argRefs, W6 m ρ c (Proc.devRef .tc a) = m ((c : Thread nD τ).loc a) :=
  fun a ha => (W6_of m ρ c a (hostOps1_1_args a ha)).trans (W5_args m ρ c a ha)
abbrev W7 : Dev nD → Valuation τ sig (Elt F) := fun c => StableHlo.after hostOps1_2 (W6 m ρ c)
theorem W7_of (c : Dev nD) (r : Ref sig .tc) (h : r ∉ hostOps1_2_W) : W7 m ρ c (Proc.devRef .tc r) = W6 m ρ c (Proc.devRef .tc r) :=
  StableHlo.after_of_writes_sub hostOps1_2 _ hostOps1_2_writes h
theorem W7_args (c : Dev nD) : ∀ a ∈ argRefs, W7 m ρ c (Proc.devRef .tc a) = m ((c : Thread nD τ).loc a) :=
  fun a ha => (W7_of m ρ c a (hostOps1_2_args a ha)).trans (W6_args m ρ c a ha)
abbrev W8 : Dev nD → Valuation τ sig (Elt F) := fun c => StableHlo.after hostOps1_3 (W7 m ρ c)
theorem W8_of (c : Dev nD) (r : Ref sig .tc) (h : r ∉ hostOps1_3_W) : W8 m ρ c (Proc.devRef .tc r) = W7 m ρ c (Proc.devRef .tc r) :=
  StableHlo.after_of_writes_sub hostOps1_3 _ hostOps1_3_writes h
theorem W8_args (c : Dev nD) : ∀ a ∈ argRefs, W8 m ρ c (Proc.devRef .tc a) = m ((c : Thread nD τ).loc a) :=
  fun a ha => (W8_of m ρ c a (hostOps1_3_args a ha)).trans (W7_args m ρ c a ha)
abbrev W9 : Dev nD → Valuation τ sig (Elt F) := fun c => StableHlo.after hostOps1_4 (W8 m ρ c)
theorem W9_of (c : Dev nD) (r : Ref sig .tc) (h : r ∉ hostOps1_4_W) : W9 m ρ c (Proc.devRef .tc r) = W8 m ρ c (Proc.devRef .tc r) :=
  StableHlo.after_of_writes_sub hostOps1_4 _ hostOps1_4_writes h
theorem W9_args (c : Dev nD) : ∀ a ∈ argRefs, W9 m ρ c (Proc.devRef .tc a) = m ((c : Thread nD τ).loc a) :=
  fun a ha => (W9_of m ρ c a (hostOps1_4_args a ha)).trans (W8_args m ρ c a ha)
abbrev W10 : Dev nD → Valuation τ sig (Elt F) := fun c => StableHlo.after hostOps1_5 (W9 m ρ c)
theorem W10_of (c : Dev nD) (r : Ref sig .tc) (h : r ∉ hostOps1_5_W) : W10 m ρ c (Proc.devRef .tc r) = W9 m ρ c (Proc.devRef .tc r) :=
  StableHlo.after_of_writes_sub hostOps1_5 _ hostOps1_5_writes h
theorem W10_args (c : Dev nD) : ∀ a ∈ argRefs, W10 m ρ c (Proc.devRef .tc a) = m ((c : Thread nD τ).loc a) :=
  fun a ha => (W10_of m ρ c a (hostOps1_5_args a ha)).trans (W9_args m ρ c a ha)
abbrev W11 : Dev nD → Valuation τ sig (Elt F) := fun c => StableHlo.after hostOps1_6 (W10 m ρ c)
theorem W11_of (c : Dev nD) (r : Ref sig .tc) (h : r ∉ hostOps1_6_W) : W11 m ρ c (Proc.devRef .tc r) = W10 m ρ c (Proc.devRef .tc r) :=
  StableHlo.after_of_writes_sub hostOps1_6 _ hostOps1_6_writes h
theorem W11_args (c : Dev nD) : ∀ a ∈ argRefs, W11 m ρ c (Proc.devRef .tc a) = m ((c : Thread nD τ).loc a) :=
  fun a ha => (W11_of m ρ c a (hostOps1_6_args a ha)).trans (W10_args m ρ c a ha)
abbrev W12 : Dev nD → Valuation τ sig (Elt F) := fun c => StableHlo.after hostOps1_7 (W11 m ρ c)
theorem W12_of (c : Dev nD) (r : Ref sig .tc) (h : r ∉ hostOps1_7_W) : W12 m ρ c (Proc.devRef .tc r) = W11 m ρ c (Proc.devRef .tc r) :=
  StableHlo.after_of_writes_sub hostOps1_7 _ hostOps1_7_writes h
theorem W12_args (c : Dev nD) : ∀ a ∈ argRefs, W12 m ρ c (Proc.devRef .tc a) = m ((c : Thread nD τ).loc a) :=
  fun a ha => (W12_of m ρ c a (hostOps1_7_args a ha)).trans (W11_args m ρ c a ha)
abbrev W13 : Dev nD → Valuation τ sig (Elt F) := fun c => StableHlo.after hostOps1_8 (W12 m ρ c)
theorem W13_of (c : Dev nD) (r : Ref sig .tc) (h : r ∉ hostOps1_8_W) : W13 m ρ c (Proc.devRef .tc r) = W12 m ρ c (Proc.devRef .tc r) :=
  StableHlo.after_of_writes_sub hostOps1_8 _ hostOps1_8_writes h
theorem W13_args (c : Dev nD) : ∀ a ∈ argRefs, W13 m ρ c (Proc.devRef .tc a) = m ((c : Thread nD τ).loc a) :=
  fun a ha => (W13_of m ρ c a (hostOps1_8_args a ha)).trans (W12_args m ρ c a ha)
abbrev W14 : Dev nD → Valuation τ sig (Elt F) := fun c => StableHlo.after hostOps1_9 (W13 m ρ c)
theorem W14_of (c : Dev nD) (r : Ref sig .tc) (h : r ∉ hostOps1_9_W) : W14 m ρ c (Proc.devRef .tc r) = W13 m ρ c (Proc.devRef .tc r) :=
  StableHlo.after_of_writes_sub hostOps1_9 _ hostOps1_9_writes h
theorem W14_args (c : Dev nD) : ∀ a ∈ argRefs, W14 m ρ c (Proc.devRef .tc a) = m ((c : Thread nD τ).loc a) :=
  fun a ha => (W14_of m ρ c a (hostOps1_9_args a ha)).trans (W13_args m ρ c a ha)
abbrev W15 : Dev nD → Valuation τ sig (Elt F) := fun c => StableHlo.after hostOps1_10 (W14 m ρ c)
theorem W15_of (c : Dev nD) (r : Ref sig .tc) (h : r ∉ hostOps1_10_W) : W15 m ρ c (Proc.devRef .tc r) = W14 m ρ c (Proc.devRef .tc r) :=
  StableHlo.after_of_writes_sub hostOps1_10 _ hostOps1_10_writes h
theorem W15_args (c : Dev nD) : ∀ a ∈ argRefs, W15 m ρ c (Proc.devRef .tc a) = m ((c : Thread nD τ).loc a) :=
  fun a ha => (W15_of m ρ c a (hostOps1_10_args a ha)).trans (W14_args m ρ c a ha)
abbrev V15 : (c : Dev nD) → (b : Ref sig .tc) → Buf (Elt F) ((c : Thread nD τ).loc b) := fun c b => W15 m ρ c b
def W16 (c : Dev nD) : Valuation τ sig (Elt F) :=
  Pipeline.withArrays spec1 c (W15 m ρ c) fun w => (dat1 (V15 m ρ) c).arrAt w cfg1.N
theorem W16_arr (c : Dev nD) (w : Fin cfg1.W) :
    W16 m ρ c (Proc.devRef .tc (Pipeline.arrRef spec1 w)) = (dat1 (V15 m ρ) c).arrAt w cfg1.N := by
  unfold W16; exact (dat1 (V15 m ρ) c).withArrays_arrAt launch₀1.sharedIn _ (A_eq1 (V15 m ρ) c) w
theorem W16_of_ne (c : Dev nD) (b : Ref sig .tc) (hb : ∀ w, Pipeline.arrRef spec1 w ≠ b) :
    W16 m ρ c (Proc.devRef .tc b) = W15 m ρ c (Proc.devRef .tc b) := by
  unfold W16; exact Pipeline.withArrays_of_ne spec1 c _ _ b hb
theorem W16_of (c : Dev nD) (r : Ref sig .tc) (h : ∀ w : Fin cfg1.W, Pipeline.arrRef spec1 w = r → (cfg1.win w).isOut = false) :
    W16 m ρ c (Proc.devRef .tc r) = W15 m ρ c (Proc.devRef .tc r) := by
  by_cases hw : ∃ w : Fin cfg1.W, Pipeline.arrRef spec1 w = r
  · obtain ⟨w, rfl⟩ := hw
    exact (W16_arr m ρ c w).trans (((dat1 (V15 m ρ) c).arrAt_in w (h w rfl) _).trans (A_eq1 (V15 m ρ) c w))
  · exact W16_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W16_args (c : Dev nD) : ∀ a ∈ argRefs, W16 m ρ c (Proc.devRef .tc a) = m ((c : Thread nD τ).loc a) :=
  fun a ha => (W16_of m ρ c a (argsIn1 a ha)).trans (W15_args m ρ c a ha)
abbrev V16 : (c : Dev nD) → (b : Ref sig .tc) → Buf (Elt F) ((c : Thread nD τ).loc b) := fun c b => W16 m ρ c b
theorem hF1 (c : Dev nD) (w : Fin cfg1.W) : (dat1 (V15 m ρ) c).arrAt w cfg1.N = V16 m ρ c (Pipeline.arrRef spec1 w) :=
  (W16_arr m ρ c w).symm
theorem hrest1 (c : Dev nD) : ∀ b, b ∉ Finset.univ.image (Pipeline.arrRef spec1) → V16 m ρ c b = V15 m ρ c b :=
  fun b hb => W16_of_ne m ρ c b fun w e => hb (Finset.mem_image.mpr ⟨w, Finset.mem_univ _, e⟩)

abbrev W17 : Dev nD → Valuation τ sig (Elt F) := fun c => StableHlo.after hostOps2 (W16 m ρ c)
theorem W17_of (c : Dev nD) (r : Ref sig .tc) (h : r ∉ hostOps2_W) : W17 m ρ c (Proc.devRef .tc r) = W16 m ρ c (Proc.devRef .tc r) :=
  StableHlo.after_of_writes_sub hostOps2 _ hostOps2_writes h
theorem W17_args (c : Dev nD) : ∀ a ∈ argRefs, W17 m ρ c (Proc.devRef .tc a) = m ((c : Thread nD τ).loc a) :=
  fun a ha => (W17_of m ρ c a (hostOps2_args a ha)).trans (W16_args m ρ c a ha)
abbrev V17 : (c : Dev nD) → (b : Ref sig .tc) → Buf (Elt F) ((c : Thread nD τ).loc b) := fun c b => W17 m ρ c b
def W18 (c : Dev nD) : Valuation τ sig (Elt F) :=
  Pipeline.withArrays spec2 c (W17 m ρ c) fun w => (dat2 (V17 m ρ) c).arrAt w cfg2.N
theorem W18_arr (c : Dev nD) (w : Fin cfg2.W) :
    W18 m ρ c (Proc.devRef .tc (Pipeline.arrRef spec2 w)) = (dat2 (V17 m ρ) c).arrAt w cfg2.N := by
  unfold W18; exact (dat2 (V17 m ρ) c).withArrays_arrAt launch₀2.sharedIn _ (A_eq2 (V17 m ρ) c) w
theorem W18_of_ne (c : Dev nD) (b : Ref sig .tc) (hb : ∀ w, Pipeline.arrRef spec2 w ≠ b) :
    W18 m ρ c (Proc.devRef .tc b) = W17 m ρ c (Proc.devRef .tc b) := by
  unfold W18; exact Pipeline.withArrays_of_ne spec2 c _ _ b hb
theorem W18_of (c : Dev nD) (r : Ref sig .tc) (h : ∀ w : Fin cfg2.W, Pipeline.arrRef spec2 w = r → (cfg2.win w).isOut = false) :
    W18 m ρ c (Proc.devRef .tc r) = W17 m ρ c (Proc.devRef .tc r) := by
  by_cases hw : ∃ w : Fin cfg2.W, Pipeline.arrRef spec2 w = r
  · obtain ⟨w, rfl⟩ := hw
    exact (W18_arr m ρ c w).trans (((dat2 (V17 m ρ) c).arrAt_in w (h w rfl) _).trans (A_eq2 (V17 m ρ) c w))
  · exact W18_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W18_args (c : Dev nD) : ∀ a ∈ argRefs, W18 m ρ c (Proc.devRef .tc a) = m ((c : Thread nD τ).loc a) :=
  fun a ha => (W18_of m ρ c a (argsIn2 a ha)).trans (W17_args m ρ c a ha)
abbrev V18 : (c : Dev nD) → (b : Ref sig .tc) → Buf (Elt F) ((c : Thread nD τ).loc b) := fun c b => W18 m ρ c b
theorem hF2 (c : Dev nD) (w : Fin cfg2.W) : (dat2 (V17 m ρ) c).arrAt w cfg2.N = V18 m ρ c (Pipeline.arrRef spec2 w) :=
  (W18_arr m ρ c w).symm
theorem hrest2 (c : Dev nD) : ∀ b, b ∉ Finset.univ.image (Pipeline.arrRef spec2) → V18 m ρ c b = V17 m ρ c b :=
  fun b hb => W18_of_ne m ρ c b fun w e => hb (Finset.mem_image.mpr ⟨w, Finset.mem_univ _, e⟩)

abbrev W19 : Dev nD → Valuation τ sig (Elt F) := fun c => StableHlo.after hostOps3 (W18 m ρ c)
theorem W19_of (c : Dev nD) (r : Ref sig .tc) (h : r ∉ hostOps3_W) : W19 m ρ c (Proc.devRef .tc r) = W18 m ρ c (Proc.devRef .tc r) :=
  StableHlo.after_of_writes_sub hostOps3 _ hostOps3_writes h
theorem W19_args (c : Dev nD) : ∀ a ∈ argRefs, W19 m ρ c (Proc.devRef .tc a) = m ((c : Thread nD τ).loc a) :=
  fun a ha => (W19_of m ρ c a (hostOps3_args a ha)).trans (W18_args m ρ c a ha)
abbrev V19 : (c : Dev nD) → (b : Ref sig .tc) → Buf (Elt F) ((c : Thread nD τ).loc b) := fun c b => W19 m ρ c b
def W20 (c : Dev nD) : Valuation τ sig (Elt F) :=
  Pipeline.withArrays spec3 c (W19 m ρ c) fun w => (dat3 (V19 m ρ) c).arrAt w cfg3.N
theorem W20_arr (c : Dev nD) (w : Fin cfg3.W) :
    W20 m ρ c (Proc.devRef .tc (Pipeline.arrRef spec3 w)) = (dat3 (V19 m ρ) c).arrAt w cfg3.N := by
  unfold W20; exact (dat3 (V19 m ρ) c).withArrays_arrAt launch₀3.sharedIn _ (A_eq3 (V19 m ρ) c) w
theorem W20_of_ne (c : Dev nD) (b : Ref sig .tc) (hb : ∀ w, Pipeline.arrRef spec3 w ≠ b) :
    W20 m ρ c (Proc.devRef .tc b) = W19 m ρ c (Proc.devRef .tc b) := by
  unfold W20; exact Pipeline.withArrays_of_ne spec3 c _ _ b hb
theorem W20_of (c : Dev nD) (r : Ref sig .tc) (h : ∀ w : Fin cfg3.W, Pipeline.arrRef spec3 w = r → (cfg3.win w).isOut = false) :
    W20 m ρ c (Proc.devRef .tc r) = W19 m ρ c (Proc.devRef .tc r) := by
  by_cases hw : ∃ w : Fin cfg3.W, Pipeline.arrRef spec3 w = r
  · obtain ⟨w, rfl⟩ := hw
    exact (W20_arr m ρ c w).trans (((dat3 (V19 m ρ) c).arrAt_in w (h w rfl) _).trans (A_eq3 (V19 m ρ) c w))
  · exact W20_of_ne m ρ c r fun w e => hw ⟨w, e⟩
theorem argsIn3 : ∀ a ∈ argRefs, ∀ w : Fin cfg3.W, Pipeline.arrRef spec3 w = a → (cfg3.win w).isOut = false :=
  ListAll.forall_mem_of_all_decide (by decide +kernel)
theorem W20_args (c : Dev nD) : ∀ a ∈ argRefs, W20 m ρ c (Proc.devRef .tc a) = m ((c : Thread nD τ).loc a) :=
  fun a ha => (W20_of m ρ c a (argsIn3 a ha)).trans (W19_args m ρ c a ha)
abbrev V20 : (c : Dev nD) → (b : Ref sig .tc) → Buf (Elt F) ((c : Thread nD τ).loc b) := fun c b => W20 m ρ c b
theorem hF3 (c : Dev nD) (w : Fin cfg3.W) : (dat3 (V19 m ρ) c).arrAt w cfg3.N = V20 m ρ c (Pipeline.arrRef spec3 w) :=
  (W20_arr m ρ c w).symm
theorem hrest3 (c : Dev nD) : ∀ b, b ∉ Finset.univ.image (Pipeline.arrRef spec3) → V20 m ρ c b = V19 m ρ c b :=
  fun b hb => W20_of_ne m ρ c b fun w e => hb (Finset.mem_image.mpr ⟨w, Finset.mem_univ _, e⟩)

abbrev W21 : Dev nD → Valuation τ sig (Elt F) := fun c => StableHlo.after hostOps4 (W20 m ρ c)
theorem W21_of (c : Dev nD) (r : Ref sig .tc) (h : r ∉ hostOps4_W) : W21 m ρ c (Proc.devRef .tc r) = W20 m ρ c (Proc.devRef .tc r) :=
  StableHlo.after_of_writes_sub hostOps4 _ hostOps4_writes h
theorem W21_args (c : Dev nD) : ∀ a ∈ argRefs, W21 m ρ c (Proc.devRef .tc a) = m ((c : Thread nD τ).loc a) :=
  fun a ha => (W21_of m ρ c a (hostOps4_args a ha)).trans (W20_args m ρ c a ha)

abbrev adm : (p : Fin 4) → (pcfgs (F := F) p).Adm := fun p => (cfgs p).toPCfg_adm
def pdats : (p : Fin 4) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V15 m ρ) c
  | ⟨2, _⟩ => fun c => dat2 (V17 m ρ) c
  | ⟨3, _⟩ => fun c => dat3 (V19 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W21 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) (A_eq0 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V15 m ρ) c).loose
  hwaits := Pipeline.hwaits_of_owed_zero _ _ _ _ L lv 1 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec1 c (V15 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V15 m ρ c) (A_eq1 (V15 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V15 m ρ c) (V16 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch₀2.win
  block_pos := launch₀2.block_pos
  stage_whole := launch₀2.stage_whole
  K := PEmpty
  osem k := k.elim
  ho := Pipeline.OwnSemFacts.none _
  hbody c := (body_obligation2 (V17 m ρ) c).loose
  hwaits := Pipeline.hwaits_of_owed_zero _ _ _ _ L lv 2 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec2 c (V17 m ρ c)
  hentry c := by
    rw [Pipeline.ownSems0_none]
    have hsplit := Pipeline.arrays_of_unscopedBufs_shared (p := 2) (pcfgs (F := F)) adm (pdats m ρ) launch₀2.win launch₀2.sharedIn launch₀2.arr_whole c
      (fun _ _ => rfl) (V17 m ρ c) (A_eq2 (V17 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays_shared (p := 2) (pcfgs (F := F)) adm (Ix := Unit) (Name := ℕ) (U := UR sig nD τ) (Lvl := ℕ)
      launch₀2.win launch₀2.sharedIn launch₀2.arr_whole c (pdats m ρ) (fun _ _ => rfl)
      (V17 m ρ c) (V18 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg3 : Pipeline.RegionSeg (pcfgs (F := F)) adm (pdats m ρ) () defs₀ 𝒱₀ L lv 3 where
  win := launch₀3.win
  block_pos := launch₀3.block_pos
  stage_whole := launch₀3.stage_whole
  K := PEmpty
  osem k := k.elim
  ho := Pipeline.OwnSemFacts.none _
  hbody c := (body_obligation3 (V19 m ρ) c).loose
  hwaits := Pipeline.hwaits_of_owed_zero _ _ _ _ L lv 3 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec3 c (V19 m ρ c)
  hentry c := by
    rw [Pipeline.ownSems0_none]
    have hsplit := Pipeline.arrays_of_unscopedBufs_shared (p := 3) (pcfgs (F := F)) adm (pdats m ρ) launch₀3.win launch₀3.sharedIn launch₀3.arr_whole c
      (fun _ _ => rfl) (V19 m ρ c) (A_eq3 (V19 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays_shared (p := 3) (pcfgs (F := F)) adm (Ix := Unit) (Name := ℕ) (U := UR sig nD τ) (Lvl := ℕ)
      launch₀3.win launch₀3.sharedIn launch₀3.arr_whole c (pdats m ρ) (fun _ _ => rfl)
      (V19 m ρ c) (V20 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .host (hseg hostOps1_1 hostOps1_1_sub hostOps1_1_fresh (W5 m ρ)),
    .host (hseg hostOps1_2 hostOps1_2_sub hostOps1_2_fresh (W6 m ρ)),
    .host (hseg hostOps1_3 hostOps1_3_sub hostOps1_3_fresh (W7 m ρ)),
    .host (hseg hostOps1_4 hostOps1_4_sub hostOps1_4_fresh (W8 m ρ)),
    .host (hseg hostOps1_5 hostOps1_5_sub hostOps1_5_fresh (W9 m ρ)),
    .host (hseg hostOps1_6 hostOps1_6_sub hostOps1_6_fresh (W10 m ρ)),
    .host (hseg hostOps1_7 hostOps1_7_sub hostOps1_7_fresh (W11 m ρ)),
    .host (hseg hostOps1_8 hostOps1_8_sub hostOps1_8_fresh (W12 m ρ)),
    .host (hseg hostOps1_9 hostOps1_9_sub hostOps1_9_fresh (W13 m ρ)),
    .host (hseg hostOps1_10 hostOps1_10_sub hostOps1_10_fresh (W14 m ρ)),
    .region (reg1 m ρ),
    .host (hseg hostOps2 hostOps2_sub hostOps2_fresh (W16 m ρ)),
    .region (reg2 m ρ),
    .host (hseg hostOps3 hostOps3_sub hostOps3_fresh (W18 m ρ)),
    .region (reg3 m ρ),
    .host (hseg hostOps4 hostOps4_sub hostOps4_fresh (W20 m ρ)) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
theorem run : θ_run defs (onTc (τ := τ) (main (F := F))) ⟨m, fun _ => 0, ρ⟩ (fun r =>
      (∀ c : Dev nD, ∀ b ∈ Pipeline.ucRefs τ sig, r.2.mem ((c : Thread nD τ).1, b) = W21 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h hz => ⟨h, funext fun g => hz g (.inr (no_unscoped g.2))⟩)

end Cert.KernelIdeal.Run

end
-- ==== Proof.IQuiet.lean ====
module

public import proofs.«01_k».proof.Proof.IRun

/-! What a run of `KernelIdeal` leaves in its arguments: every argument array as it was, every semaphore at zero. -/

@[expose] public section

set_option maxRecDepth 16384
noncomputable section
open Idealize.ShloMosaic Idealize.ShloMosaic.TcCoe Idealize.SL.Sem
namespace Cert.KernelIdeal.Run
open Cert.KernelIdeal Cert.KernelIdeal.Gen
variable {F : FTy → Type} [FloatOps F]

/-- At the end of a run a buffer outside every scope that no operation writes holds what the launch put there. -/
theorem kept (m : (ℓ : Loc nD τ sig) → Buf (Elt F) ℓ) (ρ : Dev nD → PrngReg) (mem : (ℓ : Loc nD τ sig) → Buf (Elt F) ℓ)
    (h : ∀ c : Dev nD, ∀ b ∈ Pipeline.ucRefs τ sig, mem ((c : Thread nD τ).1, b) = W21 m ρ c b)
    (c : Dev nD) (b : Ref sig .tc) (hb : b ∈ argRefs) (hs : ¬ (Proc.devRef .tc b : DevRef τ sig).isScoped) :
    mem ((c.tc : Thread nD τ).loc b) = m ((c.tc : Thread nD τ).loc b) :=
  (h c _ (mem_uc b hs)).trans (W21_args m ρ c b hb)

end Cert.KernelIdeal.Run
end
-- ==== Proof.Claims.lean ====
module

public import proofs.«01_k».proof.Proof.KQuiet
public import proofs.«01_k».proof.Proof.IQuiet
public import proofs.«01_k».proof.Defs
public import proofs.«01_k».proof.Proof.Gen.ReferenceIdeal.Run
public import proofs.«01_k».proof.Proof.Gen.Pre_in_grid

/-! The frame claims of the three programs: every run ends, leaves the arguments unchanged and every semaphore at zero. -/

@[expose] public section

set_option maxRecDepth 16384
noncomputable section
open Idealize.ShloMosaic Idealize.ShloMosaic.TcCoe Idealize.SL.Sem
namespace Cert.Proof

instance : Cert.Kernel.Facts := Cert.Kernel.Gen.facts
instance : Cert.KernelIdeal.Facts := Cert.KernelIdeal.Gen.facts
instance : Cert.ReferenceIdeal.Facts := Cert.ReferenceIdeal.Gen.facts
instance : Cert.Pre_in_grid.Facts := Cert.Pre_in_grid.Gen.facts

theorem quiescent_Kernel : Cert.quiescent_Kernel := fun m g _ =>
  (θ_run Cert.Kernel.defs _ _).mono (fun r h => ⟨fun c => ⟨Cert.Kernel.Run.kept m g r.2.mem h.1 c Cert.Kernel.main_arg0 (by decide) (by decide), Cert.Kernel.Run.kept m g r.2.mem h.1 c Cert.Kernel.main_arg1 (by decide) (by decide), Cert.Kernel.Run.kept m g r.2.mem h.1 c Cert.Kernel.main_arg2 (by decide) (by decide), Cert.Kernel.Run.kept m g r.2.mem h.1 c Cert.Kernel.main_arg3 (by decide) (by decide), Cert.Kernel.Run.kept m g r.2.mem h.1 c Cert.Kernel.main_arg4 (by decide) (by decide), Cert.Kernel.Run.kept m g r.2.mem h.1 c Cert.Kernel.main_arg5 (by decide) (by decide), Cert.Kernel.Run.kept m g r.2.mem h.1 c Cert.Kernel.main_arg6 (by decide) (by decide), Cert.Kernel.Run.kept m g r.2.mem h.1 c Cert.Kernel.main_arg7 (by decide) (by decide), Cert.Kernel.Run.kept m g r.2.mem h.1 c Cert.Kernel.main_arg8 (by decide) (by decide), Cert.Kernel.Run.kept m g r.2.mem h.1 c Cert.Kernel.main_arg9 (by decide) (by decide), Cert.Kernel.Run.kept m g r.2.mem h.1 c Cert.Kernel.main_arg10 (by decide) (by decide), Cert.Kernel.Run.kept m g r.2.mem h.1 c Cert.Kernel.main_arg11 (by decide) (by decide), Cert.Kernel.Run.kept m g r.2.mem h.1 c Cert.Kernel.main_arg12 (by decide) (by decide), Cert.Kernel.Run.kept m g r.2.mem h.1 c Cert.Kernel.main_arg13 (by decide) (by decide), Cert.Kernel.Run.kept m g r.2.mem h.1 c Cert.Kernel.main_arg14 (by decide) (by decide), Cert.Kernel.Run.kept m g r.2.mem h.1 c Cert.Kernel.main_arg15 (by decide) (by decide), Cert.Kernel.Run.kept m g r.2.mem h.1 c Cert.Kernel.main_arg16 (by decide) (by decide), Cert.Kernel.Run.kept m g r.2.mem h.1 c Cert.Kernel.main_arg17 (by decide) (by decide), Cert.Kernel.Run.kept m g r.2.mem h.1 c Cert.Kernel.main_arg18 (by decide) (by decide), Cert.Kernel.Run.kept m g r.2.mem h.1 c Cert.Kernel.main_arg19 (by decide) (by decide)⟩, h.2⟩) (Cert.Kernel.Run.run m g)

theorem quiescent_KernelIdeal : Cert.quiescent_KernelIdeal := fun m g _ =>
  (θ_run Cert.KernelIdeal.defs _ _).mono (fun r h => ⟨fun c => ⟨Cert.KernelIdeal.Run.kept m g r.2.mem h.1 c Cert.KernelIdeal.main_arg0 (by decide) (by decide), Cert.KernelIdeal.Run.kept m g r.2.mem h.1 c Cert.KernelIdeal.main_arg1 (by decide) (by decide), Cert.KernelIdeal.Run.kept m g r.2.mem h.1 c Cert.KernelIdeal.main_arg2 (by decide) (by decide), Cert.KernelIdeal.Run.kept m g r.2.mem h.1 c Cert.KernelIdeal.main_arg3 (by decide) (by decide), Cert.KernelIdeal.Run.kept m g r.2.mem h.1 c Cert.KernelIdeal.main_arg4 (by decide) (by decide), Cert.KernelIdeal.Run.kept m g r.2.mem h.1 c Cert.KernelIdeal.main_arg5 (by decide) (by decide), Cert.KernelIdeal.Run.kept m g r.2.mem h.1 c Cert.KernelIdeal.main_arg6 (by decide) (by decide), Cert.KernelIdeal.Run.kept m g r.2.mem h.1 c Cert.KernelIdeal.main_arg7 (by decide) (by decide), Cert.KernelIdeal.Run.kept m g r.2.mem h.1 c Cert.KernelIdeal.main_arg8 (by decide) (by decide), Cert.KernelIdeal.Run.kept m g r.2.mem h.1 c Cert.KernelIdeal.main_arg9 (by decide) (by decide), Cert.KernelIdeal.Run.kept m g r.2.mem h.1 c Cert.KernelIdeal.main_arg10 (by decide) (by decide), Cert.KernelIdeal.Run.kept m g r.2.mem h.1 c Cert.KernelIdeal.main_arg11 (by decide) (by decide), Cert.KernelIdeal.Run.kept m g r.2.mem h.1 c Cert.KernelIdeal.main_arg12 (by decide) (by decide), Cert.KernelIdeal.Run.kept m g r.2.mem h.1 c Cert.KernelIdeal.main_arg13 (by decide) (by decide), Cert.KernelIdeal.Run.kept m g r.2.mem h.1 c Cert.KernelIdeal.main_arg14 (by decide) (by decide), Cert.KernelIdeal.Run.kept m g r.2.mem h.1 c Cert.KernelIdeal.main_arg15 (by decide) (by decide), Cert.KernelIdeal.Run.kept m g r.2.mem h.1 c Cert.KernelIdeal.main_arg16 (by decide) (by decide), Cert.KernelIdeal.Run.kept m g r.2.mem h.1 c Cert.KernelIdeal.main_arg17 (by decide) (by decide), Cert.KernelIdeal.Run.kept m g r.2.mem h.1 c Cert.KernelIdeal.main_arg18 (by decide) (by decide), Cert.KernelIdeal.Run.kept m g r.2.mem h.1 c Cert.KernelIdeal.main_arg19 (by decide) (by decide)⟩, h.2⟩) (Cert.KernelIdeal.Run.run m g)

theorem quiescent_KernelIdeal_pre_in_grid : Cert.quiescent_KernelIdeal_pre_in_grid :=
  fun m g _ => quiescent_KernelIdeal m g trivial

theorem quiescent_ReferenceIdeal : Cert.quiescent_ReferenceIdeal := fun m g _ =>
  (θ_run Cert.ReferenceIdeal.defs _ _).mono (fun r h => ⟨fun c => (h c).2.2.2, sem_eq_zero_of_no_sems (by decide) r.2⟩) (Cert.ReferenceIdeal.Value.run m g)

theorem quiescent_ReferenceIdeal_pre_in_grid : Cert.quiescent_ReferenceIdeal_pre_in_grid :=
  fun m g _ => quiescent_ReferenceIdeal m g trivial

theorem preserves : Cert.preserves_Kernel_KernelIdeal := trivial

end Cert.Proof

end
-- ==== Proof.Vfe.lean ====
module

public import proofs.«01_k».proof.Proof.IReg01
public import Idealize.ShloMosaic.Lib.Pointwise
public import Idealize.ShloMosaic.Lib.Pipeline.ValueKit

@[expose] public section

set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.KernelIdeal.Run

/-- The maximum of `n` numbers, folded from the word of minus infinity. -/
def vmax {n : ℕ} (f : Fin n → EReal) : EReal := Finset.univ.fold max (Ideal.ofBits FTy.f32 4286578688#32) f

/-- A maximum taken over more points, each of which repeats one of the `m`, is the maximum over the `m`. -/
theorem vmax_reindex {n m : ℕ} (e : Fin n → Fin m) (he : Function.Surjective e) (f : Fin m → EReal) :
    vmax (fun p => f (e p)) = vmax f := by
  unfold vmax
  refine eq_of_forall_ge_iff fun c => ?_
  rw [Finset.fold_max_le, Finset.fold_max_le]
  refine and_congr_right fun _ => ⟨fun h i _ => ?_, fun h i _ => h _ (Finset.mem_univ _)⟩
  obtain ⟨p, rfl⟩ := he i
  exact h p (Finset.mem_univ _)

/-- One dense layer on one point of a voxel. -/
def lay {K C : ℕ} (w : Fin K → Fin C → EReal) (b : Fin C → EReal) (x : Fin K → EReal) (j : Fin C) : EReal :=
  max (∑ k, x k * w k j + b j) 0

/-- One dense layer on a point's own numbers and the voxel's maxima. -/
def lay2 {n K C : ℕ} (wa wb : Fin K → Fin C → EReal) (b : Fin C → EReal) (h : Fin n → Fin K → EReal) (p : Fin n) (j : Fin C) : EReal :=
  max (∑ k, h p k * wa k j + (∑ k, vmax (fun q => h q k) * wb k j + b j)) 0

theorem lay2_reindex {n m K C : ℕ} (wa wb : Fin K → Fin C → EReal) (b : Fin C → EReal) (e : Fin n → Fin m) (he : Function.Surjective e)
    (h : Fin m → Fin K → EReal) (p : Fin n) (j : Fin C) : lay2 wa wb b (fun q => h (e q)) p j = lay2 wa wb b h (e p) j := by
  unfold lay2
  simp only [fun k => vmax_reindex e he (fun q => h q k)]

/-- A voxel's features: two layers, the fully connected layer, the maximum over the points. -/
def feat {n : ℕ} (w1 : Fin 7 → Fin 16 → EReal) (b1 : Fin 16 → EReal) (w2a w2b : Fin 16 → Fin 64 → EReal) (b2 : Fin 64 → EReal)
    (wfa wfb : Fin 64 → Fin 128 → EReal) (bf : Fin 128 → EReal) (x : Fin n → Fin 7 → EReal) (j : Fin 128) : EReal :=
  vmax fun p => lay2 wfa wfb bf (lay2 w2a w2b b2 fun q => lay w1 b1 (x q)) p j

theorem feat_reindex {n m : ℕ} (w1 : Fin 7 → Fin 16 → EReal) (b1 : Fin 16 → EReal) (w2a w2b : Fin 16 → Fin 64 → EReal) (b2 : Fin 64 → EReal)
    (wfa wfb : Fin 64 → Fin 128 → EReal) (bf : Fin 128 → EReal) (e : Fin n → Fin m) (he : Function.Surjective e) (x : Fin m → Fin 7 → EReal) (j : Fin 128) :
    feat w1 b1 w2a w2b b2 wfa wfb bf (fun p => x (e p)) j = feat w1 b1 w2a w2b b2 wfa wfb bf x j := by
  unfold feat
  have h2 : (lay2 w2a w2b b2 fun q => lay w1 b1 (x (e q))) = fun p => lay2 w2a w2b b2 (fun q => lay w1 b1 (x q)) (e p) := by
    funext p k
    exact lay2_reindex w2a w2b b2 e he (fun q => lay w1 b1 (x q)) p k
  rw [h2]
  simp only [fun p => lay2_reindex wfa wfb bf e he (lay2 w2a w2b b2 fun q => lay w1 b1 (x q)) p j]
  exact vmax_reindex e he (fun p => lay2 wfa wfb bf (lay2 w2a w2b b2 fun q => lay w1 b1 (x q)) p j)

/-- The feature kernel's block: each row is its voxel's features. -/
theorem out0_at (x0 : FVec Ideal S256x40x7 .f32) (x1 : FVec Ideal S7x16 .f32) (x2 : FVec Ideal S16 .f32) (x3 x4 : FVec Ideal S16x64 .f32) (x5 : FVec Ideal S64 .f32)
    (x6 x7 : FVec Ideal S64x128 .f32) (x8 : FVec Ideal S128 .f32) (i : Fin 256) (j : Fin 128) :
    out0_9 (F := Ideal) x0 x1 x2 x3 x4 x5 x6 x7 x8 (ix2 i j)
      = feat (fun k j => x1 (ix2 k j)) (fun j => x2 (ix1 j)) (fun k j => x3 (ix2 k j)) (fun k j => x4 (ix2 k j)) (fun j => x5 (ix1 j))
          (fun k j => x6 (ix2 k j)) (fun k j => x7 (ix2 k j)) (fun j => x8 (ix1 j)) (fun p k => x0 (ix3 i p k)) j := by
  unfold out0_9
  frame_out
  pointwise [k0_pay1, k0_pay2, k0_pay3]
  rfl
end Cert.KernelIdeal.Value
end
-- ==== Proof.Bridge0.lean ====
module

public import proofs.«01_k».proof.Proof.Vfe

@[expose] public section

set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.KernelIdeal.Run

variable (V : (c : Dev nD) → (b : Ref sig .tc) → Buf (Elt Ideal) ((c : Thread nD τ).loc b))

theorem idx0 : ∀ t : Fin cfg0.N, win0_0.index t = ![t.val, 0, 0] ∧ win0_1.index t = ![0, 0] ∧ win0_2.index t = ![0] ∧ win0_3.index t = ![0, 0]
    ∧ win0_4.index t = ![0, 0] ∧ win0_5.index t = ![0] ∧ win0_6.index t = ![0, 0] ∧ win0_7.index t = ![0, 0] ∧ win0_8.index t = ![0] ∧ win0_9.index t = ![t.val, 0] :=
  (by decide +kernel : ∀ t : Fin grid0.N, _)

theorem feat_congr {n : ℕ} {w1 w1' : Fin 7 → Fin 16 → EReal} {b1 b1' : Fin 16 → EReal} {w2a w2b w2a' w2b' : Fin 16 → Fin 64 → EReal} {b2 b2' : Fin 64 → EReal}
    {wfa wfb wfa' wfb' : Fin 64 → Fin 128 → EReal} {bf bf' : Fin 128 → EReal} {x x' : Fin n → Fin 7 → EReal} {j j' : Fin 128}
    (h1 : ∀ k j, w1 k j = w1' k j) (h2 : ∀ j, b1 j = b1' j) (h3 : ∀ k j, w2a k j = w2a' k j) (h4 : ∀ k j, w2b k j = w2b' k j) (h5 : ∀ j, b2 j = b2' j)
    (h6 : ∀ k j, wfa k j = wfa' k j) (h7 : ∀ k j, wfb k j = wfb' k j) (h8 : ∀ j, bf j = bf' j) (h9 : ∀ p k, x p k = x' p k) (hj : j = j') :
    feat w1 b1 w2a w2b b2 wfa wfb bf x j = feat w1' b1' w2a' w2b' b2' wfa' wfb' bf' x' j' := by
  obtain rfl : w1 = w1' := funext fun k => funext (h1 k)
  obtain rfl : b1 = b1' := funext h2
  obtain rfl : w2a = w2a' := funext fun k => funext (h3 k)
  obtain rfl : w2b = w2b' := funext fun k => funext (h4 k)
  obtain rfl : b2 = b2' := funext h5
  obtain rfl : wfa = wfa' := funext fun k => funext (h6 k)
  obtain rfl : wfb = wfb' := funext fun k => funext (h7 k)
  obtain rfl : bf = bf' := funext h8
  obtain rfl : x = x' := funext fun k => funext (h9 k)
  rw [hj]

set_option maxHeartbeats 2000000 in
/-- What the feature kernel leaves in its result: row `n` holds the features of voxel `n`. -/
theorem reg0 (c : Dev nD) (x0 : FVec Ideal S12288x40x7 .f32) (x1 : FVec Ideal S7x16 .f32) (x2 : FVec Ideal S16 .f32) (x3 x4 : FVec Ideal S16x64 .f32) (x5 : FVec Ideal S64 .f32)
    (x6 x7 : FVec Ideal S64x128 .f32) (x8 : FVec Ideal S128 .f32)
    (h0 : V c main_v3 = x0) (h1 : V c main_arg2 = x1) (h2 : V c main_arg3 = x2) (h3 : V c main_v4 = x3) (h4 : V c main_v5 = x4) (h5 : V c main_arg5 = x5)
    (h6 : V c main_v6 = x6) (h7 : V c main_v7 = x7) (h8 : V c main_arg7 = x8) :
    (dat0 V c).arrAt 9 cfg0.N
      = (fun i : S12288x128.Idx => feat (fun k j => x1 (ix2 k j)) (fun j => x2 (ix1 j)) (fun k j => x3 (ix2 k j)) (fun k j => x4 (ix2 k j)) (fun j => x5 (ix1 j))
          (fun k j => x6 (ix2 k j)) (fun k j => x7 (ix2 k j)) (fun j => x8 (ix1 j)) (fun (p : Fin 40) k => x0 (ix3 (i 0) p k)) (i 1)) := by
  subst h0 h1 h2 h3 h4 h5 h6 h7 h8
  refine (dat0 V c).arrAt_eq_of_covers 9 _ (by decide +kernel) fun t _ y => ?_
  blk_simp
  rw [after0_9]
  idx_vars y
  refine (out0_at _ _ _ _ _ _ _ _ _ y0 y1).trans ?_
  refine feat_congr (fun k j => ?_) (fun j => ?_) (fun k j => ?_) (fun k j => ?_) (fun j => ?_) (fun k j => ?_) (fun k j => ?_) (fun j => ?_) (fun p k => ?_) ?_
  all_goals (try blk_ext [iblk0, idx0 t])
  exact Fin.ext (by blk_simp [idx0 t])

end Cert.KernelIdeal.Value
end
-- ==== Proof.Host0.lean ====
module

public import proofs.«01_k».proof.Proof.IRun
public import Idealize.ShloMosaic.Lib.Pointwise
public import Idealize.ShloMosaic.Lib.Pipeline.ValueKit

@[expose] public section

set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.KernelIdeal.Run

open Idealize.ShloMosaic.StableHlo

variable (m : (ℓ : Loc nD τ sig) → Buf (Elt Ideal) ℓ) (ρ : Dev nD → PrngReg)

/-- The point rows the feature kernel reads: the voxel's own points, then its first point again, then rows of zeros. -/
theorem hv3 (c : Dev nD) (x : FVec Ideal S12000x35x7 .f32) (hx : m ((c : Thread nD τ).loc main_arg0) = x) (n : Fin 12288) (p : Fin 40) (k : Fin 7) :
    (show FVec Ideal S12288x40x7 .f32 from W3 m ρ c (Proc.devRef .tc main_v3)) (ix3 n p k)
      = if h : n.val < 12000 then x (ix3 (⟨n.val, h⟩ : Fin 12000) (if q : p.val < 35 then (⟨p.val, q⟩ : Fin 35) else 0) k) else (0 : EReal) := by
  subst hx
  simp only [W3, W2, W1, hostOps0, hostOps0_1, hostOps0_2, TRef.binary, TRef.nullary, TRef.unary, TRef.toBuf, TRef.ofBuf, cast_eq]
  after_results_simp
  pointwise []
  after_results_simp
  pointwise []
  by_cases h : n.val < 12000
  · rw [dif_pos h, dif_pos h]
    by_cases q : p.val < 35
    · rw [dif_pos q, dif_pos q]
    · rw [dif_neg q, dif_neg q]
  · rw [dif_neg h, dif_neg h]
    show ((((0#32 : BitVec 32).toInt : ℝ) : EReal)) = 0
    norm_num

theorem hv4 (c : Dev nD) (x : FVec Ideal S32x64 .f32) (hx : m ((c : Thread nD τ).loc main_arg4) = x) (k : Fin 16) (j : Fin 64) :
    (show FVec Ideal S16x64 .f32 from W3 m ρ c (Proc.devRef .tc main_v4)) (ix2 k j) = x (ix2 (⟨k.val, by omega⟩ : Fin 32) j) := by
  subst hx
  simp only [W3, hostOps0_2]
  after_results_simp
  pointwise []
  try rfl

theorem hv5 (c : Dev nD) (x : FVec Ideal S32x64 .f32) (hx : m ((c : Thread nD τ).loc main_arg4) = x) (k : Fin 16) (j : Fin 64) :
    (show FVec Ideal S16x64 .f32 from W3 m ρ c (Proc.devRef .tc main_v5)) (ix2 k j) = x (ix2 (⟨16 + k.val, by omega⟩ : Fin 32) j) := by
  subst hx
  simp only [W3, hostOps0_2]
  after_results_simp
  pointwise []
  try rfl

theorem hv6 (c : Dev nD) (x : FVec Ideal S128x128 .f32) (hx : m ((c : Thread nD τ).loc main_arg6) = x) (k : Fin 64) (j : Fin 128) :
    (show FVec Ideal S64x128 .f32 from W3 m ρ c (Proc.devRef .tc main_v6)) (ix2 k j) = x (ix2 (⟨k.val, by omega⟩ : Fin 128) j) := by
  subst hx
  simp only [W3, hostOps0_2]
  after_results_simp
  pointwise []
  try rfl

theorem hv7 (c : Dev nD) (x : FVec Ideal S128x128 .f32) (hx : m ((c : Thread nD τ).loc main_arg6) = x) (k : Fin 64) (j : Fin 128) :
    (show FVec Ideal S64x128 .f32 from W3 m ρ c (Proc.devRef .tc main_v7)) (ix2 k j) = x (ix2 (⟨64 + k.val, by omega⟩ : Fin 128) j) := by
  subst hx
  simp only [W3, hostOps0_2]
  after_results_simp
  pointwise []
  try rfl

end Cert.KernelIdeal.Value
end
-- ==== Proof.RFeat.lean ====
module

public import proofs.«01_k».proof.Proof.Vfe
public import proofs.«01_k».proof.Proof.Gen.ReferenceIdeal.Run

@[expose] public section

set_option maxRecDepth 16384
noncomputable section
open Idealize.ShloMosaic Idealize.ShloMosaic.TcCoe Idealize.SL.Sem
namespace Cert.ReferenceIdeal.Value
open Cert.ReferenceIdeal Cert.ReferenceIdeal.Gen

/-- The reference's first layer at one point. -/
theorem r3 (V0 : Valuation τ sig (Elt Ideal)) (x : FVec Ideal S12000x35x7 .f32) (w : FVec Ideal S7x16 .f32) (b : FVec Ideal S16 .f32)
    (hx : (V0 (Proc.devRef .tc main_arg0) : FVec Ideal S12000x35x7 .f32) = x) (hw : (V0 (Proc.devRef .tc main_arg2) : FVec Ideal S7x16 .f32) = w)
    (hb : (V0 (Proc.devRef .tc main_arg3) : FVec Ideal S16 .f32) = b) (n : Fin 12000) (p : Fin 35) (k : Fin 16) :
    (res_main_v3 V0 : FVec Ideal S12000x35x16 .f32) (ix3 n p k)
      = Cert.KernelIdeal.Value.lay (fun k j => w (ix2 k j)) (fun j => b (ix1 j)) (fun k => x (ix3 n p k)) k := by
  subst hx hw hb
  unfold Cert.KernelIdeal.Value.lay
  pointwise [res_main_v3]

/-- The reference's second layer at one point. -/
theorem r10 (X : FVec Ideal S12000x35x16 .f32) (w : FVec Ideal S32x64 .f32) (b : FVec Ideal S64 .f32) (n : Fin 12000) (p : Fin 35) (j : Fin 64) :
    maximumf (addf (Host.dotGeneral dot_S12000x35x32_S32x64_S12000x35x64_2_0_01_1_n_n none (concatenate S12000x35x32 2 [⟨S12000x35x16, X⟩, ⟨S12000x35x16, (broadcastInDim S12000x35x16 ![0, 2] bcast_S12000x16_S12000x35x16_0_2 (Host.reduce FloatOps.maximumf X (constant (F := Ideal) S_ .f32 0xFF800000#32) reducesTo_S12000x35x16_S12000x16_d1 h_S_))⟩] concatenates_S12000x35x16_S12000x35x16_S12000x35x32_d2) w) (broadcastInDim S12000x35x64 ![2] bcast_S64_S12000x35x64_2 b)) (broadcastInDim S12000x35x64 ![] bcast_S_S12000x35x64 (constant (F := Ideal) S_ .f32 0x00000000#32)) (ix3 n p j)
      = Cert.KernelIdeal.Value.lay2 (fun k j => w (ix2 (⟨k.val, by omega⟩ : Fin 32) j)) (fun (k : Fin 16) j => w (ix2 (⟨16 + k.val, by omega⟩ : Fin 32) j)) (fun j => b (ix1 j)) (fun p k => X (ix3 n p k)) p j := by
  unfold Cert.KernelIdeal.Value.lay2 Cert.KernelIdeal.Value.vmax
  pointwise []
  simp only [Shape.ReducesTo.fold_fiber_r3_a1, add_assoc]

/-- The reference's third layer, reduced over the points. -/
theorem rfeat (X : FVec Ideal S12000x35x64 .f32) (w : FVec Ideal S128x128 .f32) (b : FVec Ideal S128 .f32) (n : Fin 12000) (j : Fin 128) :
    Host.reduce FloatOps.maximumf (maximumf (addf (Host.dotGeneral dot_S12000x35x128_S128x128_S12000x35x128_2_0_01_1_n_n none (concatenate S12000x35x128 2 [⟨S12000x35x64, X⟩, ⟨S12000x35x64, (broadcastInDim S12000x35x64 ![0, 2] bcast_S12000x64_S12000x35x64_0_2 (Host.reduce FloatOps.maximumf X (constant (F := Ideal) S_ .f32 0xFF800000#32) reducesTo_S12000x35x64_S12000x64_d1 h_S_))⟩] concatenates_S12000x35x64_S12000x35x64_S12000x35x128_d2) w) (broadcastInDim S12000x35x128 ![2] bcast_S128_S12000x35x128_2 b)) (broadcastInDim S12000x35x128 ![] bcast_S_S12000x35x128 (constant (F := Ideal) S_ .f32 0x00000000#32))) (constant (F := Ideal) S_ .f32 0xFF800000#32) reducesTo_S12000x35x128_S12000x128_d1 h_S_ (ix2 n j)
      = Cert.KernelIdeal.Value.vmax fun p => Cert.KernelIdeal.Value.lay2 (fun k j => w (ix2 (⟨k.val, by omega⟩ : Fin 128) j)) (fun (k : Fin 64) j => w (ix2 (⟨64 + k.val, by omega⟩ : Fin 128) j)) (fun j => b (ix1 j)) (fun p k => X (ix3 n p k)) p j := by
  unfold Cert.KernelIdeal.Value.lay2 Cert.KernelIdeal.Value.vmax
  pointwise []
  simp only [Shape.ReducesTo.fold_fiber_r3_a1, add_assoc]

/-- The last layer and the maximum over a voxel's points, as the reference computes them. -/
def rlast (X : FVec Ideal S12000x35x64 .f32) (w : FVec Ideal S128x128 .f32) (b : FVec Ideal S128 .f32) : FVec Ideal S12000x128 .f32 :=
  Host.reduce FloatOps.maximumf (maximumf (addf (Host.dotGeneral dot_S12000x35x128_S128x128_S12000x35x128_2_0_01_1_n_n none (concatenate S12000x35x128 2 [⟨S12000x35x64, X⟩, ⟨S12000x35x64, (broadcastInDim S12000x35x64 ![0, 2] bcast_S12000x64_S12000x35x64_0_2 (Host.reduce FloatOps.maximumf X (constant (F := Ideal) S_ .f32 0xFF800000#32) reducesTo_S12000x35x64_S12000x64_d1 h_S_))⟩] concatenates_S12000x35x64_S12000x35x64_S12000x35x128_d2) w) (broadcastInDim S12000x35x128 ![2] bcast_S128_S12000x35x128_2 b)) (broadcastInDim S12000x35x128 ![] bcast_S_S12000x35x128 (constant (F := Ideal) S_ .f32 0x00000000#32))) (constant (F := Ideal) S_ .f32 0xFF800000#32) reducesTo_S12000x35x128_S12000x128_d1 h_S_

/-- The voxels' features, as the reference computes them. -/
def rvox (V0 : Valuation τ sig (Elt Ideal)) : FVec Ideal S12000x128 .f32 :=
  rlast (res_main_v10 V0) (V0 (Proc.devRef .tc main_arg6)) (V0 (Proc.devRef .tc main_arg7))

/-- A voxel's features in the arguments. -/
theorem rvox_at (V0 : Valuation τ sig (Elt Ideal)) (x0 : FVec Ideal S12000x35x7 .f32) (x2 : FVec Ideal S7x16 .f32) (x3 : FVec Ideal S16 .f32) (x4 : FVec Ideal S32x64 .f32)
    (x5 : FVec Ideal S64 .f32) (x6 : FVec Ideal S128x128 .f32) (x7 : FVec Ideal S128 .f32)
    (h0 : (V0 (Proc.devRef .tc main_arg0) : FVec Ideal S12000x35x7 .f32) = x0) (h2 : (V0 (Proc.devRef .tc main_arg2) : FVec Ideal S7x16 .f32) = x2)
    (h3 : (V0 (Proc.devRef .tc main_arg3) : FVec Ideal S16 .f32) = x3) (h4 : (V0 (Proc.devRef .tc main_arg4) : FVec Ideal S32x64 .f32) = x4)
    (h5 : (V0 (Proc.devRef .tc main_arg5) : FVec Ideal S64 .f32) = x5) (h6 : (V0 (Proc.devRef .tc main_arg6) : FVec Ideal S128x128 .f32) = x6)
    (h7 : (V0 (Proc.devRef .tc main_arg7) : FVec Ideal S128 .f32) = x7) (n : Fin 12000) (j : Fin 128) :
    rvox V0 (ix2 n j)
      = Cert.KernelIdeal.Value.feat (fun k j => x2 (ix2 k j)) (fun j => x3 (ix1 j)) (fun k j => x4 (ix2 (⟨k.val, by omega⟩ : Fin 32) j)) (fun k j => x4 (ix2 (⟨16 + k.val, by omega⟩ : Fin 32) j))
          (fun j => x5 (ix1 j)) (fun k j => x6 (ix2 (⟨k.val, by omega⟩ : Fin 128) j)) (fun k j => x6 (ix2 (⟨64 + k.val, by omega⟩ : Fin 128) j)) (fun j => x7 (ix1 j))
          (fun (p : Fin 35) k => x0 (ix3 n p k)) j := by
  unfold rvox rlast Cert.KernelIdeal.Value.feat
  rw [rfeat, h6, h7]
  have e : (fun (p : Fin 35) (k : Fin 64) => (res_main_v10 V0 : FVec Ideal S12000x35x64 .f32) (ix3 n p k))
      = Cert.KernelIdeal.Value.lay2 (fun k j => x4 (ix2 (⟨k.val, by omega⟩ : Fin 32) j)) (fun (k : Fin 16) j => x4 (ix2 (⟨16 + k.val, by omega⟩ : Fin 32) j)) (fun j => x5 (ix1 j))
          (fun (q : Fin 35) => Cert.KernelIdeal.Value.lay (fun k j => x2 (ix2 k j)) (fun j => x3 (ix1 j)) (fun k => x0 (ix3 n q k))) := by
    funext p k
    unfold res_main_v10
    rw [r10, h4, h5]
    refine congrArg (fun h => Cert.KernelIdeal.Value.lay2 _ _ _ h p k) (funext fun q => funext fun k => ?_)
    exact r3 V0 x0 x2 x3 h0 h2 h3 n q k
  rw [e]

end Cert.ReferenceIdeal.Value
end
-- ==== Proof.Feat.lean ====
module

public import proofs.«01_k».proof.Proof.Bridge0
public import proofs.«01_k».proof.Proof.Host0
public import proofs.«01_k».proof.Proof.RFeat

@[expose] public section

set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.KernelIdeal.Run

variable (m : (ℓ : Loc nD τ sig) → Buf (Elt Ideal) ℓ) (ρ : Dev nD → PrngReg)

/-- A voxel's features as the first kernel leaves them, in the arguments. -/
theorem kfeat (c : Dev nD) (x0 : FVec Ideal S12000x35x7 .f32) (x2 : FVec Ideal S7x16 .f32) (x3 : FVec Ideal S16 .f32) (x4 : FVec Ideal S32x64 .f32) (x5 : FVec Ideal S64 .f32)
    (x6 : FVec Ideal S128x128 .f32) (x7 : FVec Ideal S128 .f32) (h0 : m ((c : Thread nD τ).loc main_arg0) = x0) (h2 : m ((c : Thread nD τ).loc main_arg2) = x2)
    (h3 : m ((c : Thread nD τ).loc main_arg3) = x3) (h4 : m ((c : Thread nD τ).loc main_arg4) = x4) (h5 : m ((c : Thread nD τ).loc main_arg5) = x5)
    (h6 : m ((c : Thread nD τ).loc main_arg6) = x6) (h7 : m ((c : Thread nD τ).loc main_arg7) = x7) (n : Fin 12288) (hn : n.val < 12000) (j : Fin 128) :
    (W4 m ρ c (Proc.devRef .tc main_v8) : FVec Ideal S12288x128 .f32) (ix2 n j)
      = feat (fun k j => x2 (ix2 k j)) (fun j => x3 (ix1 j)) (fun k j => x4 (ix2 (⟨k.val, by omega⟩ : Fin 32) j)) (fun k j => x4 (ix2 (⟨16 + k.val, by omega⟩ : Fin 32) j))
          (fun j => x5 (ix1 j)) (fun k j => x6 (ix2 (⟨k.val, by omega⟩ : Fin 128) j)) (fun k j => x6 (ix2 (⟨64 + k.val, by omega⟩ : Fin 128) j)) (fun j => x7 (ix1 j))
          (fun (p : Fin 35) k => x0 (ix3 (⟨n.val, hn⟩ : Fin 12000) p k)) j := by
  have e := (W4_arr m ρ c 9).trans (reg0 (V3 m ρ) c (W3 m ρ c (Proc.devRef .tc main_v3)) x2 x3 (W3 m ρ c (Proc.devRef .tc main_v4)) (W3 m ρ c (Proc.devRef .tc main_v5)) x5
    (W3 m ρ c (Proc.devRef .tc main_v6)) (W3 m ρ c (Proc.devRef .tc main_v7)) x7 rfl ((W3_args m ρ c main_arg2 (by decide)).trans h2) ((W3_args m ρ c main_arg3 (by decide)).trans h3)
    rfl rfl ((W3_args m ρ c main_arg5 (by decide)).trans h5) rfl rfl ((W3_args m ρ c main_arg7 (by decide)).trans h7))
  refine (congrFun e (ix2 n j)).trans ?_
  rw [← feat_reindex _ _ _ _ _ _ _ _ (fun p : Fin 40 => if q : p.val < 35 then (⟨p.val, q⟩ : Fin 35) else 0)
    (fun p => ⟨⟨p.val, by omega⟩, dif_pos p.isLt⟩)]
  refine feat_congr (fun _ _ => rfl) (fun _ => rfl) (hv4 m ρ c x4 h4) (hv5 m ρ c x4 h4) (fun _ => rfl) (hv6 m ρ c x6 h6) (hv7 m ρ c x6 h6) (fun _ => rfl) (fun p k => ?_) rfl
  exact (hv3 m ρ c x0 h0 n p k).trans (dif_pos hn)

end Cert.KernelIdeal.Value
end
-- ==== Proof.Scat.lean ====
module

public import proofs.«01_k».proof.Proof.IRun
public import Idealize.ShloMosaic.Lib.Pointwise
public import Idealize.ShloMosaic.Lib.Pipeline.ValueKit
public import Idealize.ShloMosaic.Lib.Routing.OpsPair

@[expose] public section

set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.KernelIdeal.Run

/-- A fold over positions none of which is a hit leaves its start. -/
theorem fold_none {α : Type} {N : ℕ} (f : α → α → α) (hit : Fin N → Prop) [DecidablePred hit] (v : Fin N → α) :
    ∀ (l : List (Fin N)) (a : α), (∀ n ∈ l, ¬ hit n) → l.foldl (fun a n => if hit n then f a (v n) else a) a = a
  | [], a, _ => rfl
  | x :: l, a, h => by
    rw [List.foldl_cons, if_neg (h x List.mem_cons_self)]
    exact fold_none f hit v l a fun n hn => h n (List.mem_cons_of_mem _ hn)

/-- A fold in increasing order whose last hit is `n0`, and at which the last hit's value stands over whatever came before it. -/
theorem fold_last {α : Type} {N : ℕ} (f : α → α → α) (hit : Fin N → Prop) [DecidablePred hit] (v : Fin N → α) (n0 : Fin N) (h0 : hit n0)
    (hlast : ∀ n, n0 < n → ¬ hit n) (P : α → Prop) (hf : ∀ n, n < n0 → hit n → ∀ a, P a → P (f a (v n))) (hw : ∀ a, P a → f a (v n0) = v n0) :
    ∀ (l : List (Fin N)), l.Pairwise (· < ·) → n0 ∈ l → ∀ a, P a → l.foldl (fun a n => if hit n then f a (v n) else a) a = v n0
  | [], _, hm, _, _ => by cases hm
  | x :: l, hl, hm, a, ha => by
    rw [List.foldl_cons]
    rw [List.pairwise_cons] at hl
    rcases List.mem_cons.1 hm with e | hm'
    · subst e
      rw [if_pos h0, hw a ha]
      exact fold_none f hit v l _ fun n hn => hlast n (hl.1 n hn)
    · refine fold_last f hit v n0 h0 hlast P hf hw l hl.2 hm' _ ?_
      by_cases hx : hit x
      · rw [if_pos hx]; exact hf x (hl.1 n0 hm') hx a ha
      · rw [if_neg hx]; exact ha

/-- A scatter read at an element at which no update lands. -/
theorem scatter_none {α : Type} {s si u : Shape} {w : Nat} (d : ScatterDims s si u) (f : α → α → α) (x0 : s.Idx → α) (idx : IVec si w) (upd : u.Idx → α)
    (ι : s.Idx) (h : ∀ k, d.resultIdx? k idx ≠ some ι) : Host.scatter d f x0 idx upd ι = x0 ι := by
  rw [Routing.scatter_at]
  exact fold_none f (fun n => d.resultIdx? (u.rowMajor.symm n) idx = some ι) (fun n => upd (u.rowMajor.symm n)) _ _ fun n _ => h _

/-- A scatter read at an element whose last update, in row-major order, is `k0`. -/
theorem scatter_last {α : Type} {s si u : Shape} {w : Nat} (d : ScatterDims s si u) (f : α → α → α) (x0 : s.Idx → α) (idx : IVec si w) (upd : u.Idx → α)
    (ι : s.Idx) (k0 : u.Idx) (h0 : d.resultIdx? k0 idx = some ι) (hlast : ∀ k, d.resultIdx? k idx = some ι → u.rowMajor k ≤ u.rowMajor k0)
    (P : α → Prop) (hP : P (x0 ι)) (hf : ∀ k, d.resultIdx? k idx = some ι → u.rowMajor k < u.rowMajor k0 → ∀ a, P a → P (f a (upd k)))
    (hw : ∀ a, P a → f a (upd k0) = upd k0) : Host.scatter d f x0 idx upd ι = upd k0 := by
  rw [Routing.scatter_at]
  have := fold_last f (fun n => d.resultIdx? (u.rowMajor.symm n) idx = some ι) (fun n => upd (u.rowMajor.symm n)) (u.rowMajor k0)
    (by rw [Equiv.symm_apply_apply]; exact h0)
    (fun n hn h => absurd (hlast _ h) (by rw [Equiv.apply_symm_apply]; exact not_le.2 hn)) P
    (fun n hn h a ha => hf _ h (by rw [Equiv.apply_symm_apply]; exact hn) a ha) (fun a ha => by rw [Equiv.symm_apply_apply]; exact hw a ha)
    (List.finRange u.numel) (List.pairwise_lt_finRange _) (List.mem_finRange _) (x0 ι) hP
  rw [Equiv.symm_apply_apply] at this
  exact this

/-- The landing test of the owner table's scatter. -/
theorem lands_own (idx : IVec S12288x1 32) (n : Fin 12288) (r : Fin 78464) :
    scatter_S78464_S12288x1_S12288_n_0_0_1.resultIdx? (ix1 n) idx = some (ix1 r) ↔ (idx (ix2 n 0)).toInt = (r.val : Int) := by
  rw [Routing.resultIdx?_eq_some]
  have hs : scatter_S78464_S12288x1_S12288_n_0_0_1.start (ix1 n) idx 0 = (idx (ix2 n 0)).toInt := by
    unfold ScatterDims.start
    rw [dif_pos (by decide)]
    refine congrArg (fun i => (idx i).toInt) (funext fun b => ?_)
    match b with
    | ⟨0, _⟩ => rfl
    | ⟨1, _⟩ => rfl
  have hw : scatter_S78464_S12288x1_S12288_n_0_0_1.window (ix1 n) 0 = 0 := rfl
  constructor
  · intro h; have := h 0; rw [hs, hw] at this; simpa using this
  · intro h a
    match a with
    | ⟨0, _⟩ => rw [show (⟨0, by decide⟩ : Fin 1) = 0 from rfl, hs, hw]; simpa using h

/-- The landing test of the feature scatter. -/
theorem lands_row (idx : IVec S12288x1 32) (n : Fin 12288) (j : Fin 128) (r : Fin 78464) (ch : Fin 128) :
    scatter_S78464x128_S12288x1_S12288x128_1_0_0_1.resultIdx? (ix2 n j) idx = some (ix2 r ch) ↔ (idx (ix2 n 0)).toInt = (r.val : Int) ∧ j = ch := by
  rw [Routing.resultIdx?_eq_some]
  have hs : scatter_S78464x128_S12288x1_S12288x128_1_0_0_1.start (ix2 n j) idx 0 = (idx (ix2 n 0)).toInt := by
    unfold ScatterDims.start
    rw [dif_pos (by decide)]
    refine congrArg (fun i => (idx i).toInt) (funext fun b => ?_)
    match b with
    | ⟨0, _⟩ => rfl
    | ⟨1, _⟩ => rfl
  have hs1 : scatter_S78464x128_S12288x1_S12288x128_1_0_0_1.start (ix2 n j) idx 1 = 0 := rfl
  have hw : scatter_S78464x128_S12288x1_S12288x128_1_0_0_1.window (ix2 n j) 0 = 0 := rfl
  have hw1 : scatter_S78464x128_S12288x1_S12288x128_1_0_0_1.window (ix2 n j) 1 = j.val := rfl
  constructor
  · intro h
    have a0 := h 0; have a1 := h 1
    rw [hs, hw] at a0; rw [hs1, hw1] at a1
    refine ⟨by simpa using a0, Fin.ext ?_⟩
    have a1' : (0 : Int) + (j.val : Int) = (ch.val : Int) := a1
    omega
  · rintro ⟨h, rfl⟩ a
    match a with
    | ⟨0, _⟩ => rw [show (⟨0, by decide⟩ : Fin 2) = 0 from rfl, hs, hw]; simpa using h
    | ⟨1, _⟩ => rw [show (⟨1, by decide⟩ : Fin 2) = 1 from rfl, hs1, hw1]; exact zero_add _

end Cert.KernelIdeal.Value
end
-- ==== Proof.Grid.lean ====
module

public import proofs.«01_k».proof.Proof.Scat
public import Idealize.ShloMosaic.Lib.Routing.OpsSet

@[expose] public section

set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.KernelIdeal.Run

open Idealize.ShloMosaic.StableHlo

/-- Every index names a cell of the grid. -/
def Ok (I : IVec S12000x4 32) : Prop := ∀ n : Fin 12000, (I (ix2 n 0)).toNat = 0 ∧ (I (ix2 n 1)).toNat < 100 ∧ (I (ix2 n 2)).toNat < 88 ∧ (I (ix2 n 3)).toNat < 8

/-- The padded grid's row of a cell. -/
def cellRow (y x z : ℕ) : ℕ := ((y + 1) * 96 + (x + 1)) * 8 + z

/-- The padded grid's row a voxel goes to; the rows past the last voxel go to one row that nothing reads. -/
def key (I : IVec S12000x4 32) (n : Fin 12288) : ℕ :=
  if h : n.val < 12000 then cellRow (I (ix2 (⟨n.val, h⟩ : Fin 12000) 1)).toNat (I (ix2 (⟨n.val, h⟩ : Fin 12000) 2)).toNat (I (ix2 (⟨n.val, h⟩ : Fin 12000) 3)).toNat else 78336

theorem key_le (I : IVec S12000x4 32) (hI : Ok I) (n : Fin 12288) : key I n ≤ 78336 := by
  unfold key
  by_cases h : n.val < 12000
  · rw [dif_pos h]
    have := hI ⟨n.val, h⟩
    unfold cellRow
    omega
  · rw [dif_neg h]

theorem toInt_small (q : ℕ) (h : q < 2 ^ 31) : (BitVec.ofNat 32 q).toInt = (q : Int) := by
  rw [BitVec.toInt_eq_toNat_of_lt (by rw [BitVec.toNat_ofNat]; omega), BitVec.toNat_ofNat]
  congr 1
  omega

theorem slt_small (p q : ℕ) (hp : p < 2 ^ 31) (hq : q < 2 ^ 31) : (BitVec.ofNat 32 p).slt (BitVec.ofNat 32 q) = decide (p < q) := by
  rw [BitVec.slt_eq_decide, toInt_small p hp, toInt_small q hq]
  exact decide_eq_decide.2 (by omega)

/-- The word of a voxel's row. -/
theorem key_word (I : IVec S12000x4 32) (hI : Ok I) (n : Fin 12288) (a b d : BitVec 32)
    (ha : ∀ h : n.val < 12000, a = I (ix2 (⟨n.val, h⟩ : Fin 12000) 1)) (hb : ∀ h : n.val < 12000, b = I (ix2 (⟨n.val, h⟩ : Fin 12000) 2))
    (hd : ∀ h : n.val < 12000, d = I (ix2 (⟨n.val, h⟩ : Fin 12000) 3)) :
    Scalar.select (IntOp.cmpi .slt (BitVec.ofNat 32 n.val) 12000#32) (IntOp.addi (Scalar.muli (IntOp.addi (Scalar.muli (IntOp.addi a 1#32) 96#32) (IntOp.addi b 1#32)) 8#32) d) 78336#32
      = BitVec.ofNat 32 (key I n) := by
  have hc : IntOp.cmpi .slt (BitVec.ofNat 32 n.val) 12000#32 = BitVec.ofBool (decide (n.val < 12000)) := by
    show BitVec.ofBool ((BitVec.ofNat 32 n.val).slt (BitVec.ofNat 32 12000)) = _
    rw [slt_small _ _ (by omega) (by decide)]
  rw [hc]
  unfold key
  by_cases h : n.val < 12000
  · rw [dif_pos h, decide_eq_true h]
    have hi := hI ⟨n.val, h⟩
    rw [← ha h, ← hb h, ← hd h] at hi ⊢
    show (((a + 1#32) * 96#32 + (b + 1#32)) * 8#32 + d) = _
    apply BitVec.eq_of_toNat_eq
    simp only [BitVec.toNat_add, BitVec.toNat_mul, BitVec.toNat_ofNat, cellRow]
    omega
  · rw [dif_neg h, decide_eq_false h]
    rfl

variable (m : (ℓ : Loc nD τ sig) → Buf (Elt Ideal) ℓ) (ρ : Dev nD → PrngReg)

theorem hv9 (c : Dev nD) (n : Fin 12288) : (W12 m ρ c (Proc.devRef .tc main_v9) : IVec S12288 32) (ix1 n) = BitVec.ofNat 32 n.val := by
  rw [show W12 m ρ c (Proc.devRef .tc main_v9) = W5 m ρ c (Proc.devRef .tc main_v9) from
    (W12_of m ρ c main_v9 (by decide)).trans ((W11_of m ρ c main_v9 (by decide)).trans ((W10_of m ρ c main_v9 (by decide)).trans ((W9_of m ρ c main_v9 (by decide)).trans
      ((W8_of m ρ c main_v9 (by decide)).trans ((W7_of m ρ c main_v9 (by decide)).trans (W6_of m ρ c main_v9 (by decide)))))))]
  simp only [W5, hostOps1]
  after_results_simp
  pointwise []

theorem hv31 (c : Dev nD) (I : IVec S12000x4 32) (hI : m ((c : Thread nD τ).loc main_arg1) = I) (hok : Ok I) (n : Fin 12288) :
    (W12 m ρ c (Proc.devRef .tc main_v31) : IVec S12288 32) (ix1 n) = BitVec.ofNat 32 (key I n) := by
  have h4 : W4 m ρ c (Proc.devRef .tc main_arg1) = I := (W4_args m ρ c main_arg1 (by decide)).trans hI
  simp only [W12, W11, W10, W9, W8, W7, W6, W5, hostOps1, hostOps1_1, hostOps1_2, hostOps1_3, hostOps1_4, hostOps1_5, hostOps1_6, hostOps1_7, TRef.ternary, TRef.binary, TRef.nullary, TRef.unary, TRef.toBuf, TRef.ofBuf, cast_eq]
  after_results_simp
  rw [h4]
  pointwise []
  refine key_word I hok n _ _ _ (fun h => ?_) (fun h => ?_) (fun h => ?_)
  all_goals rw [dif_pos h]

/-- `n0` is the last voxel whose row is `r`. -/
def Last (K : Fin 12288 → ℕ) (r : ℕ) (n0 : Fin 12288) : Prop := K n0 = r ∧ ∀ n, K n = r → n ≤ n0

theorem exists_last (K : Fin 12288 → ℕ) (n : Fin 12288) : ∃ n0, Last K (K n) n0 := by
  obtain ⟨n0, h0, hmax⟩ := (Finset.univ.filter fun q => K q = K n).exists_max_image id ⟨n, Finset.mem_filter.2 ⟨Finset.mem_univ _, rfl⟩⟩
  exact ⟨n0, (Finset.mem_filter.1 h0).2, fun q hq => hmax q (Finset.mem_filter.2 ⟨Finset.mem_univ _, hq⟩)⟩

theorem last_unique {K : Fin 12288 → ℕ} {r : ℕ} {a b : Fin 12288} (ha : Last K r a) (hb : Last K r b) : a = b :=
  le_antisymm (hb.2 a ha.1) (ha.2 b hb.1)

/-- The greater of two small words. -/
theorem maxsi_small (p q : ℕ) (hp : p < 2 ^ 31) (hq : q < 2 ^ 31) : IntOp.maxsi (BitVec.ofNat 32 p) (BitVec.ofNat 32 q) = BitVec.ofNat 32 (max p q) := by
  unfold IntOp.maxsi
  rw [slt_small q p hq hp]
  by_cases h : q < p
  · rw [decide_eq_true h, if_pos rfl, max_eq_left h.le]
  · rw [decide_eq_false h, if_neg Bool.false_ne_true, max_eq_right (not_lt.1 h)]

/-- The owner table: at a row some voxel goes to, the last such voxel's number plus one. -/
theorem own_hit (K : Fin 12288 → ℕ) (hK : ∀ n, K n < 78464) (x0 : IVec S78464 32) (idx : IVec S12288x1 32) (upd : IVec S12288 32)
    (hx : ∀ i, x0 i = BitVec.ofNat 32 0) (hidx : ∀ n, idx (ix2 n 0) = BitVec.ofNat 32 (K n)) (hupd : ∀ n : Fin 12288, upd (ix1 n) = BitVec.ofNat 32 (n.val + 1))
    (r : Fin 78464) (n0 : Fin 12288) (hl : Last K r.val n0) :
    Host.scatter scatter_S78464_S12288x1_S12288_n_0_0_1 IntOp.maxsi x0 idx upd (ix1 r) = BitVec.ofNat 32 (n0.val + 1) := by
  have land : ∀ n, scatter_S78464_S12288x1_S12288_n_0_0_1.resultIdx? (ix1 n) idx = some (ix1 r) ↔ K n = r.val := fun n => by
    rw [lands_own, hidx, toInt_small _ (by have := hK n; omega)]; omega
  have rm : ∀ n : Fin 12288, (S12288.rowMajor (ix1 n)).val = n.val := fun n => Shape.rowMajor_val_one (d := ![12288]) (ix1 n)
  refine (scatter_last _ _ x0 idx upd (ix1 r) (ix1 n0) ((land n0).2 hl.1) (fun k hk => ?_) (fun a => ∃ q, q ≤ n0.val + 1 ∧ a = BitVec.ofNat 32 q) ⟨0, Nat.zero_le _, hx _⟩
    (fun k hk hlt a => ?_) ?_).trans (hupd n0)
  · obtain ⟨n, rfl⟩ : ∃ n : Fin 12288, k = ix1 n := ⟨k 0, (ix1_eta k).symm⟩
    have := hl.2 n ((land n).1 hk)
    exact Fin.le_def.2 (by rw [rm, rm]; exact this)
  · obtain ⟨n, rfl⟩ : ∃ n : Fin 12288, k = ix1 n := ⟨k 0, (ix1_eta k).symm⟩
    have hle := hl.2 n ((land n).1 hk)
    have hle' : n.val ≤ n0.val := hle
    rintro ⟨q, hq, rfl⟩
    rw [hupd, maxsi_small _ _ (by omega) (by omega)]
    exact ⟨_, by omega, rfl⟩
  · rintro a ⟨q, hq, rfl⟩
    rw [hupd, maxsi_small _ _ (by omega) (by omega), max_eq_right hq]

theorem take_own (x : IVec S78464 32) (idx : IVec S12288x1 32) (n : Fin 12288) (r : Fin 78464) (h : idx (ix2 n 0) = BitVec.ofNat 32 r.val) :
    Host.gather gather_S78464_S12288x1_S12288_n_0_n_n_0_1_1 x idx (ix1 n) = x (ix1 r) := by
  rw [ix1_eq_valueIdx, ix1_eq_valueIdx]
  exact Routing.gather_take1 _ rfl rfl rfl rfl x idx n r (by rw [← ix2_eq_valueIdx]; exact h) (by decide)

theorem wrap_small (q : ℕ) (h : q < 2 ^ 31) (a : BitVec 32) : Scalar.select (IntOp.cmpi .slt (BitVec.ofNat 32 q) 0#32) a (BitVec.ofNat 32 q) = BitVec.ofNat 32 q :=
  Routing.wrap_of_lt _ _ (by rw [BitVec.toNat_ofNat]; omega)

/-- The column of row words, as jnp wraps a negative index. -/
def idxOf (X : IVec S12288 32) : IVec S12288x1 32 :=
  broadcastInDim S12288x1 ![0] bcast_S12288_S12288x1_0 (select (cmpi .slt X (broadcastInDim S12288 ![] bcast_S_S12288 (constantI S_ 32 0#32)))
    (addi X (broadcastInDim S12288 ![] bcast_S_S12288 (constantI S_ 32 78464#32))) X)

theorem idxOf_at (X : IVec S12288 32) (n : Fin 12288) (q : ℕ) (hq : q < 2 ^ 31) (h : X (ix1 n) = BitVec.ofNat 32 q) : idxOf X (ix2 n 0) = BitVec.ofNat 32 q := by
  pointwise [idxOf]
  rw [h]
  exact wrap_small q hq _

/-- One more than each word. -/
def nextOf (X : IVec S12288 32) : IVec S12288 32 := addi X (broadcastInDim S12288 ![] bcast_S_S12288 (constantI S_ 32 1#32))

theorem nextOf_at (X : IVec S12288 32) (n : Fin 12288) (h : X (ix1 n) = BitVec.ofNat 32 n.val) : nextOf X (ix1 n) = BitVec.ofNat 32 (n.val + 1) := by
  pointwise [nextOf]
  rw [h, BitVec.ofNat_add]
  rfl

theorem st8_eq (U : Valuation τ sig (Elt Ideal)) : (after hostOps1_8 U (Proc.devRef .tc main_v51) : IVec S12288 1)
    = cmpi .eq (Host.gather gather_S78464_S12288x1_S12288_n_0_n_n_0_1_1 (Host.scatter scatter_S78464_S12288x1_S12288_n_0_0_1 IntOp.maxsi
        (broadcastInDim S78464 ![] bcast_S_S78464 (constantI S_ 32 0#32)) (idxOf (U (Proc.devRef .tc main_v31))) (nextOf (U (Proc.devRef .tc main_v9)))) (idxOf (U (Proc.devRef .tc main_v31))))
      (nextOf (U (Proc.devRef .tc main_v9))) := by
  simp only [hostOps1_8]
  after_results_simp
  rfl

theorem st8_c (U : Valuation τ sig (Elt Ideal)) : (after hostOps1_8 U (Proc.devRef .tc main_c_17) : IVec S_ 32) = constantI S_ 32 78336#32 := by
  simp only [hostOps1_8]
  after_results_simp

/-- The stage from the row words to the test whether a voxel is its row's last. -/
theorem st8 (X31 X9 : IVec S12288 32) (K : Fin 12288 → ℕ) (hK : ∀ n, K n ≤ 78336)
    (h31 : ∀ n, X31 (ix1 n) = BitVec.ofNat 32 (K n)) (h9 : ∀ n : Fin 12288, X9 (ix1 n) = BitVec.ofNat 32 n.val) (n : Fin 12288) (n0 : Fin 12288) (hl : Last K (K n) n0) :
    (cmpi .eq (Host.gather gather_S78464_S12288x1_S12288_n_0_n_n_0_1_1 (Host.scatter scatter_S78464_S12288x1_S12288_n_0_0_1 IntOp.maxsi
        (broadcastInDim S78464 ![] bcast_S_S78464 (constantI S_ 32 0#32)) (idxOf X31) (nextOf X9)) (idxOf X31)) (nextOf X9) : IVec S12288 1) (ix1 n) = BitVec.ofBool (decide (n0 = n)) := by
  have hidx : ∀ q, idxOf X31 (ix2 q 0) = BitVec.ofNat 32 (K q) := fun q => idxOf_at X31 q _ (by have := hK q; omega) (h31 q)
  have hupd : ∀ q : Fin 12288, nextOf X9 (ix1 q) = BitVec.ofNat 32 (q.val + 1) := fun q => nextOf_at X9 q (h9 q)
  generalize idxOf X31 = A at *
  generalize nextOf X9 = B at *
  have hs := own_hit K (fun q => by have := hK q; omega) (broadcastInDim S78464 ![] bcast_S_S78464 (constantI S_ 32 0#32)) A B (fun i => rfl) hidx hupd
    ⟨K n, by have := hK n; omega⟩ n0 hl
  generalize Host.scatter scatter_S78464_S12288x1_S12288_n_0_0_1 IntOp.maxsi (broadcastInDim S78464 ![] bcast_S_S78464 (constantI S_ 32 0#32)) A B = T at *
  have ht := take_own T A n ⟨K n, by have := hK n; omega⟩ (hidx n)
  have e : ∀ (G B : IVec S12288 32) i, (cmpi .eq G B : IVec S12288 1) i = BitVec.ofBool (G i == B i) := fun G B i => rfl
  rw [e, ht, hs, hupd]
  congr 1
  rw [Bool.eq_iff_iff, beq_iff_eq, decide_eq_true_iff]
  constructor
  · intro e
    have e' := congrArg BitVec.toNat e
    rw [BitVec.toNat_ofNat, BitVec.toNat_ofNat] at e'
    exact Fin.ext (by omega)
  · rintro rfl; rfl

/-- The row words after the stage that sends every voxel that is not its row's last to the row nothing reads. -/
theorem hv52 (c : Dev nD) (I : IVec S12000x4 32) (hI : m ((c : Thread nD τ).loc main_arg1) = I) (hok : Ok I) (n n0 : Fin 12288) (hl : Last (key I) (key I n) n0) :
    (W14 m ρ c (Proc.devRef .tc main_v52) : IVec S12288 32) (ix1 n) = BitVec.ofNat 32 (if n0 = n then key I n else 78336) := by
  have h31 := hv31 m ρ c I hI hok
  have h51 : (W13 m ρ c (Proc.devRef .tc main_v51) : IVec S12288 1) (ix1 n) = BitVec.ofBool (decide (n0 = n)) :=
    (congrFun (st8_eq (W12 m ρ c)) _).trans (st8 _ _ (key I) (key_le I hok) h31 (hv9 m ρ c) n n0 hl)
  have h31' : (W13 m ρ c (Proc.devRef .tc main_v31) : IVec S12288 32) (ix1 n) = BitVec.ofNat 32 (key I n) :=
    (congrFun (W13_of m ρ c main_v31 (by decide)) _).trans (h31 n)
  have h17 : (W13 m ρ c (Proc.devRef .tc main_c_17) : IVec S_ 32) ix0 = 78336#32 := congrFun (st8_c (W12 m ρ c)) _
  have e : ∀ U : Valuation τ sig (Elt Ideal), (after hostOps1_9 U (Proc.devRef .tc main_v52) : IVec S12288 32) (ix1 n)
      = Scalar.select ((U (Proc.devRef .tc main_v51) : IVec S12288 1) (ix1 n)) ((U (Proc.devRef .tc main_v31) : IVec S12288 32) (ix1 n)) ((U (Proc.devRef .tc main_c_17) : IVec S_ 32) ix0) := by
    intro U
    simp only [hostOps1_9, TRef.ternary, TRef.binary, TRef.nullary, TRef.unary, TRef.toBuf, TRef.ofBuf, cast_eq]
    after_results_simp
    pointwise []
    rfl
  refine (e (W13 m ρ c)).trans ?_
  rw [h51, h31', h17]
  by_cases hn : n0 = n
  · rw [if_pos hn, decide_eq_true hn]; rfl
  · rw [if_neg hn, decide_eq_false hn]; rfl

theorem v60_eq (U : Valuation τ sig (Elt Ideal)) : (after hostOps1_10 U (Proc.devRef .tc main_v60) : FVec Ideal S78464x128 .f32)
    = Host.scatter scatter_S78464x128_S12288x1_S12288x128_1_0_0_1 (fun _ b => b) (broadcastInDim S78464x128 ![] bcast_S_S78464x128 (constant (F := Ideal) S_ .f32 0x00000000#32))
        (idxOf (U (Proc.devRef .tc main_v52))) (U (Proc.devRef .tc main_v8) : FVec Ideal S12288x128 .f32) := by
  simp only [hostOps1_10]
  after_results_simp
  rfl

/-- The landing test of the scatter into the grid, at a row that is read. -/
theorem grid_land (K : Fin 12288 → ℕ) (hK : ∀ n, K n ≤ 78336) (A : IVec S12288x1 32) (hA : ∀ n n0, Last K (K n) n0 → A (ix2 n 0) = BitVec.ofNat 32 (if n0 = n then K n else 78336))
    (n : Fin 12288) (j ch : Fin 128) (r : Fin 78464) (hr : r.val < 78336) :
    scatter_S78464x128_S12288x1_S12288x128_1_0_0_1.resultIdx? (ix2 n j) A = some (ix2 r ch) ↔ Last K r.val n ∧ j = ch := by
  rw [lands_row]
  obtain ⟨n0, hl⟩ := exists_last K n
  have hKn := hK n
  rw [hA n n0 hl, toInt_small _ (by split <;> omega)]
  refine and_congr_left fun _ => ?_
  constructor
  · intro e
    by_cases hn : n0 = n
    · rw [if_pos hn] at e
      have e' : K n = r.val := by omega
      rw [← e', ← hn]; rw [← hn] at hl; exact hl
    · rw [if_neg hn] at e; omega
  · intro h
    have h1 := h.1
    rw [h1] at hl
    rw [if_pos (last_unique hl h), h1]

/-- The grid the first convolution reads: at a row that is read, the features of the last voxel that goes there, or zero. -/
theorem grid_hit (K : Fin 12288 → ℕ) (hK : ∀ n, K n ≤ 78336) (A : IVec S12288x1 32) (hA : ∀ n n0, Last K (K n) n0 → A (ix2 n 0) = BitVec.ofNat 32 (if n0 = n then K n else 78336))
    (x0 upd) (r : Fin 78464) (hr : r.val < 78336) (ch : Fin 128) (n : Fin 12288) (hl : Last K r.val n) :
    (Host.scatter scatter_S78464x128_S12288x1_S12288x128_1_0_0_1 (fun _ b => b) x0 A upd : FVec Ideal S78464x128 .f32) (ix2 r ch) = upd (ix2 n ch) := by
  refine Routing.scatter_set_hit _ x0 A upd _ _ (fun k hk => ?_) (ix2 n ch) ((grid_land K hK A hA n ch ch r hr).2 ⟨hl, rfl⟩)
  obtain ⟨n', j, rfl⟩ : ∃ (n' : Fin 12288) (j : Fin 128), k = ix2 n' j := ⟨k 0, k 1, (ix2_eta k).symm⟩
  obtain ⟨h1, rfl⟩ := (grid_land K hK A hA n' j ch r hr).1 hk
  rw [last_unique h1 hl]

theorem grid_miss (K : Fin 12288 → ℕ) (hK : ∀ n, K n ≤ 78336) (A : IVec S12288x1 32) (hA : ∀ n n0, Last K (K n) n0 → A (ix2 n 0) = BitVec.ofNat 32 (if n0 = n then K n else 78336))
    (x0 upd) (r : Fin 78464) (hr : r.val < 78336) (ch : Fin 128) (h : ∀ n, K n ≠ r.val) :
    (Host.scatter scatter_S78464x128_S12288x1_S12288x128_1_0_0_1 (fun _ b => b) x0 A upd : FVec Ideal S78464x128 .f32) (ix2 r ch) = x0 (ix2 r ch) := by
  refine Routing.scatter_set_miss _ x0 A upd _ fun k hk => ?_
  obtain ⟨n', j, rfl⟩ : ∃ (n' : Fin 12288) (j : Fin 128), k = ix2 n' j := ⟨k 0, k 1, (ix2_eta k).symm⟩
  exact h n' ((grid_land K hK A hA n' j ch r hr).1 hk).1.1

/-- The grid of the kernel at a row that is read. -/
theorem hv60 (c : Dev nD) (I : IVec S12000x4 32) (hI : m ((c : Thread nD τ).loc main_arg1) = I) (hok : Ok I) (r : Fin 78464) (hr : r.val < 78336) (ch : Fin 128) :
    (∀ n, Last (key I) r.val n → (W15 m ρ c (Proc.devRef .tc main_v60) : FVec Ideal S78464x128 .f32) (ix2 r ch) = (W4 m ρ c (Proc.devRef .tc main_v8) : FVec Ideal S12288x128 .f32) (ix2 n ch))
    ∧ ((∀ n, key I n ≠ r.val) → (W15 m ρ c (Proc.devRef .tc main_v60) : FVec Ideal S78464x128 .f32) (ix2 r ch) = (0 : EReal)) := by
  have hA : ∀ n n0, Last (key I) (key I n) n0 → idxOf (W14 m ρ c (Proc.devRef .tc main_v52)) (ix2 n 0) = BitVec.ofNat 32 (if n0 = n then key I n else 78336) := fun n n0 hl =>
    idxOf_at _ n _ (by have := key_le I hok n; split <;> omega) (hv52 m ρ c I hI hok n n0 hl)
  have e8 : W14 m ρ c (Proc.devRef .tc main_v8) = W4 m ρ c (Proc.devRef .tc main_v8) :=
    (W14_of m ρ c main_v8 (by decide)).trans ((W13_of m ρ c main_v8 (by decide)).trans ((W12_of m ρ c main_v8 (by decide)).trans ((W11_of m ρ c main_v8 (by decide)).trans ((W10_of m ρ c main_v8 (by decide)).trans
      ((W9_of m ρ c main_v8 (by decide)).trans ((W8_of m ρ c main_v8 (by decide)).trans ((W7_of m ρ c main_v8 (by decide)).trans ((W6_of m ρ c main_v8 (by decide)).trans (W5_of m ρ c main_v8 (by decide))))))))))
  have e60 := v60_eq (W14 m ρ c)
  rw [e8] at e60
  constructor
  · intro n hl
    exact (congrFun e60 _).trans (grid_hit (key I) (key_le I hok) _ hA _ _ r hr ch n hl)
  · intro h
    refine (congrFun e60 _).trans ((grid_miss (key I) (key_le I hok) _ hA _ _ r hr ch h).trans ?_)
    pointwise []

end Cert.KernelIdeal.Value
end
-- ==== Proof.RGrid.lean ====
module

public import proofs.«01_k».proof.Proof.Scat
public import proofs.«01_k».proof.Proof.RFeat

@[expose] public section

set_option maxRecDepth 16384
noncomputable section
open Idealize.ShloMosaic Idealize.ShloMosaic.TcCoe Idealize.SL.Sem
namespace Cert.ReferenceIdeal.Value
open Cert.ReferenceIdeal Cert.ReferenceIdeal.Gen

/-- The voxel `n` names the grid's cell at depth `z`, row `y`, column `x`. -/
def Hit (I : IVec S12000x4 32) (z : Fin 8) (y : Fin 100) (x : Fin 88) (n : Fin 12000) : Prop :=
  (I (ix2 n 0)).toInt = 0 ∧ (I (ix2 n 1)).toInt = (y.val : Int) ∧ (I (ix2 n 2)).toInt = (x.val : Int) ∧ (I (ix2 n 3)).toInt = (z.val : Int)

/-- The landing test of the reference's scatter. -/
theorem lands_grid (I : IVec S12000x4 32) (n : Fin 12000) (j : Fin 128) (c : Fin 128) (z : Fin 8) (y : Fin 100) (x : Fin 88) :
    scatter_S1x128x8x100x88_S12000x4_S12000x128_1_0234_0342_1.resultIdx? (ix2 n j) I = some (ix5 (0 : Fin 1) c z y x) ↔ j = c ∧ Hit I z y x n := by
  rw [Routing.resultIdx?_eq_some]
  have s1 : scatter_S1x128x8x100x88_S12000x4_S12000x128_1_0234_0342_1.start (ix2 n j) I 1 = 0 := rfl
  have s0 : scatter_S1x128x8x100x88_S12000x4_S12000x128_1_0234_0342_1.start (ix2 n j) I 0 = (I (ix2 n 0)).toInt := by
    unfold ScatterDims.start
    rw [dif_pos (by decide)]
    refine congrArg (fun i => (I i).toInt) (funext fun b => ?_)
    match b with
    | ⟨0, _⟩ => rfl
    | ⟨1, _⟩ => rfl
  have s3 : scatter_S1x128x8x100x88_S12000x4_S12000x128_1_0234_0342_1.start (ix2 n j) I 3 = (I (ix2 n 1)).toInt := by
    unfold ScatterDims.start
    rw [dif_pos (by decide)]
    refine congrArg (fun i => (I i).toInt) (funext fun b => ?_)
    match b with
    | ⟨0, _⟩ => rfl
    | ⟨1, _⟩ => rfl
  have s4 : scatter_S1x128x8x100x88_S12000x4_S12000x128_1_0234_0342_1.start (ix2 n j) I 4 = (I (ix2 n 2)).toInt := by
    unfold ScatterDims.start
    rw [dif_pos (by decide)]
    refine congrArg (fun i => (I i).toInt) (funext fun b => ?_)
    match b with
    | ⟨0, _⟩ => rfl
    | ⟨1, _⟩ => rfl
  have s2 : scatter_S1x128x8x100x88_S12000x4_S12000x128_1_0234_0342_1.start (ix2 n j) I 2 = (I (ix2 n 3)).toInt := by
    unfold ScatterDims.start
    rw [dif_pos (by decide)]
    refine congrArg (fun i => (I i).toInt) (funext fun b => ?_)
    match b with
    | ⟨0, _⟩ => rfl
    | ⟨1, _⟩ => rfl
  have w0 : scatter_S1x128x8x100x88_S12000x4_S12000x128_1_0234_0342_1.window (ix2 n j) 0 = 0 := rfl
  have w1 : scatter_S1x128x8x100x88_S12000x4_S12000x128_1_0234_0342_1.window (ix2 n j) 1 = j.val := rfl
  have w2 : scatter_S1x128x8x100x88_S12000x4_S12000x128_1_0234_0342_1.window (ix2 n j) 2 = 0 := rfl
  have w3 : scatter_S1x128x8x100x88_S12000x4_S12000x128_1_0234_0342_1.window (ix2 n j) 3 = 0 := rfl
  have w4 : scatter_S1x128x8x100x88_S12000x4_S12000x128_1_0234_0342_1.window (ix2 n j) 4 = 0 := rfl
  constructor
  · intro h
    have a0 := h 0; have a1 := h 1; have a2 := h 2; have a3 := h 3; have a4 := h 4
    rw [s0, w0] at a0; rw [s1, w1] at a1; rw [s2, w2] at a2; rw [s3, w3] at a3; rw [s4, w4] at a4
    have a1' : (0 : Int) + (j.val : Int) = (c.val : Int) := a1
    exact ⟨Fin.ext (by omega), by simpa using a0, by simpa using a3, by simpa using a4, by simpa using a2⟩
  · rintro ⟨rfl, h0, h1, h2, h3⟩ a
    match a with
    | ⟨0, _⟩ => rw [show (⟨0, by decide⟩ : Fin 5) = 0 from rfl, s0, w0, h0]; rfl
    | ⟨1, _⟩ => rw [show (⟨1, by decide⟩ : Fin 5) = 1 from rfl, s1, w1]; exact zero_add _
    | ⟨2, _⟩ => rw [show (⟨2, by decide⟩ : Fin 5) = 2 from rfl, s2, w2, h3]; exact add_zero _
    | ⟨3, _⟩ => rw [show (⟨3, by decide⟩ : Fin 5) = 3 from rfl, s3, w3, h1]; exact add_zero _
    | ⟨4, _⟩ => rw [show (⟨4, by decide⟩ : Fin 5) = 4 from rfl, s4, w4, h2]; exact add_zero _

/-- The reference's grid before padding: the last voxel that names a cell gives its features, a cell that no voxel names is zero. -/
theorem rgrid (x0 : FVec Ideal S1x128x8x100x88 .f32) (I : IVec S12000x4 32) (upd : FVec Ideal S12000x128 .f32) (c : Fin 128) (z : Fin 8) (y : Fin 100) (x : Fin 88) :
    (∀ n0, Hit I z y x n0 → (∀ n, Hit I z y x n → n ≤ n0) →
      Host.scatter scatter_S1x128x8x100x88_S12000x4_S12000x128_1_0234_0342_1 (fun _ b => b) x0 I upd (ix5 (0 : Fin 1) c z y x) = upd (ix2 n0 c))
    ∧ ((∀ n, ¬ Hit I z y x n) →
      Host.scatter scatter_S1x128x8x100x88_S12000x4_S12000x128_1_0234_0342_1 (fun _ b => b) x0 I upd (ix5 (0 : Fin 1) c z y x) = x0 (ix5 (0 : Fin 1) c z y x)) := by
  constructor
  · intro n0 h0 hl
    refine Cert.KernelIdeal.Value.scatter_last _ _ x0 I upd _ (ix2 n0 c) ((lands_grid I n0 c c z y x).2 ⟨rfl, h0⟩) (fun k hk => ?_)
      (fun _ => True) trivial (fun _ _ _ _ _ => trivial) fun _ _ => rfl
    obtain ⟨n, j, rfl⟩ : ∃ (n : Fin 12000) (j : Fin 128), k = ix2 n j := ⟨k 0, k 1, (ix2_eta k).symm⟩
    obtain ⟨rfl, hn⟩ := (lands_grid I n j c z y x).1 hk
    have := hl n hn
    rw [Fin.le_def, ix2_eq_valueIdx, ix2_eq_valueIdx, Shape.rowMajor_val_two, Shape.rowMajor_val_two]
    have h2 : n.val ≤ n0.val := this
    show n.val * 128 + j.val ≤ n0.val * 128 + j.val
    omega
  · intro h
    refine Cert.KernelIdeal.Value.scatter_none _ _ x0 I upd _ fun k hk => ?_
    obtain ⟨n, j, rfl⟩ : ∃ (n : Fin 12000) (j : Fin 128), k = ix2 n j := ⟨k 0, k 1, (ix2_eta k).symm⟩
    exact h n ((lands_grid I n j c z y x).1 hk).2

/-- The padded grid, read off the scatter's result. -/
theorem pad0 (Y : FVec Ideal S1x128x8x100x88 .f32) (c : Fin 128) (z : Fin 10) (y : Fin 102) (x : Fin 90) :
    pad S128x10x102x90 ![0, 1, 1, 1] ![0, 1, 1, 1] ![0, 0, 0, 0] (shapeCast _ Y shapeCasts_S1x128x8x100x88_S128x8x100x88) (constant (F := Ideal) S_ .f32 0x00000000#32) pads_S128x8x100x88_S128x10x102x90_000_110_110_110 h_S_ (ix4 c z y x)
      = if h : (1 ≤ z.val ∧ z.val - 1 < 8) ∧ (1 ≤ y.val ∧ y.val - 1 < 100) ∧ 1 ≤ x.val ∧ x.val - 1 < 88 then
          Y (ix5 (0 : Fin 1) c (⟨z.val - 1, h.1.2⟩ : Fin 8) (⟨y.val - 1, h.2.1.2⟩ : Fin 100) (⟨x.val - 1, h.2.2.2⟩ : Fin 88))
        else (0 : EReal) := by
  pointwise []

/-- The padded grid in the arguments and the voxels' features. -/
theorem r22 (V0 : Valuation τ sig (Elt Ideal)) (c : Fin 128) (z : Fin 10) (y : Fin 102) (x : Fin 90) :
    (res_main_v22 V0 : FVec Ideal S128x10x102x90 .f32) (ix4 c z y x)
      = if h : (1 ≤ z.val ∧ z.val - 1 < 8) ∧ (1 ≤ y.val ∧ y.val - 1 < 100) ∧ 1 ≤ x.val ∧ x.val - 1 < 88 then
          Host.scatter scatter_S1x128x8x100x88_S12000x4_S12000x128_1_0234_0342_1 (fun _ b => b) (broadcastInDim S1x128x8x100x88 ![] bcast_S_S1x128x8x100x88 (constant (F := Ideal) S_ .f32 0x00000000#32))
            (V0 (Proc.devRef .tc main_arg1) : IVec S12000x4 32) (rvox V0) (ix5 (0 : Fin 1) c (⟨z.val - 1, h.1.2⟩ : Fin 8) (⟨y.val - 1, h.2.1.2⟩ : Fin 100) (⟨x.val - 1, h.2.2.2⟩ : Fin 88))
        else (0 : EReal) := by
  unfold res_main_v22
  exact pad0 _ c z y x

/-- The grid starts from zero. -/
theorem rzero (c : Fin 128) (z : Fin 8) (y : Fin 100) (x : Fin 88) :
    (broadcastInDim S1x128x8x100x88 ![] bcast_S_S1x128x8x100x88 (constant (F := Ideal) S_ .f32 0x00000000#32) : FVec Ideal S1x128x8x100x88 .f32) (ix5 (0 : Fin 1) c z y x) = (0 : EReal) := by
  pointwise []

end Cert.ReferenceIdeal.Value
end
-- ==== Proof.Join1.lean ====
module

public import proofs.«01_k».proof.Proof.Feat
public import proofs.«01_k».proof.Proof.Grid
public import proofs.«01_k».proof.Proof.RGrid

@[expose] public section

set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.KernelIdeal.Run
open Cert.ReferenceIdeal.Value (Hit rvox rgrid r22 rzero rvox_at)

/-- A small word's value is the same signed and unsigned. -/
theorem toInt_iff (a : BitVec 32) (q : ℕ) (h : a.toNat < 100) : a.toInt = (q : Int) ↔ a.toNat = q := by
  rw [BitVec.toInt_eq_toNat_of_lt (by omega)]; omega

/-- A voxel goes to the padded grid's row of a cell exactly if it names that cell. -/
theorem key_hit (I : IVec S12000x4 32) (hok : Ok I) (z : Fin 8) (y : Fin 100) (x : Fin 88) (n : Fin 12288) :
    key I n = cellRow y.val x.val z.val ↔ ∃ h : n.val < 12000, Hit I z y x ⟨n.val, h⟩ := by
  unfold key
  by_cases h : n.val < 12000
  · rw [dif_pos h]
    obtain ⟨h0, h1, h2, h3⟩ := hok ⟨n.val, h⟩
    have e : Hit I z y x ⟨n.val, h⟩ ↔ (I (ix2 (⟨n.val, h⟩ : Fin 12000) 1)).toNat = y.val ∧ (I (ix2 (⟨n.val, h⟩ : Fin 12000) 2)).toNat = x.val ∧ (I (ix2 (⟨n.val, h⟩ : Fin 12000) 3)).toNat = z.val := by
      unfold Hit
      rw [toInt_iff _ _ h1, toInt_iff _ _ (by omega : (I (ix2 (⟨n.val, h⟩ : Fin 12000) 2)).toNat < 100), toInt_iff _ _ (by omega : (I (ix2 (⟨n.val, h⟩ : Fin 12000) 3)).toNat < 100)]
      refine and_iff_right ?_
      exact (toInt_iff _ 0 (by omega)).2 h0
    constructor
    · intro q
      refine ⟨h, e.2 ?_⟩
      unfold cellRow at q
      omega
    · rintro ⟨_, q⟩
      obtain ⟨q1, q2, q3⟩ := e.1 q
      rw [q1, q2, q3]
  · rw [dif_neg h]
    constructor
    · intro q
      unfold cellRow at q
      omega
    · rintro ⟨q, _⟩
      exact absurd q h

/-- A row of the padded grid's border is no voxel's. -/
theorem key_border (I : IVec S12000x4 32) (hok : Ok I) (z : Fin 8) (y : Fin 102) (x : Fin 90) (hb : ¬ ((1 ≤ y.val ∧ y.val - 1 < 100) ∧ 1 ≤ x.val ∧ x.val - 1 < 88)) (n : Fin 12288) :
    key I n ≠ (y.val * 96 + x.val) * 8 + z.val := by
  unfold key
  by_cases h : n.val < 12000
  · rw [dif_pos h]
    obtain ⟨h0, h1, h2, h3⟩ := hok ⟨n.val, h⟩
    unfold cellRow
    omega
  · rw [dif_neg h]
    omega

variable (m : (ℓ : Loc nD τ sig) → Buf (Elt Ideal) ℓ) (ρ : Dev nD → PrngReg)

/-- The kernel's grid holds the reference's grid: row, column and depth in one axis, the border in rows and columns zero on both sides. -/
theorem grid_join (c : Dev nD) (I : IVec S12000x4 32) (hI : m ((c : Thread nD τ).loc main_arg1) = I) (hok : Ok I)
    (V0 : Valuation Cert.ReferenceIdeal.τ Cert.ReferenceIdeal.sig (Elt Ideal)) (hI' : (V0 (Proc.devRef .tc Cert.ReferenceIdeal.main_arg1) : IVec S12000x4 32) = I)
    (hv : ∀ (n : Fin 12288) (hn : n.val < 12000) (j : Fin 128), (W4 m ρ c (Proc.devRef .tc main_v8) : FVec Ideal S12288x128 .f32) (ix2 n j) = rvox V0 (ix2 (⟨n.val, hn⟩ : Fin 12000) j))
    (ch : Fin 128) (z : Fin 10) (y : Fin 102) (x : Fin 90) :
    (Cert.ReferenceIdeal.Value.res_main_v22 V0 : FVec Ideal Cert.ReferenceIdeal.S128x10x102x90 .f32) (ix4 ch z y x)
      = if h : 1 ≤ z.val ∧ z.val - 1 < 8 then
          (W15 m ρ c (Proc.devRef .tc main_v60) : FVec Ideal S78464x128 .f32) (ix2 (⟨(y.val * 96 + x.val) * 8 + (z.val - 1), by omega⟩ : Fin 78464) ch)
        else (0 : EReal) := by
  rw [r22, hI']
  by_cases hz : 1 ≤ z.val ∧ z.val - 1 < 8
  · rw [dif_pos hz]
    have hk := hv60 m ρ c I hI hok (⟨(y.val * 96 + x.val) * 8 + (z.val - 1), by omega⟩ : Fin 78464) (by show (y.val * 96 + x.val) * 8 + (z.val - 1) < 78336; omega) ch
    by_cases hb : (1 ≤ y.val ∧ y.val - 1 < 100) ∧ 1 ≤ x.val ∧ x.val - 1 < 88
    · rw [dif_pos ⟨hz, hb⟩]
      have er : (y.val * 96 + x.val) * 8 + (z.val - 1) = cellRow (y.val - 1) (x.val - 1) (z.val - 1) := by unfold cellRow; omega
      have hh := key_hit I hok ⟨z.val - 1, hz.2⟩ ⟨y.val - 1, hb.1.2⟩ ⟨x.val - 1, hb.2.2⟩
      have hg := rgrid (broadcastInDim Cert.ReferenceIdeal.S1x128x8x100x88 ![] Cert.ReferenceIdeal.Gen.bcast_S_S1x128x8x100x88 (constant (F := Ideal) Cert.ReferenceIdeal.S_ .f32 0x00000000#32))
        I (rvox V0) ch ⟨z.val - 1, hz.2⟩ ⟨y.val - 1, hb.1.2⟩ ⟨x.val - 1, hb.2.2⟩
      by_cases hx : ∃ n : Fin 12000, Hit I ⟨z.val - 1, hz.2⟩ ⟨y.val - 1, hb.1.2⟩ ⟨x.val - 1, hb.2.2⟩ n
      · obtain ⟨n, hn⟩ := hx
        have kn := (hh ⟨n.val, by omega⟩).2 ⟨n.isLt, hn⟩
        obtain ⟨n0, hl⟩ := exists_last (key I) ⟨n.val, by omega⟩
        rw [kn] at hl
        obtain ⟨h0, hn0⟩ := (hh n0).1 hl.1
        rw [hk.1 n0 (er.symm ▸ hl : Last (key I) ((y.val * 96 + x.val) * 8 + (z.val - 1)) n0), hv n0 h0 ch]
        refine hg.1 ⟨n0.val, h0⟩ hn0 fun n' hn' => ?_
        exact hl.2 ⟨n'.val, by omega⟩ ((hh ⟨n'.val, by omega⟩).2 ⟨n'.isLt, hn'⟩)
      · rw [hk.2 fun n hn => hx ?_]
        · exact (hg.2 fun n hn => hx ⟨n, hn⟩).trans (rzero ch _ _ _)
        · obtain ⟨h0, hn0⟩ := (hh n).1 (Eq.trans (hn : key I n = (y.val * 96 + x.val) * 8 + (z.val - 1)) er)
          exact ⟨_, hn0⟩
    · rw [dif_neg fun h => hb h.2, hk.2 fun n => key_border I hok ⟨z.val - 1, hz.2⟩ y x hb n]
  · rw [dif_neg fun h => hz h.1, dif_neg hz]

end Cert.KernelIdeal.Value
end
-- ==== Proof.Conv.lean ====
module

public import proofs.«01_k».proof.Proof.IReg01
public import proofs.«01_k».proof.Proof.IReg23
public import Idealize.ShloMosaic.Lib.Pointwise
public import Idealize.ShloMosaic.Lib.Pipeline.ValueKit

@[expose] public section

set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.KernelIdeal.Run

/-- The row test of the border mask, over every block row. -/
theorem row_word : ∀ (i : Fin 17) (y : Fin 6), IntOp.andi
    (IntOp.cmpi CmpIPredicate.sge (IntOp.addi (Scalar.muli (BitVec.ofNat 32 i.val) 6#32) (BitVec.ofNat 32 y.val)) 1#32)
    (IntOp.cmpi CmpIPredicate.sle (IntOp.addi (Scalar.muli (BitVec.ofNat 32 i.val) 6#32) (BitVec.ofNat 32 y.val)) 100#32)
      = if 1 ≤ 6 * i.val + y.val ∧ 6 * i.val + y.val ≤ 100 then 1#1 else 0#1 := by decide +kernel

/-- The column test of the border mask. -/
theorem col_word : ∀ (r : BitVec 1) (x : Fin 96), IntOp.andi (IntOp.andi r (IntOp.cmpi CmpIPredicate.sge (BitVec.ofNat 32 x.val) 1#32))
    (IntOp.cmpi CmpIPredicate.sle (BitVec.ofNat 32 x.val) 88#32)
      = if 1 ≤ x.val ∧ x.val ≤ 88 then r else 0#1 := by decide +kernel

theorem sitofp_one : (FloatOps.sitofp FTy.f32 (BitVec.setWidth 32 (1#1)) : Ideal .f32) = (1 : EReal) := by
  show (((BitVec.setWidth 32 (1#1)).toInt : ℝ) : EReal) = 1
  rw [show (BitVec.setWidth 32 (1#1)).toInt = 1 from by decide]; norm_num

theorem sitofp_zero : (FloatOps.sitofp FTy.f32 (BitVec.setWidth 32 (0#1)) : Ideal .f32) = (0 : EReal) := by
  show (((BitVec.setWidth 32 (0#1)).toInt : ℝ) : EReal) = 0
  rw [show (BitVec.setWidth 32 (0#1)).toInt = 0 from by decide]; norm_num

theorem mask1 (i : grid1.Coords) (y : Fin 6) (x : Fin 96) :
    k1_pay3 (F := Ideal) i (ix3 y x 0) = if (1 ≤ 6 * (i 0).val + y.val ∧ 6 * (i 0).val + y.val ≤ 100) ∧ 1 ≤ x.val ∧ x.val ≤ 88 then (1 : EReal) else 0 := by
  pointwise [k1_pay3]
  rw [show (i 0).val = (show Fin 17 from i 0).val from rfl, row_word, col_word]
  by_cases h : 1 ≤ 6 * (show Fin 17 from i 0).val + y.val ∧ 6 * (show Fin 17 from i 0).val + y.val ≤ 100 <;> by_cases h' : 1 ≤ x.val ∧ x.val ≤ 88
  · rw [if_pos h', if_pos h, if_pos ⟨h, h'⟩]; exact sitofp_one
  · rw [if_neg h', if_neg fun q => h' q.2]; exact sitofp_zero
  · rw [if_pos h', if_neg h, if_neg fun q => h q.1]; exact sitofp_zero
  · rw [if_neg h', if_neg fun q => h' q.2]; exact sitofp_zero

theorem mask2 (i : grid2.Coords) (y : Fin 6) (x : Fin 96) :
    k2_pay3 (F := Ideal) i (ix3 y x 0) = if (1 ≤ 6 * (i 0).val + y.val ∧ 6 * (i 0).val + y.val ≤ 100) ∧ 1 ≤ x.val ∧ x.val ≤ 88 then (1 : EReal) else 0 := by
  pointwise [k2_pay3]
  rw [show (i 0).val = (show Fin 17 from i 0).val from rfl, row_word, col_word]
  by_cases h : 1 ≤ 6 * (show Fin 17 from i 0).val + y.val ∧ 6 * (show Fin 17 from i 0).val + y.val ≤ 100 <;> by_cases h' : 1 ≤ x.val ∧ x.val ≤ 88
  · rw [if_pos h', if_pos h, if_pos ⟨h, h'⟩]; exact sitofp_one
  · rw [if_neg h', if_neg fun q => h' q.2]; exact sitofp_zero
  · rw [if_pos h', if_neg h, if_neg fun q => h q.1]; exact sitofp_zero
  · rw [if_neg h', if_neg fun q => h' q.2]; exact sitofp_zero

/-- The first convolution's block at an inner column: nine dot products, the bias, the clamp at zero, the border mask. -/
theorem out1_at (i : grid1.Coords) (x0 x1 x2 : FVec Ideal S4608x128 .f32) (x3 : FVec Ideal S9x1024x256 .f32) (x4 : FVec Ideal S256 .f32) (y : Fin 6) (x : Fin 88) (f : Fin 256) :
    out1_5 (F := Ideal) i x0 x1 x2 x3 x4 (ix3 y (⟨x.val + 1, by omega⟩ : Fin 96) f)
      = max ((∑ a : Fin 3, ∑ b : Fin 3, ∑ k : Fin 1024, k1_pay2 x0 x1 x2 (ix3 (⟨5 + a.val + y.val, by omega⟩ : Fin 18) (⟨x.val + b.val, by omega⟩ : Fin 96) k)
          * x3 (ix3 (⟨3 * a.val + b.val, by omega⟩ : Fin 9) k f)) + x4 (ix1 f)) 0 * k1_pay3 (F := Ideal) i (ix3 y (⟨x.val + 1, by omega⟩ : Fin 96) 0) := by
  unfold out1_5 k1_pay9
  frame_out
  pointwise [k1_pay1, k1_pay4, k1_pay5, k1_pay6, k1_pay7, k1_pay8]
  simp (disch := omega) only [dif_pos, dif_neg]
  simp only [Fin.sum_univ_three, ← add_assoc]
  generalize k1_pay2 (F := Ideal) x0 x1 x2 = X
  blk_point []
/-- The second convolution's block at an inner column: nine dot products, the bias, the clamp at zero, the border mask. -/
theorem out2_at (i : grid2.Coords) (x0 x1 x2 : FVec Ideal S6x96x256 .f32) (x3 : FVec Ideal S9x256x128 .f32) (x4 : FVec Ideal S128 .f32) (y : Fin 6) (x : Fin 88) (f : Fin 128) :
    out2_5 (F := Ideal) i x0 x1 x2 x3 x4 (ix3 y (⟨x.val + 1, by omega⟩ : Fin 96) f)
      = max ((∑ a : Fin 3, ∑ b : Fin 3, ∑ k : Fin 256, k2_pay2 x0 x1 x2 (ix3 (⟨5 + a.val + y.val, by omega⟩ : Fin 18) (⟨x.val + b.val, by omega⟩ : Fin 96) k)
          * x3 (ix3 (⟨3 * a.val + b.val, by omega⟩ : Fin 9) k f)) + x4 (ix1 f)) 0 * k2_pay3 (F := Ideal) i (ix3 y (⟨x.val + 1, by omega⟩ : Fin 96) 0) := by
  unfold out2_5 k2_pay9
  frame_out
  pointwise [k2_pay1, k2_pay4, k2_pay5, k2_pay6, k2_pay7, k2_pay8]
  simp (disch := omega) only [dif_pos, dif_neg]
  simp only [Fin.sum_univ_three, ← add_assoc]
  generalize k2_pay2 (F := Ideal) x0 x1 x2 = X
  blk_point []
set_option maxHeartbeats 1600000 in
/-- The last kernel's block at an inner column: the third convolution and the heads. -/
theorem out3_at (x0 x1 x2 : FVec Ideal S6x96x128 .f32) (x3 : FVec Ideal S9x128x128 .f32) (x4 : FVec Ideal S128 .f32) (x5 : FVec Ideal S128x20 .f32) (x6 : FVec Ideal S20 .f32) (y : Fin 6) (x : Fin 88) (q : Fin 20) :
    out3_7 (F := Ideal) x0 x1 x2 x3 x4 x5 x6 (ix3 y (⟨x.val + 1, by omega⟩ : Fin 96) q)
      = (∑ f : Fin 128, max ((∑ a : Fin 3, ∑ b : Fin 3, ∑ k : Fin 128, k3_pay1 x0 x1 x2 (ix3 (⟨5 + a.val + y.val, by omega⟩ : Fin 18) (⟨x.val + b.val, by omega⟩ : Fin 96) k)
          * x3 (ix3 (⟨3 * a.val + b.val, by omega⟩ : Fin 9) k f)) + x4 (ix1 f)) 0 * x5 (ix2 f q)) + x6 (ix1 q) := by
  unfold out3_7 k3_pay11
  frame_out
  pointwise [k3_pay10, k3_pay9, k3_pay8, k3_pay7, k3_pay6, k3_pay5, k3_pay4, k3_pay3, k3_pay2]
  simp only [show ((y.val * 96 + (x.val + 1)) % 96 : ℕ) = x.val + 1 by omega]
  simp (disch := omega) only [dif_pos, dif_neg]
  simp only [Fin.sum_univ_three, ← add_assoc]
  generalize k3_pay1 (F := Ideal) x0 x1 x2 = X
  blk_point []
end Cert.KernelIdeal.Value
end
-- ==== Proof.Bridge1.lean ====
module

public import proofs.«01_k».proof.Proof.Conv

@[expose] public section

set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.KernelIdeal.Run

variable (V : (c : Dev nD) → (b : Ref sig .tc) → Buf (Elt Ideal) ((c : Thread nD τ).loc b))

theorem idx1 : ∀ t : Fin cfg1.N, win1_0.index t = ![t.val - 1, 0] ∧ win1_1.index t = ![t.val, 0] ∧ win1_2.index t = ![min (t.val + 1) 16, 0] ∧ win1_3.index t = ![0, 0, 0]
    ∧ win1_4.index t = ![0] ∧ win1_5.index t = ![t.val, 0, 0] ∧ (grid1.coords t 0).val = t.val :=
  (by decide +kernel : ∀ t : Fin grid1.N, _)

/-- An inner column, as a column of the padded row. -/
abbrev up (x : Fin 88) : Fin 96 := ⟨x.val + 1, by omega⟩

/-- A block element whose mask is zero is zero. -/
theorem out1_border (i : grid1.Coords) (x0 x1 x2 : FVec Ideal S4608x128 .f32) (x3 : FVec Ideal S9x1024x256 .f32) (x4 : FVec Ideal S256 .f32) (y : Fin 6) (x : Fin 96) (f : Fin 256)
    (hm : k1_pay3 (F := Ideal) i (ix3 y x 0) = (0 : EReal)) : out1_5 (F := Ideal) i x0 x1 x2 x3 x4 (ix3 y x f) = (0 : EReal) := by
  unfold out1_5 k1_pay9
  frame_out
  pointwise [k1_pay1]
  generalize k1_pay3 (F := Ideal) i = M at *
  rw [hm]
  exact mul_zero _

set_option maxHeartbeats 1600000 in
/-- The rows a block of the first convolution sees, read off the grid array: the block row `y`, counted from the previous block's first row. -/
theorem rows1 (c : Dev nD) (t : Fin cfg1.N) (y : Fin 18) (x : Fin 96) (k : Fin 1024) (h0 : y.val < 6 → 0 < t.val) (h2 : 12 ≤ y.val → t.val < 16) :
    k1_pay2 (F := Ideal) (X1 V c 0 t) (X1 V c 1 t) (X1 V c 2 t) (ix3 y x k)
      = (V c main_v60 : FVec Ideal S78464x128 .f32) (ix2 (⟨((6 * t.val + y.val - 6) * 96 + x.val) * 8 + k.val / 128, by have := t.isLt; have : cfg1.N = 17 := rfl; omega⟩ : Fin 78464) (⟨k.val % 128, by omega⟩ : Fin 128)) := by
  have hN : t.val < 17 := t.isLt
  have hX0 : ∀ u v, (X1 V c 0 t (ix2 u v) = (V c main_v60 : FVec Ideal S78464x128 .f32) (ix2 (⟨4608 * (t.val - 1) + u.val, by omega⟩ : Fin 78464) v)) := by
    intro u v
    have hm : (cfg1.win 0).moved (cfg1.grid.coords t) (ix2 u v : S4608x128.Idx) = true :=
      ((cfg1.win 0).moved_iff _ _).mpr fun a => by
        have := ((ix2 u v : S4608x128.Idx) a).isLt; unfold Pipeline.Window.xsize; rw [show (cfg1.win 0).clip (cfg1.grid.coords t) a = none from clip1_0 _ a]; exact this
    unfold X1 Pipeline.Window.fill; rw [dif_pos hm]; unfold iblk1
    blk_ext [idx1 t]
  have hX1 : ∀ u v, (X1 V c 1 t (ix2 u v) = (V c main_v60 : FVec Ideal S78464x128 .f32) (ix2 (⟨4608 * t.val + u.val, by omega⟩ : Fin 78464) v)) := by
    intro u v
    have hm : (cfg1.win 1).moved (cfg1.grid.coords t) (ix2 u v : S4608x128.Idx) = true :=
      ((cfg1.win 1).moved_iff _ _).mpr fun a => by
        have := ((ix2 u v : S4608x128.Idx) a).isLt; unfold Pipeline.Window.xsize; rw [show (cfg1.win 1).clip (cfg1.grid.coords t) a = none from clip1_1 _ a]; exact this
    unfold X1 Pipeline.Window.fill; rw [dif_pos hm]; unfold iblk1
    blk_ext [idx1 t]
  have hX2 : ∀ u v, (X1 V c 2 t (ix2 u v) = (V c main_v60 : FVec Ideal S78464x128 .f32) (ix2 (⟨4608 * (min (t.val + 1) 16) + u.val, by omega⟩ : Fin 78464) v)) := by
    intro u v
    have hm : (cfg1.win 2).moved (cfg1.grid.coords t) (ix2 u v : S4608x128.Idx) = true :=
      ((cfg1.win 2).moved_iff _ _).mpr fun a => by
        have := ((ix2 u v : S4608x128.Idx) a).isLt; unfold Pipeline.Window.xsize; rw [show (cfg1.win 2).clip (cfg1.grid.coords t) a = none from clip1_2 _ a]; exact this
    unfold X1 Pipeline.Window.fill; rw [dif_pos hm]; unfold iblk1
    blk_ext [idx1 t]
  pointwise [k1_pay2]
  by_cases c0 : y.val < 6
  · rw [dif_pos c0, hX0]
    have := h0 c0
    congr 2
    exact Fin.ext (by simp only; omega)
  · rw [dif_neg c0]
    by_cases c1 : y.val - 6 < 6
    · rw [dif_pos c1, hX1]
      congr 2
      exact Fin.ext (by simp only; omega)
    · rw [dif_neg c1, hX2]
      have := h2 (by omega)
      congr 2
      exact Fin.ext (by simp only; omega)

/-- What the first convolution kernel leaves in its result: zero on the border, elsewhere the nine dot products over the grid's rows. -/
def conv1 (A : FVec Ideal S78464x128 .f32) (w : FVec Ideal S9x1024x256 .f32) (b : FVec Ideal S256 .f32) (r : Fin 102) (x : Fin 96) (f : Fin 256) : EReal :=
  if h : (1 ≤ r.val ∧ r.val ≤ 100) ∧ 1 ≤ x.val ∧ x.val ≤ 88 then
    max ((∑ a : Fin 3, ∑ b : Fin 3, ∑ k : Fin 1024, A (ix2 (⟨((r.val - 1 + a.val) * 96 + (x.val - 1 + b.val)) * 8 + k.val / 128, by omega⟩ : Fin 78464) (⟨k.val % 128, by omega⟩ : Fin 128))
      * w (ix3 (⟨3 * a.val + b.val, by omega⟩ : Fin 9) k f)) + b (ix1 f)) 0
  else 0

theorem wblk1 (c : Dev nD) (t : Fin cfg1.N) (p : Fin 9) (k : Fin 1024) (f : Fin 256) : iblk1 V c 3 t (ix3 p k f) = (V c main_v129 : FVec Ideal S9x1024x256 .f32) (ix3 p k f) := by
  blk_ext [iblk1, idx1 t]

theorem bblk1 (c : Dev nD) (t : Fin cfg1.N) (f : Fin 256) : iblk1 V c 4 t (ix1 f) = (V c main_v132 : FVec Ideal S256 .f32) (ix1 f) := by
  blk_ext [iblk1, idx1 t]

set_option maxHeartbeats 1600000 in
/-- The first convolution's whole result. -/
theorem reg1 (c : Dev nD) (A : FVec Ideal S78464x128 .f32) (w : FVec Ideal S9x1024x256 .f32) (b : FVec Ideal S256 .f32)
    (h0 : V c main_v60 = A) (h1 : V c main_v129 = w) (h2 : V c main_v132 = b) :
    (dat1 V c).arrAt 5 cfg1.N = (fun i : S102x96x256.Idx => conv1 A w b (i 0) (i 1) (i 2)) := by
  subst h0 h1 h2
  refine (dat1 V c).arrAt_eq_of_covers 5 _ (by decide +kernel) fun t _ y => ?_
  blk_simp
  rw [after1_5]
  idx_vars y
  have hN : t.val < 17 := t.isLt
  have e0 : ((((View.whole main_v133).slice (win1_5.rect t)).emb (ix3 y0 y1 y2)) 0) = (⟨6 * t.val + y0.val, by omega⟩ : Fin 102) := by
    refine Fin.ext (Eq.trans (b := t.val * 6 + y0.val) (by blk_simp [idx1 t]) (by simp only; omega))
  have e1 : ((((View.whole main_v133).slice (win1_5.rect t)).emb (ix3 y0 y1 y2)) 1) = y1 := by
    apply Fin.ext; blk_simp [idx1 t]
  have e2 : ((((View.whole main_v133).slice (win1_5.rect t)).emb (ix3 y0 y1 y2)) 2) = y2 := by
    apply Fin.ext; blk_simp [idx1 t]
  refine Eq.trans ?_ (congr (congr (congrArg (conv1 (V c main_v60) (V c main_v129) (V c main_v132)) e0) e1) e2).symm
  have hm := mask1 (grid1.coords t) y0 y1
  rw [(idx1 t).2.2.2.2.2.2] at hm
  unfold conv1
  by_cases h : (1 ≤ 6 * t.val + y0.val ∧ 6 * t.val + y0.val ≤ 100) ∧ 1 ≤ y1.val ∧ y1.val ≤ 88
  · rw [dif_pos h]
    rw [if_pos h] at hm
    obtain ⟨x, rfl⟩ : ∃ x : Fin 88, y1 = up x := ⟨⟨y1.val - 1, by omega⟩, Fin.ext (by simp only; omega)⟩
    refine (out1_at _ _ _ _ _ _ y0 x y2).trans ?_
    rw [hm, mul_one]
    refine congrArg₂ max (congrArg₂ (· + ·) ?_ (bblk1 V c t y2)) rfl
    refine Finset.sum_congr rfl fun a _ => Finset.sum_congr rfl fun b _ => Finset.sum_congr rfl fun k _ => ?_
    refine congrArg₂ (· * ·) ((rows1 V c t _ _ _ (by simp only; omega) (by simp only; omega)).trans ?_) (wblk1 V c t _ k y2)
    refine congrArg₂ (fun p q => (V c main_v60 : FVec Ideal S78464x128 .f32) (ix2 p q)) (Fin.ext ?_) rfl
    simp only
    omega
  · rw [dif_neg h]
    rw [if_neg h] at hm
    exact out1_border _ _ _ _ _ _ _ _ _ hm
end Cert.KernelIdeal.Value
end
-- ==== Proof.Bridge2.lean ====
module

public import proofs.«01_k».proof.Proof.Bridge1

@[expose] public section

set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.KernelIdeal.Run

variable (V : (c : Dev nD) → (b : Ref sig .tc) → Buf (Elt Ideal) ((c : Thread nD τ).loc b))

theorem idx2 : ∀ t : Fin cfg2.N, win2_0.index t = ![t.val - 1, 0, 0] ∧ win2_1.index t = ![t.val, 0, 0] ∧ win2_2.index t = ![min (t.val + 1) 16, 0, 0] ∧ win2_3.index t = ![0, 0, 0]
    ∧ win2_4.index t = ![0] ∧ win2_5.index t = ![t.val, 0, 0] ∧ (grid2.coords t 0).val = t.val :=
  (by decide +kernel : ∀ t : Fin grid2.N, _)

/-- A block element whose mask is zero is zero. -/
theorem out2_border (i : grid2.Coords) (x0 x1 x2 : FVec Ideal S6x96x256 .f32) (x3 : FVec Ideal S9x256x128 .f32) (x4 : FVec Ideal S128 .f32) (y : Fin 6) (x : Fin 96) (f : Fin 128)
    (hm : k2_pay3 (F := Ideal) i (ix3 y x 0) = (0 : EReal)) : out2_5 (F := Ideal) i x0 x1 x2 x3 x4 (ix3 y x f) = (0 : EReal) := by
  unfold out2_5 k2_pay9
  frame_out
  pointwise [k2_pay1]
  generalize k2_pay3 (F := Ideal) i = M at *
  rw [hm]
  exact mul_zero _

set_option maxHeartbeats 1600000 in
/-- The rows a block of this convolution sees, read off its input: the block row `y`, counted from the previous block's first row. -/
theorem rows2 (c : Dev nD) (t : Fin cfg2.N) (y : Fin 18) (x : Fin 96) (k : Fin 256) (h0 : y.val < 6 → 0 < t.val) (h2 : 12 ≤ y.val → t.val < 16) :
    k2_pay2 (F := Ideal) (iblk2 V c 0 t) (iblk2 V c 1 t) (iblk2 V c 2 t) (ix3 y x k)
      = (V c main_v133 : FVec Ideal S102x96x256 .f32) (ix3 (⟨6 * t.val + y.val - 6, by have := t.isLt; have : cfg2.N = 17 := rfl; omega⟩ : Fin 102) x k) := by
  have hN : t.val < 17 := t.isLt
  have hX0 : ∀ (u : Fin 6) (x : Fin 96) (v : Fin 256), iblk2 V c 0 t (ix3 u x v) = (V c main_v133 : FVec Ideal S102x96x256 .f32) (ix3 (⟨6 * (t.val - 1) + u.val, by omega⟩ : Fin 102) x v) := by
    intro u x v
    blk_ext [iblk2, idx2 t]
  have hX1 : ∀ (u : Fin 6) (x : Fin 96) (v : Fin 256), iblk2 V c 1 t (ix3 u x v) = (V c main_v133 : FVec Ideal S102x96x256 .f32) (ix3 (⟨6 * t.val + u.val, by omega⟩ : Fin 102) x v) := by
    intro u x v
    blk_ext [iblk2, idx2 t]
  have hX2 : ∀ (u : Fin 6) (x : Fin 96) (v : Fin 256), iblk2 V c 2 t (ix3 u x v) = (V c main_v133 : FVec Ideal S102x96x256 .f32) (ix3 (⟨6 * (min (t.val + 1) 16) + u.val, by omega⟩ : Fin 102) x v) := by
    intro u x v
    blk_ext [iblk2, idx2 t]
  pointwise [k2_pay2]
  by_cases c0 : y.val < 6
  · rw [dif_pos c0, hX0]
    have := h0 c0
    congr 2
    exact Fin.ext (by simp only; omega)
  · rw [dif_neg c0]
    by_cases c1 : y.val - 6 < 6
    · rw [dif_pos c1, hX1]
      congr 2
      exact Fin.ext (by simp only; omega)
    · rw [dif_neg c1, hX2]
      have := h2 (by omega)
      congr 2
      exact Fin.ext (by simp only; omega)

/-- What the second convolution kernel leaves in its result: zero on the border, elsewhere the nine dot products over its input's rows. -/
def conv2 (A : FVec Ideal S102x96x256 .f32) (w : FVec Ideal S9x256x128 .f32) (b : FVec Ideal S128 .f32) (r : Fin 102) (x : Fin 96) (f : Fin 128) : EReal :=
  if h : (1 ≤ r.val ∧ r.val ≤ 100) ∧ 1 ≤ x.val ∧ x.val ≤ 88 then
    max ((∑ a : Fin 3, ∑ b : Fin 3, ∑ k : Fin 256, A (ix3 (⟨r.val - 1 + a.val, by omega⟩ : Fin 102) (⟨x.val - 1 + b.val, by omega⟩ : Fin 96) k)
      * w (ix3 (⟨3 * a.val + b.val, by omega⟩ : Fin 9) k f)) + b (ix1 f)) 0
  else 0

theorem wblk2 (c : Dev nD) (t : Fin cfg2.N) (p : Fin 9) (k : Fin 256) (f : Fin 128) : iblk2 V c 3 t (ix3 p k f) = (V c main_v166 : FVec Ideal S9x256x128 .f32) (ix3 p k f) := by
  blk_ext [iblk2, idx2 t]

theorem bblk2 (c : Dev nD) (t : Fin cfg2.N) (f : Fin 128) : iblk2 V c 4 t (ix1 f) = (V c main_v169 : FVec Ideal S128 .f32) (ix1 f) := by
  blk_ext [iblk2, idx2 t]

set_option maxHeartbeats 1600000 in
/-- The second convolution's whole result. -/
theorem reg2 (c : Dev nD) (A : FVec Ideal S102x96x256 .f32) (w : FVec Ideal S9x256x128 .f32) (b : FVec Ideal S128 .f32)
    (h0 : V c main_v133 = A) (h1 : V c main_v166 = w) (h2 : V c main_v169 = b) :
    (dat2 V c).arrAt 5 cfg2.N = (fun i : S102x96x128.Idx => conv2 A w b (i 0) (i 1) (i 2)) := by
  subst h0 h1 h2
  refine (dat2 V c).arrAt_eq_of_covers 5 _ (by decide +kernel) fun t _ y => ?_
  blk_simp
  rw [after2_5]
  idx_vars y
  have hN : t.val < 17 := t.isLt
  have e0 : ((((View.whole main_v170).slice (win2_5.rect t)).emb (ix3 y0 y1 y2)) 0) = (⟨6 * t.val + y0.val, by omega⟩ : Fin 102) := by
    refine Fin.ext (Eq.trans (b := t.val * 6 + y0.val) (by blk_simp [idx2 t]) (by simp only; omega))
  have e1 : ((((View.whole main_v170).slice (win2_5.rect t)).emb (ix3 y0 y1 y2)) 1) = y1 := by
    apply Fin.ext; blk_simp [idx2 t]
  have e2 : ((((View.whole main_v170).slice (win2_5.rect t)).emb (ix3 y0 y1 y2)) 2) = y2 := by
    apply Fin.ext; blk_simp [idx2 t]
  refine Eq.trans ?_ (congr (congr (congrArg (conv2 (V c main_v133) (V c main_v166) (V c main_v169)) e0) e1) e2).symm
  have hm := mask2 (grid2.coords t) y0 y1
  rw [(idx2 t).2.2.2.2.2.2] at hm
  unfold conv2
  by_cases h : (1 ≤ 6 * t.val + y0.val ∧ 6 * t.val + y0.val ≤ 100) ∧ 1 ≤ y1.val ∧ y1.val ≤ 88
  · rw [dif_pos h]
    rw [if_pos h] at hm
    obtain ⟨x, rfl⟩ : ∃ x : Fin 88, y1 = up x := ⟨⟨y1.val - 1, by omega⟩, Fin.ext (by simp only; omega)⟩
    refine (out2_at _ _ _ _ _ _ y0 x y2).trans ?_
    rw [hm, mul_one]
    refine congrArg₂ max (congrArg₂ (· + ·) ?_ (bblk2 V c t y2)) rfl
    refine Finset.sum_congr rfl fun a _ => Finset.sum_congr rfl fun b _ => Finset.sum_congr rfl fun k _ => ?_
    refine congrArg₂ (· * ·) ((rows2 V c t _ _ _ (by simp only; omega) (by simp only; omega)).trans ?_) (wblk2 V c t _ k y2)
    refine congrArg₂ (fun p q => (V c main_v133 : FVec Ideal S102x96x256 .f32) (ix3 p q k)) (Fin.ext ?_) (Fin.ext ?_) <;> (simp only; omega)
  · rw [dif_neg h]
    rw [if_neg h] at hm
    exact out2_border _ _ _ _ _ _ _ _ _ hm
end Cert.KernelIdeal.Value
end
-- ==== Proof.WScat.lean ====
module

public import proofs.«01_k».proof.Proof.Scat

@[expose] public section

set_option maxRecDepth 16384
noncomputable section
open Idealize.ShloMosaic Idealize.ShloMosaic.TcCoe Idealize.SL.Sem
namespace Cert.KernelIdeal.Value
open Cert.KernelIdeal Cert.KernelIdeal.Gen Cert.KernelIdeal.Run

/-- The landing test of a scatter that sets one (depth, output depth) slice of a banded weight. -/
theorem lands_band {Z C D O : ℕ} (d : ScatterDims ⟨6, ![3, 3, Z, C, D, O]⟩ ⟨1, ![2]⟩ ⟨4, ![3, 3, C, O]⟩)
    (e1 : d.updateWindowDims = [0, 1, 2, 3]) (e2 : d.insertedWindowDims = [2, 4]) (e3 : d.scatterDimsToOperandDims = [2, 4]) (e4 : d.indexVectorDim = 0)
    (idx : IVec ⟨1, ![2]⟩ 32) (k : Shape.Idx ⟨4, ![3, 3, C, O]⟩) (ι : Shape.Idx ⟨6, ![3, 3, Z, C, D, O]⟩) :
    d.resultIdx? k idx = some ι ↔ (k 0 = ι 0 ∧ k 1 = ι 1 ∧ k 2 = ι 3 ∧ k 3 = ι 5) ∧ (idx (ix1 0)).toInt = ((ι 2).val : Int) ∧ (idx (ix1 1)).toInt = ((ι 4).val : Int) := by
  obtain ⟨uw, iw, sd, iv, wf⟩ := d
  dsimp only at e1 e2 e3 e4
  subst e1 e2 e3 e4
  rw [Routing.resultIdx?_eq_some]
  set d : ScatterDims ⟨6, ![3, 3, Z, C, D, O]⟩ ⟨1, ![2]⟩ ⟨4, ![3, 3, C, O]⟩ := ⟨[0, 1, 2, 3], [2, 4], [2, 4], 0, wf⟩ with hd
  have s0 : d.start k idx 0 = 0 := rfl
  have s1 : d.start k idx 1 = 0 := rfl
  have s3 : d.start k idx 3 = 0 := rfl
  have s5 : d.start k idx 5 = 0 := rfl
  have s2 : d.start k idx 2 = (idx (ix1 0)).toInt := by
    unfold ScatterDims.start
    rw [dif_pos (show (2 : Fin 6) ∈ d.scatterDimsToOperandDims from List.Mem.head _)]
    refine congrArg (fun i => (idx i).toInt) (funext fun b => ?_)
    match b with
    | ⟨0, _⟩ => rfl
  have s4 : d.start k idx 4 = (idx (ix1 1)).toInt := by
    unfold ScatterDims.start
    rw [dif_pos (show (4 : Fin 6) ∈ d.scatterDimsToOperandDims from List.Mem.tail _ (List.Mem.head _))]
    refine congrArg (fun i => (idx i).toInt) (funext fun b => ?_)
    match b with
    | ⟨0, _⟩ => rfl
  have w0 : d.window k 0 = (k 0).val := rfl
  have w1 : d.window k 1 = (k 1).val := rfl
  have w2 : d.window k 2 = 0 := rfl
  have w3 : d.window k 3 = (k 2).val := rfl
  have w4 : d.window k 4 = 0 := rfl
  have w5 : d.window k 5 = (k 3).val := rfl
  constructor
  · intro h
    have a0 := h 0; have a1 := h 1; have a2 := h 2; have a3 := h 3; have a4 := h 4; have a5 := h 5
    rw [s0, w0] at a0; rw [s1, w1] at a1; rw [s2, w2] at a2; rw [s3, w3] at a3; rw [s4, w4] at a4; rw [s5, w5] at a5
    refine ⟨⟨Fin.ext ?_, Fin.ext ?_, Fin.ext ?_, Fin.ext ?_⟩, by simpa using a2, by simpa using a4⟩
    · have : (0 : Int) + ((k 0).val : Int) = ((ι 0).val : Int) := a0
      omega
    · have : (0 : Int) + ((k 1).val : Int) = ((ι 1).val : Int) := a1
      omega
    · have : (0 : Int) + ((k 2).val : Int) = ((ι 3).val : Int) := a3
      omega
    · have : (0 : Int) + ((k 3).val : Int) = ((ι 5).val : Int) := a5
      omega
  · rintro ⟨⟨b0, b1, b2, b3⟩, c2, c4⟩ a
    match a with
    | ⟨0, _⟩ => rw [show (⟨0, by decide⟩ : Fin 6) = 0 from rfl, s0, w0, b0]; exact zero_add _
    | ⟨1, _⟩ => rw [show (⟨1, by decide⟩ : Fin 6) = 1 from rfl, s1, w1, b1]; exact zero_add _
    | ⟨2, _⟩ => rw [show (⟨2, by decide⟩ : Fin 6) = 2 from rfl, s2, w2, c2]; exact add_zero _
    | ⟨3, _⟩ => rw [show (⟨3, by decide⟩ : Fin 6) = 3 from rfl, s3, w3, b2]; exact zero_add _
    | ⟨4, _⟩ => rw [show (⟨4, by decide⟩ : Fin 6) = 4 from rfl, s4, w4, c4]; exact add_zero _
    | ⟨5, _⟩ => rw [show (⟨5, by decide⟩ : Fin 6) = 5 from rfl, s5, w5, b3]; exact zero_add _

/-- Such a scatter read at one element. -/
theorem band_at {Z C D O : ℕ} (d : ScatterDims ⟨6, ![3, 3, Z, C, D, O]⟩ ⟨1, ![2]⟩ ⟨4, ![3, 3, C, O]⟩)
    (e1 : d.updateWindowDims = [0, 1, 2, 3]) (e2 : d.insertedWindowDims = [2, 4]) (e3 : d.scatterDimsToOperandDims = [2, 4]) (e4 : d.indexVectorDim = 0)
    (x0 : Shape.Idx ⟨6, ![3, 3, Z, C, D, O]⟩ → EReal) (idx : IVec ⟨1, ![2]⟩ 32) (upd : Shape.Idx ⟨4, ![3, 3, C, O]⟩ → EReal) (zv dv : ℕ)
    (hz : (idx (ix1 0)).toInt = (zv : Int)) (hv : (idx (ix1 1)).toInt = (dv : Int)) (ι : Shape.Idx ⟨6, ![3, 3, Z, C, D, O]⟩) :
    Host.scatter d (fun _ b => b) x0 idx upd ι
      = if (ι 2).val = zv ∧ (ι 4).val = dv then upd (ix4 (ι 0) (ι 1) (ι 3) (ι 5)) else x0 ι := by
  by_cases h : (ι 2).val = zv ∧ (ι 4).val = dv
  · rw [if_pos h]
    refine scatter_last d _ x0 idx upd ι (ix4 (ι 0) (ι 1) (ι 3) (ι 5)) ((lands_band d e1 e2 e3 e4 idx _ ι).2 ⟨⟨rfl, rfl, rfl, rfl⟩, ?_, ?_⟩) (fun k hk => ?_)
      (fun _ => True) trivial (fun _ _ _ _ _ => trivial) fun _ _ => rfl
    · rw [hz, h.1]
    · rw [hv, h.2]
    · obtain ⟨⟨b0, b1, b2, b3⟩, _⟩ := (lands_band d e1 e2 e3 e4 idx _ ι).1 hk
      refine le_of_eq (congrArg _ (funext fun a => ?_))
      match a with
      | ⟨0, _⟩ => exact b0
      | ⟨1, _⟩ => exact b1
      | ⟨2, _⟩ => exact b2
      | ⟨3, _⟩ => exact b3
  · rw [if_neg h]
    refine scatter_none d _ x0 idx upd ι fun k hk => h ?_
    obtain ⟨_, c2, c4⟩ := (lands_band d e1 e2 e3 e4 idx _ ι).1 hk
    rw [hz] at c2; rw [hv] at c4
    exact ⟨by exact_mod_cast c2.symm, by exact_mod_cast c4.symm⟩

end Cert.KernelIdeal.Value
end
-- ==== Proof.W2.lean ====
module

public import proofs.«01_k».proof.Proof.WScat

@[expose] public section

set_option maxRecDepth 16384
noncomputable section
open Idealize.ShloMosaic Idealize.ShloMosaic.TcCoe Idealize.SL.Sem
namespace Cert.KernelIdeal.Value
open Cert.KernelIdeal Cert.KernelIdeal.Gen Cert.KernelIdeal.Run

open Idealize.ShloMosaic.StableHlo

/-- The tap, along depth, that joins input depth `z` to output depth `d`, if there is one. -/
def tap (g : Fin 3 → EReal) (z d : ℕ) : EReal := if h : 2 * d ≤ z + 1 ∧ z + 1 - 2 * d < 3 then g ⟨z + 1 - 2 * d, h.2⟩ else 0

theorem tap2 (g : Fin 3 → EReal) (z d : ℕ) (hz : z < 4) (hd : d < 2) :
    (if z = 3 ∧ d = 1 then g 2 else if z = 2 ∧ d = 1 then g 1 else if z = 1 ∧ d = 1 then g 0 else if z = 1 ∧ d = 0 then g 2 else if z = 0 ∧ d = 0 then g 1 else 0)
      = tap g z d := by
  unfold tap
  interval_cases z <;> interval_cases d <;> simp <;> rfl

theorem tap1 (g : Fin 3 → EReal) (z d : ℕ) (hz : z < 8) (hd : d < 4) :
    (if z = 7 ∧ d = 3 then g 2 else if z = 6 ∧ d = 3 then g 1 else if z = 5 ∧ d = 3 then g 0 else if z = 5 ∧ d = 2 then g 2 else if z = 4 ∧ d = 2 then g 1
      else if z = 3 ∧ d = 2 then g 0 else if z = 3 ∧ d = 1 then g 2 else if z = 2 ∧ d = 1 then g 1 else if z = 1 ∧ d = 1 then g 0 else if z = 1 ∧ d = 0 then g 2
      else if z = 0 ∧ d = 0 then g 1 else 0)
      = tap g z d := by
  unfold tap
  interval_cases z <;> interval_cases d <;> simp <;> rfl

/-- The second convolution's banded weight, one slice after another. -/
theorem v166_at (U : Valuation τ sig (Elt Ideal)) (p : Fin 9) (k : Fin 256) (f : Fin 128) :
    (after hostOps2 U (Proc.devRef .tc main_v166) : FVec Ideal S9x256x128 .f32) (ix3 p k f)
      = tap (fun dz => (U (Proc.devRef .tc main_arg10) : FVec Ideal S64x64x3x3x3 .f32)
          (ix5 (⟨f.val % 64, by omega⟩ : Fin 64) (⟨k.val % 64, by omega⟩ : Fin 64) dz (⟨p.val / 3, by omega⟩ : Fin 3) (⟨p.val % 3, by omega⟩ : Fin 3))) (k.val / 64) (f.val / 64) := by
  simp only [hostOps2]
  after_results_simp
  pointwise []
  rw [band_at _ rfl rfl rfl rfl _ _ _ 3 1 (by pointwise []; after_results_simp; pointwise []; rfl) (by pointwise []; after_results_simp; pointwise []; rfl),
    band_at _ rfl rfl rfl rfl _ _ _ 2 1 (by pointwise []; after_results_simp; pointwise []; rfl) (by pointwise []; after_results_simp; pointwise []; rfl),
    band_at _ rfl rfl rfl rfl _ _ _ 1 1 (by pointwise []; after_results_simp; pointwise []; rfl) (by pointwise []; after_results_simp; pointwise []; rfl),
    band_at _ rfl rfl rfl rfl _ _ _ 1 0 (by pointwise []; after_results_simp; pointwise []; rfl) (by pointwise []; after_results_simp; pointwise []; rfl),
    band_at _ rfl rfl rfl rfl _ _ _ 0 0 (by pointwise []; after_results_simp; pointwise []; rfl) (by pointwise []; after_results_simp; pointwise []; rfl),
    ← tap2 _ _ _ (by omega) (by omega)]
  pointwise []
  try rfl

/-- The second convolution's bias, tiled over the output depths. -/
theorem v169_at (U : Valuation τ sig (Elt Ideal)) (f : Fin 128) :
    (after hostOps2 U (Proc.devRef .tc main_v169) : FVec Ideal S128 .f32) (ix1 f)
      = (U (Proc.devRef .tc main_arg11) : FVec Ideal S64 .f32) (ix1 (⟨f.val % 64, by omega⟩ : Fin 64)) := by
  simp only [hostOps2]
  after_results_simp
  pointwise []

end Cert.KernelIdeal.Value
end
-- ==== Proof.Sums.lean ====
module

public import proofs.«01_k».proof.Proof.W2

@[expose] public section

set_option maxRecDepth 16384
noncomputable section
open Idealize.ShloMosaic Idealize.ShloMosaic.TcCoe Idealize.SL.Sem
namespace Cert.KernelIdeal.Value
open Cert.KernelIdeal Cert.KernelIdeal.Gen Cert.KernelIdeal.Run

/-- A sum over eight depths against banded weights is the sum over the band's three taps, a tap off the grid reading zero. -/
theorem band8 (g : Fin 3 → EReal) (a : Fin 8 → EReal) (d : ℕ) (hd : d < 4) :
    ∑ z : Fin 8, a z * tap g z.val d = ∑ dz : Fin 3, g dz * (if h : 1 ≤ 2 * d + dz.val ∧ 2 * d + dz.val - 1 < 8 then a ⟨2 * d + dz.val - 1, h.2⟩ else 0) := by
  rw [Fin.sum_univ_eight, Fin.sum_univ_three]
  simp only [mul_comm (a _)]
  interval_cases d <;> simp [tap] <;> abel

/-- The same over four depths. -/
theorem band4 (g : Fin 3 → EReal) (a : Fin 4 → EReal) (d : ℕ) (hd : d < 2) :
    ∑ z : Fin 4, a z * tap g z.val d = ∑ dz : Fin 3, g dz * (if h : 1 ≤ 2 * d + dz.val ∧ 2 * d + dz.val - 1 < 4 then a ⟨2 * d + dz.val - 1, h.2⟩ else 0) := by
  rw [Fin.sum_univ_four, Fin.sum_univ_three]
  simp only [mul_comm (a _)]
  interval_cases d <;> simp [tap] <;> abel

/-- A convolution's sum with depth and channel in one axis and banded weights, as the sum over depth, row, column and channel. -/
theorem conv_sum (Z C N d : ℕ) (hC : 0 < C) (hN : Z * C = N)
    (hb : ∀ (g : Fin 3 → EReal) (a : Fin Z → EReal),
      ∑ z : Fin Z, a z * tap g z.val d = ∑ dz : Fin 3, g dz * (if h : 1 ≤ 2 * d + dz.val ∧ 2 * d + dz.val - 1 < Z then a ⟨2 * d + dz.val - 1, h.2⟩ else 0))
    (X : Fin 3 → Fin 3 → Fin N → EReal) (w : Fin C → Fin 3 → Fin 3 → Fin 3 → EReal) :
    ∑ a : Fin 3, ∑ b : Fin 3, ∑ k : Fin N, X a b k * tap (fun dz => w (⟨k.val % C, Nat.mod_lt _ hC⟩ : Fin C) dz a b) (k.val / C) d
      = ∑ dz : Fin 3, ∑ a : Fin 3, ∑ b : Fin 3, ∑ c : Fin C, w c dz a b *
          (if h : 1 ≤ 2 * d + dz.val ∧ 2 * d + dz.val - 1 < Z then
            X a b ⟨(2 * d + dz.val - 1) * C + c.val, by rw [← hN]; exact lt_of_lt_of_le (Nat.add_lt_add_left c.isLt _) (by rw [← Nat.succ_mul]; exact Nat.mul_le_mul_right _ h.2)⟩ else 0) := by
  rw [Finset.sum_comm]
  have e : ∀ a b : Fin 3, ∑ k : Fin N, X a b k * tap (fun dz => w (⟨k.val % C, Nat.mod_lt _ hC⟩ : Fin C) dz a b) (k.val / C) d
      = ∑ dz : Fin 3, ∑ c : Fin C, w c dz a b *
          (if h : 1 ≤ 2 * d + dz.val ∧ 2 * d + dz.val - 1 < Z then
            X a b ⟨(2 * d + dz.val - 1) * C + c.val, by rw [← hN]; exact lt_of_lt_of_le (Nat.add_lt_add_left c.isLt _) (by rw [← Nat.succ_mul]; exact Nat.mul_le_mul_right _ h.2)⟩ else 0) := by
    intro a b
    subst hN
    rw [Fin.sum_univ_tiles Z C rfl, Finset.sum_comm, Finset.sum_comm (s := (Finset.univ : Finset (Fin 3)))]
    refine Finset.sum_congr rfl fun c _ => ?_
    refine Eq.trans (Finset.sum_congr rfl fun z _ => ?_) (hb (fun dz => w c dz a b) fun z => X a b ⟨z.val * C + c.val, lt_of_lt_of_le (Nat.add_lt_add_left c.isLt _) (by rw [← Nat.succ_mul]; exact Nat.mul_le_mul_right _ z.isLt)⟩)
    have e1 : (z.val * C + c.val) / C = z.val := by
      rw [Nat.mul_comm, Nat.mul_add_div hC, Nat.div_eq_of_lt c.isLt, add_zero]
    have e2 : (⟨(z.val * C + c.val) % C, Nat.mod_lt _ hC⟩ : Fin C) = c := Fin.ext (by
      show (z.val * C + c.val) % C = c.val
      rw [Nat.mul_comm, Nat.mul_add_mod, Nat.mod_eq_of_lt c.isLt])
    simp only [e1, e2]
  rw [Finset.sum_comm]
  simp only [e]
  rw [Finset.sum_congr rfl fun a _ => Finset.sum_comm, Finset.sum_comm]

end Cert.KernelIdeal.Value
end
-- ==== Proof.RConv.lean ====
module

public import proofs.«01_k».proof.Proof.Vfe
public import proofs.«01_k».proof.Proof.Gen.ReferenceIdeal.Run

@[expose] public section

set_option maxRecDepth 16384
noncomputable section
open Idealize.ShloMosaic Idealize.ShloMosaic.TcCoe Idealize.SL.Sem
namespace Cert.ReferenceIdeal.Value
open Cert.ReferenceIdeal Cert.ReferenceIdeal.Gen

/-- A sum over the channels of three-dimensional windows, tap by tap. -/
theorem sum_taps {N : ℕ} (C : ℕ) (h : N = 3 * (3 * (3 * C))) (f : Fin N → EReal) :
    ∑ q, f q = ∑ dz : Fin 3, ∑ dy : Fin 3, ∑ dx : Fin 3, ∑ c : Fin C,
      f ⟨dz.val * (3 * (3 * C)) + (dy.val * (3 * C) + (dx.val * C + c.val)), by have := dz.isLt; have := dy.isLt; have := dx.isLt; have := c.isLt; rw [h]; nlinarith⟩ := by
  subst h
  rw [Fin.sum_univ_tiles 3 (3 * (3 * C)) rfl]
  refine Finset.sum_congr rfl fun dz _ => ?_
  rw [Fin.sum_univ_tiles 3 (3 * C) rfl]
  refine Finset.sum_congr rfl fun dy _ => ?_
  rw [Fin.sum_univ_tiles 3 C rfl]

/-- The first convolution's windows along x, read at one element. -/
theorem r26 (V0 : Valuation τ sig (Elt Ideal)) (b : Fin 3) (c : Fin 128) (z : Fin 10) (y : Fin 102) (x : Fin 88) :
    (res_main_v26 V0 : FVec Ideal S384x10x102x88 .f32) (ix4 (⟨b.val * 128 + c.val, by omega⟩ : Fin 384) z y x)
      = (res_main_v22 V0 : FVec Ideal S128x10x102x90 .f32) (ix4 c z y (⟨x.val + b.val, by omega⟩ : Fin 90)) := by
  pointwise [res_main_v26]
  match b with
  | ⟨0, _⟩ => rw [dif_pos (by simp only; omega)]; exact congrArg _ (congrArg₂ (fun a d => ix4 a z y d) (Fin.ext (by simp only; omega)) (Fin.ext (by simp only; omega)))
  | ⟨1, _⟩ => rw [dif_neg (by simp only; omega), dif_pos (by simp only; omega)]; exact congrArg _ (congrArg₂ (fun a d => ix4 a z y d) (Fin.ext (by simp only; omega)) (Fin.ext (by simp only; omega)))
  | ⟨2, _⟩ => rw [dif_neg (by simp only; omega), dif_neg (by simp only; omega)]; exact congrArg _ (congrArg₂ (fun a d => ix4 a z y d) (Fin.ext (by simp only; omega)) (Fin.ext (by simp only; omega)))

/-- The first convolution's windows along y and x. -/
theorem r30 (V0 : Valuation τ sig (Elt Ideal)) (a : Fin 3) (c : Fin 384) (z : Fin 10) (y : Fin 100) (x : Fin 88) :
    (res_main_v30 V0 : FVec Ideal S1152x10x100x88 .f32) (ix4 (⟨a.val * 384 + c.val, by omega⟩ : Fin 1152) z y x)
      = (res_main_v26 V0 : FVec Ideal S384x10x102x88 .f32) (ix4 c z (⟨y.val + a.val, by omega⟩ : Fin 102) x) := by
  pointwise [res_main_v30]
  match a with
  | ⟨0, _⟩ => rw [dif_pos (by simp only; omega)]; exact congrArg _ (congrArg₂ (fun a d => ix4 a z d x) (Fin.ext (by simp only; omega)) (Fin.ext (by simp only; omega)))
  | ⟨1, _⟩ => rw [dif_neg (by simp only; omega), dif_pos (by simp only; omega)]; exact congrArg _ (congrArg₂ (fun a d => ix4 a z d x) (Fin.ext (by simp only; omega)) (Fin.ext (by simp only; omega)))
  | ⟨2, _⟩ => rw [dif_neg (by simp only; omega), dif_neg (by simp only; omega)]; exact congrArg _ (congrArg₂ (fun a d => ix4 a z d x) (Fin.ext (by simp only; omega)) (Fin.ext (by simp only; omega)))

/-- The first convolution's windows, with stride two along depth. -/
theorem cat1 (X : FVec Ideal S1152x10x100x88 .f32) (dz : Fin 3) (c : Fin 1152) (d : Fin 4) (y : Fin 100) (x : Fin 88) :
    (concatenate S3456x4x100x88 0 [⟨S1152x4x100x88, ((Host.slice S1152x4x100x88 ![0, 0, 0, 0] ![1, 2, 1, 1] X slicesBy_S1152x10x100x88_S1152x4x100x88_0s1_0s2_0s1_0s1) : (⟨S1152x4x100x88, .f32⟩ : BufTy).Contents (Elt Ideal))⟩, ⟨S1152x4x100x88, ((Host.slice S1152x4x100x88 ![0, 1, 0, 0] ![1, 2, 1, 1] X slicesBy_S1152x10x100x88_S1152x4x100x88_0s1_1s2_0s1_0s1) : (⟨S1152x4x100x88, .f32⟩ : BufTy).Contents (Elt Ideal))⟩, ⟨S1152x4x100x88, ((Host.slice S1152x4x100x88 ![0, 2, 0, 0] ![1, 2, 1, 1] X slicesBy_S1152x10x100x88_S1152x4x100x88_0s1_2s2_0s1_0s1) : (⟨S1152x4x100x88, .f32⟩ : BufTy).Contents (Elt Ideal))⟩] concatenates_S1152x4x100x88_S1152x4x100x88_S1152x4x100x88_S3456x4x100x88_d0 : (⟨S3456x4x100x88, .f32⟩ : BufTy).Contents (Elt Ideal)) (ix4 (⟨dz.val * 1152 + c.val, by omega⟩ : Fin 3456) d y x)
      = X (ix4 c (⟨2 * d.val + dz.val, by omega⟩ : Fin 10) y x) := by
  pointwise []
  match dz with
  | ⟨0, _⟩ => rw [dif_pos (by simp only; omega)]; exact congrArg _ (congrArg₂ (fun a d => ix4 a d y x) (Fin.ext (by simp only; omega)) (Fin.ext (by simp only; omega)))
  | ⟨1, _⟩ => rw [dif_neg (by simp only; omega), dif_pos (by simp only; omega)]; exact congrArg _ (congrArg₂ (fun a d => ix4 a d y x) (Fin.ext (by simp only; omega)) (Fin.ext (by simp only; omega)))
  | ⟨2, _⟩ => rw [dif_neg (by simp only; omega), dif_neg (by simp only; omega)]; exact congrArg _ (congrArg₂ (fun a d => ix4 a d y x) (Fin.ext (by simp only; omega)) (Fin.ext (by simp only; omega)))

/-- The first convolution's weight as a matrix. -/
theorem mat1 (w : FVec Ideal S64x128x3x3x3 .f32) (o : Fin 64) (dz dy dx : Fin 3) (c : Fin 128) :
    (shapeCast S64x3456 (transpose S64x3x3x3x128 [0, 2, 3, 4, 1] w transposes_S64x128x3x3x3_S64x3x3x3x128_0_2_3_4_1) shapeCasts_S64x3x3x3x128_S64x3456 : FVec Ideal S64x3456 .f32)
        (ix2 o (⟨dz.val * 1152 + (dy.val * 384 + (dx.val * 128 + c.val)), by omega⟩ : Fin 3456))
      = w (ix5 o c dz dy dx) := by
  pointwise []

/-- The first convolution and its border of zeros, as a product over the windows' channels. -/
theorem pad1 (w : FVec Ideal S64x3456 .f32) (X : FVec Ideal S3456x4x100x88 .f32) (bias : FVec Ideal S64 .f32) (o : Fin 64) (d : Fin 6) (y : Fin 102) (x : Fin 90) :
    pad S64x6x102x90 ![0, 1, 1, 1] ![0, 1, 1, 1] ![0, 0, 0, 0] (maximumf (addf (Host.dotGeneral dot_S64x3456_S3456x4x100x88_S64x4x100x88_1_0_0_123_n_n none w X) (broadcastInDim S64x4x100x88 ![0] bcast_S64_S64x4x100x88_0 bias)) (broadcastInDim S64x4x100x88 ![] bcast_S_S64x4x100x88 (constant (F := Ideal) S_ .f32 0x00000000#32))) (constant (F := Ideal) S_ .f32 0x00000000#32) pads_S64x4x100x88_S64x6x102x90_000_110_110_110 h_S_ (ix4 o d y x)
      = if h : (1 ≤ d.val ∧ d.val - 1 < 4) ∧ (1 ≤ y.val ∧ y.val - 1 < 100) ∧ 1 ≤ x.val ∧ x.val - 1 < 88 then
          max (∑ q : Fin 3456, w (ix2 o q) * X (ix4 q (⟨d.val - 1, h.1.2⟩ : Fin 4) (⟨y.val - 1, h.2.1.2⟩ : Fin 100) (⟨x.val - 1, h.2.2.2⟩ : Fin 88)) + bias (ix1 o)) 0
        else (0 : EReal) := by
  pointwise []

/-- The first convolution, padded, at one element. -/
theorem r41 (V0 : Valuation τ sig (Elt Ideal)) (w : FVec Ideal S64x128x3x3x3 .f32) (bias : FVec Ideal S64 .f32)
    (hw : (V0 (Proc.devRef .tc main_arg8) : FVec Ideal S64x128x3x3x3 .f32) = w) (hb : (V0 (Proc.devRef .tc main_arg9) : FVec Ideal S64 .f32) = bias)
    (o : Fin 64) (d : Fin 6) (y : Fin 102) (x : Fin 90) :
    (res_main_v41 V0 : FVec Ideal S64x6x102x90 .f32) (ix4 o d y x)
      = if h : (1 ≤ d.val ∧ d.val - 1 < 4) ∧ (1 ≤ y.val ∧ y.val - 1 < 100) ∧ 1 ≤ x.val ∧ x.val - 1 < 88 then
          max (∑ dz : Fin 3, ∑ dy : Fin 3, ∑ dx : Fin 3, ∑ c : Fin 128, w (ix5 o c dz dy dx) * (res_main_v22 V0 : FVec Ideal S128x10x102x90 .f32)
            (ix4 c (⟨2 * (d.val - 1) + dz.val, by omega⟩ : Fin 10) (⟨y.val - 1 + dy.val, by omega⟩ : Fin 102) (⟨x.val - 1 + dx.val, by omega⟩ : Fin 90)) + bias (ix1 o)) 0
        else (0 : EReal) := by
  unfold res_main_v41
  rw [pad1, hw, hb]
  refine dite_congr rfl (fun h => ?_) fun _ => rfl
  rw [sum_taps 128 (by norm_num)]
  refine congrArg (fun t : EReal => (max (t + bias (ix1 o)) (0 : EReal) : EReal)) (Finset.sum_congr rfl fun dz _ => Finset.sum_congr rfl fun dy _ => Finset.sum_congr rfl fun dx _ => Finset.sum_congr rfl fun c _ => ?_)
  refine congrArg₂ (· * ·) (mat1 _ o dz dy dx c) ?_
  refine (cat1 _ dz ⟨dy.val * 384 + (dx.val * 128 + c.val), by omega⟩ _ _ _).trans ?_
  refine (r30 V0 dy ⟨dx.val * 128 + c.val, by omega⟩ _ _ _).trans ?_
  exact r26 V0 dx c _ _ _

end Cert.ReferenceIdeal.Value
end
-- ==== Proof.RConv2.lean ====
module

public import proofs.«01_k».proof.Proof.RConv

@[expose] public section

set_option maxRecDepth 16384
noncomputable section
open Idealize.ShloMosaic Idealize.ShloMosaic.TcCoe Idealize.SL.Sem
namespace Cert.ReferenceIdeal.Value
open Cert.ReferenceIdeal Cert.ReferenceIdeal.Gen

/-- The second convolution's windows along x, read at one element. -/
theorem r45 (V0 : Valuation τ sig (Elt Ideal)) (b : Fin 3) (c : Fin 64) (z : Fin 6) (y : Fin 102) (x : Fin 88) :
    (res_main_v45 V0 : FVec Ideal S192x6x102x88 .f32) (ix4 (⟨b.val * 64 + c.val, by omega⟩ : Fin 192) z y x)
      = (res_main_v41 V0 : FVec Ideal S64x6x102x90 .f32) (ix4 c z y (⟨x.val + b.val, by omega⟩ : Fin 90)) := by
  pointwise [res_main_v45]
  match b with
  | ⟨0, _⟩ => rw [dif_pos (by simp only; omega)]; exact congrArg _ (congrArg₂ (fun a d => ix4 a z y d) (Fin.ext (by simp only; omega)) (Fin.ext (by simp only; omega)))
  | ⟨1, _⟩ => rw [dif_neg (by simp only; omega), dif_pos (by simp only; omega)]; exact congrArg _ (congrArg₂ (fun a d => ix4 a z y d) (Fin.ext (by simp only; omega)) (Fin.ext (by simp only; omega)))
  | ⟨2, _⟩ => rw [dif_neg (by simp only; omega), dif_neg (by simp only; omega)]; exact congrArg _ (congrArg₂ (fun a d => ix4 a z y d) (Fin.ext (by simp only; omega)) (Fin.ext (by simp only; omega)))

/-- The second convolution's windows along y and x. -/
theorem r49 (V0 : Valuation τ sig (Elt Ideal)) (a : Fin 3) (c : Fin 192) (z : Fin 6) (y : Fin 100) (x : Fin 88) :
    (res_main_v49 V0 : FVec Ideal S576x6x100x88 .f32) (ix4 (⟨a.val * 192 + c.val, by omega⟩ : Fin 576) z y x)
      = (res_main_v45 V0 : FVec Ideal S192x6x102x88 .f32) (ix4 c z (⟨y.val + a.val, by omega⟩ : Fin 102) x) := by
  pointwise [res_main_v49]
  match a with
  | ⟨0, _⟩ => rw [dif_pos (by simp only; omega)]; exact congrArg _ (congrArg₂ (fun a d => ix4 a z d x) (Fin.ext (by simp only; omega)) (Fin.ext (by simp only; omega)))
  | ⟨1, _⟩ => rw [dif_neg (by simp only; omega), dif_pos (by simp only; omega)]; exact congrArg _ (congrArg₂ (fun a d => ix4 a z d x) (Fin.ext (by simp only; omega)) (Fin.ext (by simp only; omega)))
  | ⟨2, _⟩ => rw [dif_neg (by simp only; omega), dif_neg (by simp only; omega)]; exact congrArg _ (congrArg₂ (fun a d => ix4 a z d x) (Fin.ext (by simp only; omega)) (Fin.ext (by simp only; omega)))

/-- The second convolution's windows, with stride two along depth. -/
theorem cat2 (X : FVec Ideal S576x6x100x88 .f32) (dz : Fin 3) (c : Fin 576) (d : Fin 2) (y : Fin 100) (x : Fin 88) :
    (concatenate S1728x2x100x88 0 [⟨S576x2x100x88, ((Host.slice S576x2x100x88 ![0, 0, 0, 0] ![1, 2, 1, 1] X slicesBy_S576x6x100x88_S576x2x100x88_0s1_0s2_0s1_0s1) : (⟨S576x2x100x88, .f32⟩ : BufTy).Contents (Elt Ideal))⟩, ⟨S576x2x100x88, ((Host.slice S576x2x100x88 ![0, 1, 0, 0] ![1, 2, 1, 1] X slicesBy_S576x6x100x88_S576x2x100x88_0s1_1s2_0s1_0s1) : (⟨S576x2x100x88, .f32⟩ : BufTy).Contents (Elt Ideal))⟩, ⟨S576x2x100x88, ((Host.slice S576x2x100x88 ![0, 2, 0, 0] ![1, 2, 1, 1] X slicesBy_S576x6x100x88_S576x2x100x88_0s1_2s2_0s1_0s1) : (⟨S576x2x100x88, .f32⟩ : BufTy).Contents (Elt Ideal))⟩] concatenates_S576x2x100x88_S576x2x100x88_S576x2x100x88_S1728x2x100x88_d0 : (⟨S1728x2x100x88, .f32⟩ : BufTy).Contents (Elt Ideal)) (ix4 (⟨dz.val * 576 + c.val, by omega⟩ : Fin 1728) d y x)
      = X (ix4 c (⟨2 * d.val + dz.val, by omega⟩ : Fin 6) y x) := by
  pointwise []
  match dz with
  | ⟨0, _⟩ => rw [dif_pos (by simp only; omega)]; exact congrArg _ (congrArg₂ (fun a d => ix4 a d y x) (Fin.ext (by simp only; omega)) (Fin.ext (by simp only; omega)))
  | ⟨1, _⟩ => rw [dif_neg (by simp only; omega), dif_pos (by simp only; omega)]; exact congrArg _ (congrArg₂ (fun a d => ix4 a d y x) (Fin.ext (by simp only; omega)) (Fin.ext (by simp only; omega)))
  | ⟨2, _⟩ => rw [dif_neg (by simp only; omega), dif_neg (by simp only; omega)]; exact congrArg _ (congrArg₂ (fun a d => ix4 a d y x) (Fin.ext (by simp only; omega)) (Fin.ext (by simp only; omega)))

/-- The second convolution's weight as a matrix. -/
theorem mat2 (w : FVec Ideal S64x64x3x3x3 .f32) (o : Fin 64) (dz dy dx : Fin 3) (c : Fin 64) :
    (shapeCast S64x1728 (transpose S64x3x3x3x64 [0, 2, 3, 4, 1] w transposes_S64x64x3x3x3_S64x3x3x3x64_0_2_3_4_1) shapeCasts_S64x3x3x3x64_S64x1728 : FVec Ideal S64x1728 .f32)
        (ix2 o (⟨dz.val * 576 + (dy.val * 192 + (dx.val * 64 + c.val)), by omega⟩ : Fin 1728))
      = w (ix5 o c dz dy dx) := by
  pointwise []

/-- The second convolution with depth folded into channels and its border of zeros, as a product over the windows' channels. -/
theorem pad2 (w : FVec Ideal S64x1728 .f32) (X : FVec Ideal S1728x2x100x88 .f32) (bias : FVec Ideal S64 .f32) (o : Fin 128) (y : Fin 102) (x : Fin 90) :
    pad S128x102x90 ![0, 1, 1] ![0, 1, 1] ![0, 0, 0] (shapeCast _ (maximumf (addf (Host.dotGeneral dot_S64x1728_S1728x2x100x88_S64x2x100x88_1_0_0_123_n_n none w X) (broadcastInDim S64x2x100x88 ![0] bcast_S64_S64x2x100x88_0 bias)) (broadcastInDim S64x2x100x88 ![] bcast_S_S64x2x100x88 (constant (F := Ideal) S_ .f32 0x00000000#32))) shapeCasts_S64x2x100x88_S128x100x88) (constant (F := Ideal) S_ .f32 0x00000000#32) pads_S128x100x88_S128x102x90_000_110_110 h_S_ (ix3 o y x)
      = if h : (1 ≤ y.val ∧ y.val - 1 < 100) ∧ 1 ≤ x.val ∧ x.val - 1 < 88 then
          max (∑ q : Fin 1728, w (ix2 (⟨o.val / 2, by omega⟩ : Fin 64) q) * X (ix4 q (⟨o.val % 2, by omega⟩ : Fin 2) (⟨y.val - 1, h.1.2⟩ : Fin 100) (⟨x.val - 1, h.2.2⟩ : Fin 88)) + bias (ix1 (⟨o.val / 2, by omega⟩ : Fin 64))) 0
        else (0 : EReal) := by
  pointwise []

/-- The second convolution, folded and padded, at one element. -/
theorem r61 (V0 : Valuation τ sig (Elt Ideal)) (w : FVec Ideal S64x64x3x3x3 .f32) (bias : FVec Ideal S64 .f32)
    (hw : (V0 (Proc.devRef .tc main_arg10) : FVec Ideal S64x64x3x3x3 .f32) = w) (hb : (V0 (Proc.devRef .tc main_arg11) : FVec Ideal S64 .f32) = bias)
    (o : Fin 128) (y : Fin 102) (x : Fin 90) :
    (res_main_v61 V0 : FVec Ideal S128x102x90 .f32) (ix3 o y x)
      = if h : (1 ≤ y.val ∧ y.val - 1 < 100) ∧ 1 ≤ x.val ∧ x.val - 1 < 88 then
          max (∑ dz : Fin 3, ∑ dy : Fin 3, ∑ dx : Fin 3, ∑ c : Fin 64, w (ix5 (⟨o.val / 2, by omega⟩ : Fin 64) c dz dy dx) * (res_main_v41 V0 : FVec Ideal S64x6x102x90 .f32)
            (ix4 c (⟨2 * (o.val % 2) + dz.val, by omega⟩ : Fin 6) (⟨y.val - 1 + dy.val, by omega⟩ : Fin 102) (⟨x.val - 1 + dx.val, by omega⟩ : Fin 90)) + bias (ix1 (⟨o.val / 2, by omega⟩ : Fin 64))) 0
        else (0 : EReal) := by
  unfold res_main_v61
  rw [pad2, hw, hb]
  refine dite_congr rfl (fun h => ?_) fun _ => rfl
  rw [sum_taps 64 (by norm_num)]
  refine congrArg (fun t : EReal => (max (t + bias (ix1 (⟨o.val / 2, by omega⟩ : Fin 64))) (0 : EReal) : EReal)) (Finset.sum_congr rfl fun dz _ => Finset.sum_congr rfl fun dy _ => Finset.sum_congr rfl fun dx _ => Finset.sum_congr rfl fun c _ => ?_)
  refine congrArg₂ (· * ·) (mat2 _ _ dz dy dx c) ?_
  refine (cat2 _ dz ⟨dy.val * 192 + (dx.val * 64 + c.val), by omega⟩ _ _ _).trans ?_
  refine (r49 V0 dy ⟨dx.val * 64 + c.val, by omega⟩ _ _ _).trans ?_
  exact r45 V0 dx c _ _ _

/-- A sum over the channels of two-dimensional windows, tap by tap. -/
theorem sum_taps2 {N : ℕ} (C : ℕ) (h : N = 3 * (3 * C)) (f : Fin N → EReal) :
    ∑ q, f q = ∑ dy : Fin 3, ∑ dx : Fin 3, ∑ c : Fin C,
      f ⟨dy.val * (3 * C) + (dx.val * C + c.val), by have := dy.isLt; have := dx.isLt; have := c.isLt; rw [h]; nlinarith⟩ := by
  subst h
  rw [Fin.sum_univ_tiles 3 (3 * C) rfl]
  refine Finset.sum_congr rfl fun dy _ => ?_
  rw [Fin.sum_univ_tiles 3 C rfl]

/-- The last convolution's windows along x, read at one element. -/
theorem r65 (V0 : Valuation τ sig (Elt Ideal)) (b : Fin 3) (c : Fin 128) (y : Fin 102) (x : Fin 88) :
    (res_main_v65 V0 : FVec Ideal S384x102x88 .f32) (ix3 (⟨b.val * 128 + c.val, by omega⟩ : Fin 384) y x)
      = (res_main_v61 V0 : FVec Ideal S128x102x90 .f32) (ix3 c y (⟨x.val + b.val, by omega⟩ : Fin 90)) := by
  pointwise [res_main_v65]
  match b with
  | ⟨0, _⟩ => rw [dif_pos (by simp only; omega)]; exact congrArg _ (congrArg₂ (fun a d => ix3 a y d) (Fin.ext (by simp only; omega)) (Fin.ext (by simp only; omega)))
  | ⟨1, _⟩ => rw [dif_neg (by simp only; omega), dif_pos (by simp only; omega)]; exact congrArg _ (congrArg₂ (fun a d => ix3 a y d) (Fin.ext (by simp only; omega)) (Fin.ext (by simp only; omega)))
  | ⟨2, _⟩ => rw [dif_neg (by simp only; omega), dif_neg (by simp only; omega)]; exact congrArg _ (congrArg₂ (fun a d => ix3 a y d) (Fin.ext (by simp only; omega)) (Fin.ext (by simp only; omega)))

/-- The last convolution's windows along y. -/
theorem cat3 (X : FVec Ideal S384x102x88 .f32) (a : Fin 3) (c : Fin 384) (y : Fin 100) (x : Fin 88) :
    (concatenate S1152x100x88 0 [⟨S384x100x88, ((extractStridedSlice S384x100x88 ![0, 0, 0] X slices_S384x102x88_S384x100x88_0_0_0) : (⟨S384x100x88, .f32⟩ : BufTy).Contents (Elt Ideal))⟩, ⟨S384x100x88, ((extractStridedSlice S384x100x88 ![0, 1, 0] X slices_S384x102x88_S384x100x88_0_1_0) : (⟨S384x100x88, .f32⟩ : BufTy).Contents (Elt Ideal))⟩, ⟨S384x100x88, ((extractStridedSlice S384x100x88 ![0, 2, 0] X slices_S384x102x88_S384x100x88_0_2_0) : (⟨S384x100x88, .f32⟩ : BufTy).Contents (Elt Ideal))⟩] concatenates_S384x100x88_S384x100x88_S384x100x88_S1152x100x88_d0 : (⟨S1152x100x88, .f32⟩ : BufTy).Contents (Elt Ideal)) (ix3 (⟨a.val * 384 + c.val, by omega⟩ : Fin 1152) y x)
      = X (ix3 c (⟨y.val + a.val, by omega⟩ : Fin 102) x) := by
  pointwise []
  match a with
  | ⟨0, _⟩ => rw [dif_pos (by simp only; omega)]; exact congrArg _ (congrArg₂ (fun a d => ix3 a d x) (Fin.ext (by simp only; omega)) (Fin.ext (by simp only; omega)))
  | ⟨1, _⟩ => rw [dif_neg (by simp only; omega), dif_pos (by simp only; omega)]; exact congrArg _ (congrArg₂ (fun a d => ix3 a d x) (Fin.ext (by simp only; omega)) (Fin.ext (by simp only; omega)))
  | ⟨2, _⟩ => rw [dif_neg (by simp only; omega), dif_neg (by simp only; omega)]; exact congrArg _ (congrArg₂ (fun a d => ix3 a d x) (Fin.ext (by simp only; omega)) (Fin.ext (by simp only; omega)))

/-- The last convolution's weight as a matrix. -/
theorem mat3 (w : FVec Ideal S128x128x3x3 .f32) (o : Fin 128) (dy dx : Fin 3) (c : Fin 128) :
    (shapeCast S128x1152 (transpose S128x3x3x128 [0, 2, 3, 1] w transposes_S128x128x3x3_S128x3x3x128_0_2_3_1) shapeCasts_S128x3x3x128_S128x1152 : FVec Ideal S128x1152 .f32)
        (ix2 o (⟨dy.val * 384 + (dx.val * 128 + c.val), by omega⟩ : Fin 1152))
      = w (ix4 o c dy dx) := by
  pointwise []

/-- The last convolution as a product over the windows' channels. -/
theorem dot3 (w : FVec Ideal S128x1152 .f32) (X : FVec Ideal S1152x100x88 .f32) (bias : FVec Ideal S128 .f32) (o : Fin 128) (y : Fin 100) (x : Fin 88) :
    maximumf (addf (Host.dotGeneral dot_S128x1152_S1152x100x88_S128x100x88_1_0_0_12_n_n none w X) (broadcastInDim S128x100x88 ![0] bcast_S128_S128x100x88_0 bias)) (broadcastInDim S128x100x88 ![] bcast_S_S128x100x88 (constant (F := Ideal) S_ .f32 0x00000000#32)) (ix3 o y x)
      = (max (∑ q : Fin 1152, w (ix2 o q) * X (ix3 q y x) + bias (ix1 o)) 0 : EReal) := by
  pointwise []

/-- The last convolution at one element. -/
theorem r75 (V0 : Valuation τ sig (Elt Ideal)) (w : FVec Ideal S128x128x3x3 .f32) (bias : FVec Ideal S128 .f32)
    (hw : (V0 (Proc.devRef .tc main_arg12) : FVec Ideal S128x128x3x3 .f32) = w) (hb : (V0 (Proc.devRef .tc main_arg13) : FVec Ideal S128 .f32) = bias)
    (o : Fin 128) (y : Fin 100) (x : Fin 88) :
    (res_main_v75 V0 : FVec Ideal S128x100x88 .f32) (ix3 o y x)
      = (max (∑ dy : Fin 3, ∑ dx : Fin 3, ∑ c : Fin 128, w (ix4 o c dy dx) * (res_main_v61 V0 : FVec Ideal S128x102x90 .f32)
            (ix3 c (⟨y.val + dy.val, by omega⟩ : Fin 102) (⟨x.val + dx.val, by omega⟩ : Fin 90)) + bias (ix1 o)) 0 : EReal) := by
  unfold res_main_v75
  rw [dot3, hw, hb]
  rw [sum_taps2 128 (by norm_num)]
  refine congrArg (fun t : EReal => (max (t + bias (ix1 o)) (0 : EReal) : EReal)) (Finset.sum_congr rfl fun dy _ => Finset.sum_congr rfl fun dx _ => Finset.sum_congr rfl fun c _ => ?_)
  refine congrArg₂ (· * ·) (mat3 _ _ dy dx c) ?_
  refine (cat3 _ dy ⟨dx.val * 128 + c.val, by omega⟩ _ _).trans ?_
  exact r65 V0 dx c _ _

end Cert.ReferenceIdeal.Value
end
-- ==== Proof.Join2.lean ====
module

public import proofs.«01_k».proof.Proof.Bridge1
public import proofs.«01_k».proof.Proof.Bridge2
public import proofs.«01_k».proof.Proof.Sums
public import proofs.«01_k».proof.Proof.RConv2

@[expose] public section

set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.KernelIdeal.Run
open Cert.ReferenceIdeal.Value (r41 r61)

/-- The first convolution: if the kernel's grid holds the reference's, so do the results, with depth and channel in one axis. -/
theorem conv1_join (A : FVec Ideal S78464x128 .f32) (w : FVec Ideal S9x1024x256 .f32) (b : FVec Ideal S256 .f32)
    (V0 : Valuation Cert.ReferenceIdeal.τ Cert.ReferenceIdeal.sig (Elt Ideal)) (w' : FVec Ideal Cert.ReferenceIdeal.S64x128x3x3x3 .f32) (b' : FVec Ideal Cert.ReferenceIdeal.S64 .f32)
    (hw' : (V0 (Proc.devRef .tc Cert.ReferenceIdeal.main_arg8) : FVec Ideal Cert.ReferenceIdeal.S64x128x3x3x3 .f32) = w') (hb' : (V0 (Proc.devRef .tc Cert.ReferenceIdeal.main_arg9) : FVec Ideal Cert.ReferenceIdeal.S64 .f32) = b')
    (hA : ∀ (ch : Fin 128) (z : Fin 10) (y : Fin 102) (x : Fin 90), (Cert.ReferenceIdeal.Value.res_main_v22 V0 : FVec Ideal Cert.ReferenceIdeal.S128x10x102x90 .f32) (ix4 ch z y x)
      = if h : 1 ≤ z.val ∧ z.val - 1 < 8 then A (ix2 (⟨(y.val * 96 + x.val) * 8 + (z.val - 1), by omega⟩ : Fin 78464) ch) else (0 : EReal))
    (hw : ∀ p k f, w (ix3 p k f) = tap (fun dz => w' (ix5 (⟨f.val % 64, by omega⟩ : Fin 64) (⟨k.val % 128, by omega⟩ : Fin 128) dz (⟨p.val / 3, by omega⟩ : Fin 3) (⟨p.val % 3, by omega⟩ : Fin 3))) (k.val / 128) (f.val / 64))
    (hb : ∀ f, b (ix1 f) = b' (ix1 (⟨f.val % 64, by omega⟩ : Fin 64))) (o : Fin 64) (d : Fin 6) (y : Fin 102) (x : Fin 90) :
    (Cert.ReferenceIdeal.Value.res_main_v41 V0 : FVec Ideal Cert.ReferenceIdeal.S64x6x102x90 .f32) (ix4 o d y x)
      = if h : 1 ≤ d.val ∧ d.val - 1 < 4 then conv1 A w b y (⟨x.val, by omega⟩ : Fin 96) (⟨(d.val - 1) * 64 + o.val, by omega⟩ : Fin 256) else (0 : EReal) := by
  rw [r41 V0 w' b' hw' hb']
  unfold conv1
  by_cases hd : 1 ≤ d.val ∧ d.val - 1 < 4
  · rw [dif_pos hd]
    by_cases hh : (1 ≤ y.val ∧ y.val - 1 < 100) ∧ 1 ≤ x.val ∧ x.val - 1 < 88
    · rw [dif_pos ⟨hd, hh⟩, dif_pos (⟨⟨hh.1.1, by omega⟩, hh.2.1, by show x.val ≤ 88; omega⟩ : (1 ≤ y.val ∧ y.val ≤ 100) ∧ 1 ≤ x.val ∧ x.val ≤ 88)]
      have ef : (⟨((d.val - 1) * 64 + o.val) % 64, by omega⟩ : Fin 64) = o := Fin.ext (by show ((d.val - 1) * 64 + o.val) % 64 = o.val; omega)
      have ed : ((d.val - 1) * 64 + o.val) / 64 = d.val - 1 := by omega
      refine congrArg₂ (fun s t : EReal => (max (s + t) (0 : EReal) : EReal)) ?_ ((hb _).trans (congrArg (fun q => b' (ix1 q)) ef)).symm
      refine Eq.trans ?_ (Eq.trans (conv_sum 8 128 1024 (d.val - 1) (by decide) rfl (fun g a => band8 g a _ hd.2)
        (fun a b k => A (ix2 (⟨((y.val - 1 + a.val) * 96 + (x.val - 1 + b.val)) * 8 + k.val / 128, by omega⟩ : Fin 78464) (⟨k.val % 128, by omega⟩ : Fin 128)))
        (fun ch dz a b => w' (ix5 o ch dz a b))).symm ?_)
      · refine Finset.sum_congr rfl fun dz _ => Finset.sum_congr rfl fun a _ => Finset.sum_congr rfl fun b _ => Finset.sum_congr rfl fun ch _ => congrArg₂ (· * ·) rfl ?_
        refine (hA ch _ _ _).trans (dite_congr rfl (fun h => ?_) fun _ => rfl)
        refine congrArg A (congrArg₂ ix2 (Fin.ext ?_) (Fin.ext ?_))
        · show _ = ((y.val - 1 + a.val) * 96 + (x.val - 1 + b.val)) * 8 + ((2 * (d.val - 1) + dz.val - 1) * 128 + ch.val) / 128
          simp only
          omega
        · show ch.val = ((2 * (d.val - 1) + dz.val - 1) * 128 + ch.val) % 128
          omega
      · refine Finset.sum_congr rfl fun a _ => Finset.sum_congr rfl fun b _ => Finset.sum_congr rfl fun k _ => congrArg₂ (· * ·) rfl ?_
        have ea : (⟨(3 * a.val + b.val) / 3, by omega⟩ : Fin 3) = a := Fin.ext (by show (3 * a.val + b.val) / 3 = a.val; omega)
        have eb : (⟨(3 * a.val + b.val) % 3, by omega⟩ : Fin 3) = b := Fin.ext (by show (3 * a.val + b.val) % 3 = b.val; omega)
        rw [hw]
        simp only [ef, ed, ea, eb]
    · rw [dif_neg fun h => hh h.2, dif_neg]
      intro h
      exact hh ⟨⟨h.1.1, by have := h.1.2; omega⟩, h.2.1, by have : x.val ≤ 88 := h.2.2; omega⟩
  · rw [dif_neg fun h => hd h.1, dif_neg hd]

/-- The second convolution: if the kernel's first result holds the reference's, so does its second, with depth and channel in one axis. -/
theorem conv2_join (A : FVec Ideal S102x96x256 .f32) (w : FVec Ideal S9x256x128 .f32) (b : FVec Ideal S128 .f32)
    (V0 : Valuation Cert.ReferenceIdeal.τ Cert.ReferenceIdeal.sig (Elt Ideal)) (w' : FVec Ideal Cert.ReferenceIdeal.S64x64x3x3x3 .f32) (b' : FVec Ideal Cert.ReferenceIdeal.S64 .f32)
    (hw' : (V0 (Proc.devRef .tc Cert.ReferenceIdeal.main_arg10) : FVec Ideal Cert.ReferenceIdeal.S64x64x3x3x3 .f32) = w') (hb' : (V0 (Proc.devRef .tc Cert.ReferenceIdeal.main_arg11) : FVec Ideal Cert.ReferenceIdeal.S64 .f32) = b')
    (hA : ∀ (ch : Fin 64) (z : Fin 6) (y : Fin 102) (x : Fin 90), (Cert.ReferenceIdeal.Value.res_main_v41 V0 : FVec Ideal Cert.ReferenceIdeal.S64x6x102x90 .f32) (ix4 ch z y x)
      = if h : 1 ≤ z.val ∧ z.val - 1 < 4 then A (ix3 y (⟨x.val, by omega⟩ : Fin 96) (⟨(z.val - 1) * 64 + ch.val, by omega⟩ : Fin 256)) else (0 : EReal))
    (hw : ∀ p k f, w (ix3 p k f) = tap (fun dz => w' (ix5 (⟨f.val % 64, by omega⟩ : Fin 64) (⟨k.val % 64, by omega⟩ : Fin 64) dz (⟨p.val / 3, by omega⟩ : Fin 3) (⟨p.val % 3, by omega⟩ : Fin 3))) (k.val / 64) (f.val / 64))
    (hb : ∀ f, b (ix1 f) = b' (ix1 (⟨f.val % 64, by omega⟩ : Fin 64))) (o : Fin 128) (y : Fin 102) (x : Fin 90) :
    (Cert.ReferenceIdeal.Value.res_main_v61 V0 : FVec Ideal Cert.ReferenceIdeal.S128x102x90 .f32) (ix3 o y x)
      = conv2 A w b y (⟨x.val, by omega⟩ : Fin 96) (⟨o.val % 2 * 64 + o.val / 2, by omega⟩ : Fin 128) := by
  rw [r61 V0 w' b' hw' hb']
  unfold conv2
  by_cases hh : (1 ≤ y.val ∧ y.val - 1 < 100) ∧ 1 ≤ x.val ∧ x.val - 1 < 88
  · rw [dif_pos hh, dif_pos (⟨⟨hh.1.1, by omega⟩, hh.2.1, by show x.val ≤ 88; omega⟩ : (1 ≤ y.val ∧ y.val ≤ 100) ∧ 1 ≤ x.val ∧ x.val ≤ 88)]
    have ef : (⟨(o.val % 2 * 64 + o.val / 2) % 64, by omega⟩ : Fin 64) = (⟨o.val / 2, by omega⟩ : Fin 64) := Fin.ext (by show (o.val % 2 * 64 + o.val / 2) % 64 = o.val / 2; omega)
    have ed : (o.val % 2 * 64 + o.val / 2) / 64 = o.val % 2 := by omega
    refine congrArg₂ (fun s t : EReal => (max (s + t) (0 : EReal) : EReal)) ?_ ((hb _).trans (congrArg (fun q => b' (ix1 q)) ef)).symm
    refine Eq.trans ?_ (Eq.trans (conv_sum 4 64 256 (o.val % 2) (by decide) rfl (fun g a => band4 g a _ (Nat.mod_lt _ (by decide)))
      (fun a b k => A (ix3 (⟨y.val - 1 + a.val, by omega⟩ : Fin 102) (⟨x.val - 1 + b.val, by omega⟩ : Fin 96) k))
      (fun ch dz a b => w' (ix5 (⟨o.val / 2, by omega⟩ : Fin 64) ch dz a b))).symm ?_)
    · refine Finset.sum_congr rfl fun dz _ => Finset.sum_congr rfl fun a _ => Finset.sum_congr rfl fun b _ => Finset.sum_congr rfl fun ch _ => congrArg₂ (· * ·) rfl ?_
      exact hA ch _ _ _
    · refine Finset.sum_congr rfl fun a _ => Finset.sum_congr rfl fun b _ => Finset.sum_congr rfl fun k _ => congrArg₂ (· * ·) rfl ?_
      have ea : (⟨(3 * a.val + b.val) / 3, by omega⟩ : Fin 3) = a := Fin.ext (by show (3 * a.val + b.val) / 3 = a.val; omega)
      have eb : (⟨(3 * a.val + b.val) % 3, by omega⟩ : Fin 3) = b := Fin.ext (by show (3 * a.val + b.val) % 3 = b.val; omega)
      rw [hw]
      simp only [ef, ed, ea, eb]
  · rw [dif_neg hh, dif_neg]
    intro h
    exact hh ⟨⟨h.1.1, by have := h.1.2; omega⟩, h.2.1, by have : x.val ≤ 88 := h.2.2; omega⟩

end Cert.KernelIdeal.Value
end
-- ==== Proof.W3.lean ====
module

public import proofs.«01_k».proof.Proof.W2

@[expose] public section

set_option maxRecDepth 16384
noncomputable section
open Idealize.ShloMosaic Idealize.ShloMosaic.TcCoe Idealize.SL.Sem
namespace Cert.KernelIdeal.Value
open Cert.KernelIdeal Cert.KernelIdeal.Gen Cert.KernelIdeal.Run

open Idealize.ShloMosaic.StableHlo

/-- A gather along the input channels, read at one element. -/
theorem perm_at (x : FVec Ideal S3x3x128x128 .f32) (idx : IVec S128x1 32) (a b : Fin 3) (k f v : Fin 128) (hv : (idx (ix2 k 0)).toInt = (v.val : Int)) :
    Host.gather gather_S3x3x128x128_S128x1_S3x3x128x128_013_2_n_n_2_1_331128 x idx (ix4 a b k f) = x (ix4 a b v f) := by
  unfold Host.gather
  have hs : gather_S3x3x128x128_S128x1_S3x3x128x128_013_2_n_n_2_1_331128.start (ix4 a b k f) idx 2 = v.val := by
    unfold GatherDims.start
    rw [dif_pos (by decide)]
    have e : gather_S3x3x128x128_S128x1_S3x3x128x128_013_2_n_n_2_1_331128.siIdx (ix4 a b k f) ⟨List.idxOf 2 gather_S3x3x128x128_S128x1_S3x3x128x128_013_2_n_n_2_1_331128.startIndexMap, by decide⟩ = ix2 k 0 := by
      funext t
      match t with
      | ⟨0, _⟩ => rfl
      | ⟨1, _⟩ => rfl
    rw [e, hv]
    show min v.val (128 - 1) = v.val
    omega
  refine congrArg x (funext fun t => Fin.ext ?_)
  match t with
  | ⟨0, _⟩ => exact Nat.zero_add a.val
  | ⟨1, _⟩ => exact Nat.zero_add b.val
  | ⟨2, _⟩ => show gather_S3x3x128x128_S128x1_S3x3x128x128_013_2_n_n_2_1_331128.start (ix4 a b k f) idx 2 + 0 + 0 = v.val; rw [hs]; rfl
  | ⟨3, _⟩ => exact Nat.zero_add f.val

/-- The order of the input channels, the same whether or not it is wrapped. -/
theorem wrapped (v : ℕ) (hv : v < 128) : BitVec.toInt (Scalar.select (IntOp.cmpi .slt (BitVec.ofNat 32 v) 0#32) (IntOp.addi (BitVec.ofNat 32 v) 128#32) (BitVec.ofNat 32 v)) = (v : Int) := by
  interval_cases v <;> rfl

/-- The last convolution's weight, its input channels reordered. -/
theorem v179_at (U : Valuation τ sig (Elt Ideal)) (hc : ∀ k : Fin 128, (U (Proc.devRef .tc main_c) : IVec S128 32) (ix1 k) = BitVec.ofNat 32 (2 * (k.val % 64) + k.val / 64))
    (p : Fin 9) (k : Fin 128) (f : Fin 128) :
    (after hostOps3 U (Proc.devRef .tc main_v179) : FVec Ideal S9x128x128 .f32) (ix3 p k f)
      = (U (Proc.devRef .tc main_arg12) : FVec Ideal S128x128x3x3 .f32)
          (ix4 f (⟨2 * (k.val % 64) + k.val / 64, by omega⟩ : Fin 128) (⟨p.val / 3, by omega⟩ : Fin 3) (⟨p.val % 3, by omega⟩ : Fin 3)) := by
  simp only [hostOps3]
  after_results_simp
  pointwise []
  rw [perm_at _ _ _ _ _ _ (⟨2 * (k.val % 64) + k.val / 64, by omega⟩ : Fin 128)]
  · pointwise []
  · pointwise []
    rw [hc k]
    exact wrapped _ (by omega)

/-- The three heads' weights side by side. -/
theorem v186_at (U : Valuation τ sig (Elt Ideal)) (k : Fin 128) (q : Fin 20) :
    (after hostOps3 U (Proc.devRef .tc main_v186) : FVec Ideal S128x20 .f32) (ix2 k q)
      = if h : q.val < 2 then (U (Proc.devRef .tc main_arg14) : FVec Ideal S2x128x1x1 .f32) (ix4 (⟨q.val, h⟩ : Fin 2) k 0 0)
        else if h' : q.val - 2 < 14 then (U (Proc.devRef .tc main_arg16) : FVec Ideal S14x128x1x1 .f32) (ix4 (⟨q.val - 2, h'⟩ : Fin 14) k 0 0)
        else (U (Proc.devRef .tc main_arg18) : FVec Ideal S4x128x1x1 .f32) (ix4 (⟨q.val - 2 - 14, by omega⟩ : Fin 4) k 0 0) := by
  simp only [hostOps3]
  after_results_simp
  pointwise []
  after_results_simp
  pointwise []

/-- The three heads' biases side by side. -/
theorem v187_at (U : Valuation τ sig (Elt Ideal)) (q : Fin 20) :
    (after hostOps3 U (Proc.devRef .tc main_v187) : FVec Ideal S20 .f32) (ix1 q)
      = if h : q.val < 2 then (U (Proc.devRef .tc main_arg15) : FVec Ideal S2 .f32) (ix1 (⟨q.val, h⟩ : Fin 2))
        else if h' : q.val - 2 < 14 then (U (Proc.devRef .tc main_arg17) : FVec Ideal S14 .f32) (ix1 (⟨q.val - 2, h'⟩ : Fin 14))
        else (U (Proc.devRef .tc main_arg19) : FVec Ideal S4 .f32) (ix1 (⟨q.val - 2 - 14, by omega⟩ : Fin 4)) := by
  simp only [hostOps3]
  after_results_simp
  pointwise []
  try rfl

/-- The order of the input channels is the constant the launch starts from. -/
theorem lit0_at (k : Fin 128) : (lit0 (S128.rowMajor (ix1 k)) : BitVec 32) = BitVec.ofNat 32 (2 * (k.val % 64) + k.val / 64) := by
  have h : ∀ k : Fin 128, (lit0 k : BitVec 32) = BitVec.ofNat 32 (2 * (k.val % 64) + k.val / 64) := by decide
  have e : S128.rowMajor (ix1 k) = k := Fin.ext (by rw [ix1_eq_valueIdx, Shape.rowMajor_val_one])
  rw [e]
  exact h k

end Cert.KernelIdeal.Value
end
-- ==== Proof.Bridge3.lean ====
module

public import proofs.«01_k».proof.Proof.Bridge1

@[expose] public section

set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.KernelIdeal.Run

variable (V : (c : Dev nD) → (b : Ref sig .tc) → Buf (Elt Ideal) ((c : Thread nD τ).loc b))

theorem idx3 : ∀ t : Fin cfg3.N, win3_0.index t = ![t.val - 1, 0, 0] ∧ win3_1.index t = ![t.val, 0, 0] ∧ win3_2.index t = ![min (t.val + 1) 16, 0, 0] ∧ win3_3.index t = ![0, 0, 0]
    ∧ win3_4.index t = ![0] ∧ win3_5.index t = ![0, 0] ∧ win3_6.index t = ![0] ∧ win3_7.index t = ![t.val, 0, 0] :=
  (by decide +kernel : ∀ t : Fin grid3.N, _)

set_option maxHeartbeats 1600000 in
/-- The rows a block of this convolution sees, read off its input: the block row `y`, counted from the previous block's first row. -/
theorem rows3 (c : Dev nD) (t : Fin cfg3.N) (y : Fin 18) (x : Fin 96) (k : Fin 128) (h0 : y.val < 6 → 0 < t.val) (h2 : 12 ≤ y.val → t.val < 16) :
    k3_pay1 (F := Ideal) (iblk3 V c 0 t) (iblk3 V c 1 t) (iblk3 V c 2 t) (ix3 y x k)
      = (V c main_v170 : FVec Ideal S102x96x128 .f32) (ix3 (⟨6 * t.val + y.val - 6, by have := t.isLt; have : cfg3.N = 17 := rfl; omega⟩ : Fin 102) x k) := by
  have hN : t.val < 17 := t.isLt
  have hX0 : ∀ (u : Fin 6) (x : Fin 96) (v : Fin 128), iblk3 V c 0 t (ix3 u x v) = (V c main_v170 : FVec Ideal S102x96x128 .f32) (ix3 (⟨6 * (t.val - 1) + u.val, by omega⟩ : Fin 102) x v) := by
    intro u x v
    blk_ext [iblk3, idx3 t]
  have hX1 : ∀ (u : Fin 6) (x : Fin 96) (v : Fin 128), iblk3 V c 1 t (ix3 u x v) = (V c main_v170 : FVec Ideal S102x96x128 .f32) (ix3 (⟨6 * t.val + u.val, by omega⟩ : Fin 102) x v) := by
    intro u x v
    blk_ext [iblk3, idx3 t]
  have hX2 : ∀ (u : Fin 6) (x : Fin 96) (v : Fin 128), iblk3 V c 2 t (ix3 u x v) = (V c main_v170 : FVec Ideal S102x96x128 .f32) (ix3 (⟨6 * (min (t.val + 1) 16) + u.val, by omega⟩ : Fin 102) x v) := by
    intro u x v
    blk_ext [iblk3, idx3 t]
  pointwise [k3_pay1]
  by_cases c0 : y.val < 6
  · rw [dif_pos c0, hX0]
    have := h0 c0
    congr 2
    exact Fin.ext (by simp only; omega)
  · rw [dif_neg c0]
    by_cases c1 : y.val - 6 < 6
    · rw [dif_pos c1, hX1]
      congr 2
      exact Fin.ext (by simp only; omega)
    · rw [dif_neg c1, hX2]
      have := h2 (by omega)
      congr 2
      exact Fin.ext (by simp only; omega)

theorem blk3_3 (c : Dev nD) (t : Fin cfg3.N) (p : Fin 9) (k : Fin 128) (f : Fin 128) : iblk3 V c 3 t (ix3 p k f) = (V c main_v179 : FVec Ideal S9x128x128 .f32) (ix3 p k f) := by
  blk_ext [iblk3, idx3 t]
theorem blk3_4 (c : Dev nD) (t : Fin cfg3.N) (f : Fin 128) : iblk3 V c 4 t (ix1 f) = (V c main_arg13 : FVec Ideal S128 .f32) (ix1 f) := by
  blk_ext [iblk3, idx3 t]
theorem blk3_5 (c : Dev nD) (t : Fin cfg3.N) (f : Fin 128) (q : Fin 20) : iblk3 V c 5 t (ix2 f q) = (V c main_v186 : FVec Ideal S128x20 .f32) (ix2 f q) := by
  blk_ext [iblk3, idx3 t]
theorem blk3_6 (c : Dev nD) (t : Fin cfg3.N) (q : Fin 20) : iblk3 V c 6 t (ix1 q) = (V c main_v187 : FVec Ideal S20 .f32) (ix1 q) := by
  blk_ext [iblk3, idx3 t]

/-- The last kernel's block `t`, as the output of one grid point. -/
def blkOut3 (c : Dev nD) (t : Fin cfg3.N) : FVec Ideal S6x96x20 .f32 :=
  out3_7 (F := Ideal) (iblk3 V c 0 t) (iblk3 V c 1 t) (iblk3 V c 2 t) (iblk3 V c 3 t) (iblk3 V c 4 t) (iblk3 V c 5 t) (iblk3 V c 6 t)

theorem div6 {n t y : ℕ} (h : n = t * 6 + y) (hy : y < 6) : t = n / 6 ∧ y = n % 6 := by omega

/-- The last kernel's result, block by block. -/
theorem reg3_blocks (c : Dev nD) :
    (dat3 V c).arrAt 7 cfg3.N = (fun i : S102x96x20.Idx => blkOut3 V c (⟨(i 0).val / 6, by have := (i 0).isLt; show _ < 17; simp at this; omega⟩ : Fin cfg3.N)
      (ix3 (⟨(i 0).val % 6, Nat.mod_lt _ (by decide)⟩ : Fin 6) (i 1) (i 2))) := by
  refine (dat3 V c).arrAt_eq_of_covers 7 _ (by decide +kernel) fun t _ y => ?_
  blk_simp
  rw [after3_7]
  idx_vars y
  have hN : t.val < 17 := t.isLt
  have e0 : win3_7.index t 0 * 6 + y0.val = t.val * 6 + y0.val := by rw [(idx3 t).2.2.2.2.2.2.2]; rfl
  have e1 : ((((View.whole main_v188).slice (win3_7.rect t)).emb (ix3 y0 y1 y2)) 1) = y1 := Fin.ext (by blk_simp [idx3 t])
  have e2 : ((((View.whole main_v188).slice (win3_7.rect t)).emb (ix3 y0 y1 y2)) 2) = y2 := Fin.ext (by blk_simp [idx3 t])
  refine congr (congrArg (blkOut3 V c) (Fin.ext ?_)) (congr (congr (congrArg ix3 (Fin.ext ?_)) e1.symm) e2.symm)
  · exact (div6 e0 y0.isLt).1
  · exact (div6 e0 y0.isLt).2

set_option maxHeartbeats 1600000 in
/-- The last kernel's result at an inner point: the third convolution and the heads. -/
theorem reg3 (c : Dev nD) (A : FVec Ideal S102x96x128 .f32) (w : FVec Ideal S9x128x128 .f32) (b : FVec Ideal S128 .f32) (w' : FVec Ideal S128x20 .f32) (b' : FVec Ideal S20 .f32)
    (h0 : V c main_v170 = A) (h1 : V c main_v179 = w) (h2 : V c main_arg13 = b) (h3 : V c main_v186 = w') (h4 : V c main_v187 = b') (r : Fin 100) (x : Fin 88) (q : Fin 20) :
    (show FVec Ideal S102x96x20 .f32 from (dat3 V c).arrAt 7 cfg3.N) (ix3 (⟨r.val + 1, by omega⟩ : Fin 102) (up x) q)
      = (∑ f : Fin 128, max ((∑ a : Fin 3, ∑ b : Fin 3, ∑ k : Fin 128, A (ix3 (⟨r.val + a.val, by omega⟩ : Fin 102) (⟨x.val + b.val, by omega⟩ : Fin 96) k)
          * w (ix3 (⟨3 * a.val + b.val, by omega⟩ : Fin 9) k f)) + b (ix1 f)) 0 * w' (ix2 f q)) + b' (ix1 q) := by
  subst h0 h1 h2 h3 h4
  refine (congrFun (reg3_blocks V c) _).trans ?_
  refine (out3_at _ _ _ _ _ _ _ (⟨(r.val + 1) % 6, Nat.mod_lt _ (by decide)⟩ : Fin 6) x q).trans ?_
  refine congrArg₂ (· + ·) (Finset.sum_congr rfl fun f _ => congrArg₂ (· * ·) (congrArg₂ max (congrArg₂ (· + ·) ?_ (blk3_4 V c _ f)) rfl) (blk3_5 V c _ f q)) (blk3_6 V c _ q)
  refine Finset.sum_congr rfl fun a _ => Finset.sum_congr rfl fun b _ => Finset.sum_congr rfl fun k _ => ?_
  refine congrArg₂ (· * ·) ((rows3 V c _ _ _ _ (by simp only [ix3_0]; omega) (by simp only [ix3_0]; omega)).trans ?_) (blk3_3 V c _ _ k f)
  refine congrArg (fun p => (V c main_v170 : FVec Ideal S102x96x128 .f32) (ix3 p _ k)) (Fin.ext ?_)
  simp only [ix3_0]
  omega
end Cert.KernelIdeal.Value
end
-- ==== Proof.Heads.lean ====
module

public import proofs.«01_k».proof.Proof.W3
public import proofs.«01_k».proof.Proof.Bridge3
public import proofs.«01_k».proof.Proof.RConv2

@[expose] public section

set_option maxRecDepth 16384
noncomputable section
open Idealize.ShloMosaic Idealize.ShloMosaic.TcCoe Idealize.SL.Sem

namespace Cert.ReferenceIdeal.Value
open Cert.ReferenceIdeal Cert.ReferenceIdeal.Gen

/-- The reference's probability head at one element. -/
theorem head0 (X : FVec Ideal S128x100x88 .f32) (w : FVec Ideal S2x128x1x1 .f32) (b : FVec Ideal S2 .f32) (q : Fin 2) (y : Fin 100) (x : Fin 88) :
    addf (Host.dotGeneral dot_S1x2x128_S128x100x88_S1x2x100x88_2_0_01_12_n_n none (shapeCast _ w shapeCasts_S2x128x1x1_S1x2x128) X) (broadcastInDim S1x2x100x88 ![1] bcast_S2_S1x2x100x88_1 b) (ix4 (0 : Fin 1) q y x)
      = ((∑ f : Fin 128, w (ix4 q f 0 0) * X (ix3 f y x)) + b (ix1 q) : EReal) := by
  pointwise []

/-- The reference's regression head at one element. -/
theorem head1 (X : FVec Ideal S128x100x88 .f32) (w : FVec Ideal S14x128x1x1 .f32) (b : FVec Ideal S14 .f32) (q : Fin 14) (y : Fin 100) (x : Fin 88) :
    addf (Host.dotGeneral dot_S1x14x128_S128x100x88_S1x14x100x88_2_0_01_12_n_n none (shapeCast _ w shapeCasts_S14x128x1x1_S1x14x128) X) (broadcastInDim S1x14x100x88 ![1] bcast_S14_S1x14x100x88_1 b) (ix4 (0 : Fin 1) q y x)
      = ((∑ f : Fin 128, w (ix4 q f 0 0) * X (ix3 f y x)) + b (ix1 q) : EReal) := by
  pointwise []

/-- The reference's direction head at one element. -/
theorem head2 (X : FVec Ideal S128x100x88 .f32) (w : FVec Ideal S4x128x1x1 .f32) (b : FVec Ideal S4 .f32) (q : Fin 4) (y : Fin 100) (x : Fin 88) :
    addf (Host.dotGeneral dot_S1x4x128_S128x100x88_S1x4x100x88_2_0_01_12_n_n none (shapeCast _ w shapeCasts_S4x128x1x1_S1x4x128) X) (broadcastInDim S1x4x100x88 ![1] bcast_S4_S1x4x100x88_1 b) (ix4 (0 : Fin 1) q y x)
      = ((∑ f : Fin 128, w (ix4 q f 0 0) * X (ix3 f y x)) + b (ix1 q) : EReal) := by
  pointwise []

end Cert.ReferenceIdeal.Value

namespace Cert.KernelIdeal.Value
open Cert.KernelIdeal Cert.KernelIdeal.Gen Cert.KernelIdeal.Run
open Idealize.ShloMosaic.StableHlo
open Cert.ReferenceIdeal.Value (r75)

/-- The first result, read off the last kernel's. -/
theorem v192_at (U : Valuation τ sig (Elt Ideal)) (q : Fin 2) (y : Fin 100) (x : Fin 88) :
    (after hostOps4 U (Proc.devRef .tc main_v192) : FVec Ideal S1x2x100x88 .f32) (ix4 (0 : Fin 1) q y x)
      = (U (Proc.devRef .tc main_v188) : FVec Ideal S102x96x20 .f32) (ix3 (⟨y.val + 1, by omega⟩ : Fin 102) (up x) (⟨q.val, by omega⟩ : Fin 20)) := by
  simp only [hostOps4]
  after_results_simp
  pointwise [up]
  simp only [Nat.add_comm 1]

/-- The second result, read off the last kernel's. -/
theorem v193_at (U : Valuation τ sig (Elt Ideal)) (q : Fin 14) (y : Fin 100) (x : Fin 88) :
    (after hostOps4 U (Proc.devRef .tc main_v193) : FVec Ideal S1x14x100x88 .f32) (ix4 (0 : Fin 1) q y x)
      = (U (Proc.devRef .tc main_v188) : FVec Ideal S102x96x20 .f32) (ix3 (⟨y.val + 1, by omega⟩ : Fin 102) (up x) (⟨2 + q.val, by omega⟩ : Fin 20)) := by
  simp only [hostOps4]
  after_results_simp
  pointwise [up]
  simp only [Nat.add_comm 1]

/-- The third result, read off the last kernel's. -/
theorem v194_at (U : Valuation τ sig (Elt Ideal)) (q : Fin 4) (y : Fin 100) (x : Fin 88) :
    (after hostOps4 U (Proc.devRef .tc main_v194) : FVec Ideal S1x4x100x88 .f32) (ix4 (0 : Fin 1) q y x)
      = (U (Proc.devRef .tc main_v188) : FVec Ideal S102x96x20 .f32) (ix3 (⟨y.val + 1, by omega⟩ : Fin 102) (up x) (⟨16 + q.val, by omega⟩ : Fin 20)) := by
  simp only [hostOps4]
  after_results_simp
  pointwise [up]
  simp only [Nat.add_comm 1]

/-- The order of the channels the third convolution reads: the kernel's has the depth first, the reference's last. -/
theorem sum_channels (f : Fin 128 → EReal) : ∑ c : Fin 128, f c = ∑ k : Fin 128, f (⟨2 * (k.val % 64) + k.val / 64, by omega⟩ : Fin 128) := by
  refine (Finset.sum_nbij' (fun k : Fin 128 => (⟨2 * (k.val % 64) + k.val / 64, by omega⟩ : Fin 128)) (fun c : Fin 128 => (⟨c.val % 2 * 64 + c.val / 2, by omega⟩ : Fin 128))
    (fun _ _ => Finset.mem_univ _) (fun _ _ => Finset.mem_univ _) (fun k _ => Fin.ext ?_) (fun c _ => Fin.ext ?_) fun _ _ => rfl).symm
  · show (2 * (k.val % 64) + k.val / 64) % 2 * 64 + (2 * (k.val % 64) + k.val / 64) / 2 = k.val
    omega
  · show 2 * ((c.val % 2 * 64 + c.val / 2) % 64) + (c.val % 2 * 64 + c.val / 2) / 64 = c.val
    omega

/-- The third convolution: if the kernel's second result holds the reference's, the reference's features are the kernel's sum. -/
theorem conv3_join (A : FVec Ideal S102x96x128 .f32) (w : FVec Ideal S9x128x128 .f32)
    (V0 : Valuation Cert.ReferenceIdeal.τ Cert.ReferenceIdeal.sig (Elt Ideal)) (w' : FVec Ideal Cert.ReferenceIdeal.S128x128x3x3 .f32) (b' : FVec Ideal Cert.ReferenceIdeal.S128 .f32)
    (hw' : (V0 (Proc.devRef .tc Cert.ReferenceIdeal.main_arg12) : FVec Ideal Cert.ReferenceIdeal.S128x128x3x3 .f32) = w') (hb' : (V0 (Proc.devRef .tc Cert.ReferenceIdeal.main_arg13) : FVec Ideal Cert.ReferenceIdeal.S128 .f32) = b')
    (hA : ∀ (o : Fin 128) (y : Fin 102) (x : Fin 90), (Cert.ReferenceIdeal.Value.res_main_v61 V0 : FVec Ideal Cert.ReferenceIdeal.S128x102x90 .f32) (ix3 o y x)
      = A (ix3 y (⟨x.val, by omega⟩ : Fin 96) (⟨o.val % 2 * 64 + o.val / 2, by omega⟩ : Fin 128)))
    (hw : ∀ p k f, w (ix3 p k f) = w' (ix4 f (⟨2 * (k.val % 64) + k.val / 64, by omega⟩ : Fin 128) (⟨p.val / 3, by omega⟩ : Fin 3) (⟨p.val % 3, by omega⟩ : Fin 3)))
    (f : Fin 128) (y : Fin 100) (x : Fin 88) :
    (Cert.ReferenceIdeal.Value.res_main_v75 V0 : FVec Ideal Cert.ReferenceIdeal.S128x100x88 .f32) (ix3 f y x)
      = (max ((∑ a : Fin 3, ∑ b : Fin 3, ∑ k : Fin 128, A (ix3 (⟨y.val + a.val, by omega⟩ : Fin 102) (⟨x.val + b.val, by omega⟩ : Fin 96) k)
          * w (ix3 (⟨3 * a.val + b.val, by omega⟩ : Fin 9) k f)) + b' (ix1 f)) 0 : EReal) := by
  rw [r75 V0 w' b' hw' hb']
  refine congrArg (fun t : EReal => (max (t + b' (ix1 f)) (0 : EReal) : EReal)) (Finset.sum_congr rfl fun a _ => Finset.sum_congr rfl fun b _ => ?_)
  rw [sum_channels]
  refine Finset.sum_congr rfl fun k _ => ?_
  have ea : (⟨(3 * a.val + b.val) / 3, by omega⟩ : Fin 3) = a := Fin.ext (by show (3 * a.val + b.val) / 3 = a.val; omega)
  have eb : (⟨(3 * a.val + b.val) % 3, by omega⟩ : Fin 3) = b := Fin.ext (by show (3 * a.val + b.val) % 3 = b.val; omega)
  rw [hw, mul_comm]
  simp only [ea, eb]
  refine congrArg₂ (· * ·) ((hA _ _ _).trans (congrArg A (congrArg (ix3 _ _) (Fin.ext ?_)))) rfl
  show (2 * (k.val % 64) + k.val / 64) % 2 * 64 + (2 * (k.val % 64) + k.val / 64) / 2 = k.val
  omega

end Cert.KernelIdeal.Value
end
-- ==== Proof.W1.lean ====
module

public import proofs.«01_k».proof.Proof.W2

@[expose] public section

set_option maxRecDepth 16384
noncomputable section
open Idealize.ShloMosaic Idealize.ShloMosaic.TcCoe Idealize.SL.Sem
namespace Cert.KernelIdeal.Value
open Cert.KernelIdeal Cert.KernelIdeal.Gen Cert.KernelIdeal.Run

open Idealize.ShloMosaic.StableHlo

set_option maxHeartbeats 1600000 in
/-- The first convolution's banded weight, one slice after another. -/
theorem v129_at (U : Valuation τ sig (Elt Ideal)) (p : Fin 9) (k : Fin 1024) (f : Fin 256) :
    (after hostOps1_10 U (Proc.devRef .tc main_v129) : FVec Ideal S9x1024x256 .f32) (ix3 p k f)
      = tap (fun dz => (U (Proc.devRef .tc main_arg8) : FVec Ideal S64x128x3x3x3 .f32)
          (ix5 (⟨f.val % 64, by omega⟩ : Fin 64) (⟨k.val % 128, by omega⟩ : Fin 128) dz (⟨p.val / 3, by omega⟩ : Fin 3) (⟨p.val % 3, by omega⟩ : Fin 3))) (k.val / 128) (f.val / 64) := by
  simp only [hostOps1_10]
  after_results_simp
  pointwise []
  rw [band_at _ rfl rfl rfl rfl _ _ _ 7 3 (by pointwise []; after_results_simp; pointwise []; rfl) (by pointwise []; after_results_simp; pointwise []; rfl),
    band_at _ rfl rfl rfl rfl _ _ _ 6 3 (by pointwise []; after_results_simp; pointwise []; rfl) (by pointwise []; after_results_simp; pointwise []; rfl),
    band_at _ rfl rfl rfl rfl _ _ _ 5 3 (by pointwise []; after_results_simp; pointwise []; rfl) (by pointwise []; after_results_simp; pointwise []; rfl),
    band_at _ rfl rfl rfl rfl _ _ _ 5 2 (by pointwise []; after_results_simp; pointwise []; rfl) (by pointwise []; after_results_simp; pointwise []; rfl),
    band_at _ rfl rfl rfl rfl _ _ _ 4 2 (by pointwise []; after_results_simp; pointwise []; rfl) (by pointwise []; after_results_simp; pointwise []; rfl),
    band_at _ rfl rfl rfl rfl _ _ _ 3 2 (by pointwise []; after_results_simp; pointwise []; rfl) (by pointwise []; after_results_simp; pointwise []; rfl),
    band_at _ rfl rfl rfl rfl _ _ _ 3 1 (by pointwise []; after_results_simp; pointwise []; rfl) (by pointwise []; after_results_simp; pointwise []; rfl),
    band_at _ rfl rfl rfl rfl _ _ _ 2 1 (by pointwise []; after_results_simp; pointwise []; rfl) (by pointwise []; after_results_simp; pointwise []; rfl),
    band_at _ rfl rfl rfl rfl _ _ _ 1 1 (by pointwise []; after_results_simp; pointwise []; rfl) (by pointwise []; after_results_simp; pointwise []; rfl),
    band_at _ rfl rfl rfl rfl _ _ _ 1 0 (by pointwise []; after_results_simp; pointwise []; rfl) (by pointwise []; after_results_simp; pointwise []; rfl),
    band_at _ rfl rfl rfl rfl _ _ _ 0 0 (by pointwise []; after_results_simp; pointwise []; rfl) (by pointwise []; after_results_simp; pointwise []; rfl),
    ← tap1 _ _ _ (by omega) (by omega)]
  pointwise []
  try rfl

/-- The first convolution's bias, tiled over the output depths. -/
theorem v132_at (U : Valuation τ sig (Elt Ideal)) (f : Fin 256) :
    (after hostOps1_10 U (Proc.devRef .tc main_v132) : FVec Ideal S256 .f32) (ix1 f)
      = (U (Proc.devRef .tc main_arg9) : FVec Ideal S64 .f32) (ix1 (⟨f.val % 64, by omega⟩ : Fin 64)) := by
  simp only [hostOps1_10]
  after_results_simp
  pointwise []

end Cert.KernelIdeal.Value
end
-- ==== Proof.Final.lean ====
module

public import proofs.«01_k».proof.Proof.Join1
public import proofs.«01_k».proof.Proof.Join2
public import proofs.«01_k».proof.Proof.Heads
public import proofs.«01_k».proof.Proof.W1

/-! The value of a run of the kernel, stage by stage, against the reference's terms. -/

@[expose] public section

set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.KernelIdeal.Run
open Cert.ReferenceIdeal.Value (rvox rvox_at)

variable (m : (ℓ : Loc nD τ sig) → Buf (Elt Ideal) ℓ) (ρ : Dev nD → PrngReg) (c : Dev nD)
variable (V0 : Valuation Cert.ReferenceIdeal.τ Cert.ReferenceIdeal.sig (Elt Ideal))

/-- The reference's launch contents `V0` hold the arguments of the kernel's launch memory. -/
structure Same : Prop where
  a0 : (V0 (Proc.devRef .tc Cert.ReferenceIdeal.main_arg0) : FVec Ideal S12000x35x7 .f32) = m ((c : Thread nD τ).loc main_arg0)
  a1 : (V0 (Proc.devRef .tc Cert.ReferenceIdeal.main_arg1) : IVec S12000x4 32) = m ((c : Thread nD τ).loc main_arg1)
  a2 : (V0 (Proc.devRef .tc Cert.ReferenceIdeal.main_arg2) : FVec Ideal S7x16 .f32) = m ((c : Thread nD τ).loc main_arg2)
  a3 : (V0 (Proc.devRef .tc Cert.ReferenceIdeal.main_arg3) : FVec Ideal S16 .f32) = m ((c : Thread nD τ).loc main_arg3)
  a4 : (V0 (Proc.devRef .tc Cert.ReferenceIdeal.main_arg4) : FVec Ideal S32x64 .f32) = m ((c : Thread nD τ).loc main_arg4)
  a5 : (V0 (Proc.devRef .tc Cert.ReferenceIdeal.main_arg5) : FVec Ideal S64 .f32) = m ((c : Thread nD τ).loc main_arg5)
  a6 : (V0 (Proc.devRef .tc Cert.ReferenceIdeal.main_arg6) : FVec Ideal S128x128 .f32) = m ((c : Thread nD τ).loc main_arg6)
  a7 : (V0 (Proc.devRef .tc Cert.ReferenceIdeal.main_arg7) : FVec Ideal S128 .f32) = m ((c : Thread nD τ).loc main_arg7)
  a8 : (V0 (Proc.devRef .tc Cert.ReferenceIdeal.main_arg8) : FVec Ideal S64x128x3x3x3 .f32) = m ((c : Thread nD τ).loc main_arg8)
  a9 : (V0 (Proc.devRef .tc Cert.ReferenceIdeal.main_arg9) : FVec Ideal S64 .f32) = m ((c : Thread nD τ).loc main_arg9)
  a10 : (V0 (Proc.devRef .tc Cert.ReferenceIdeal.main_arg10) : FVec Ideal S64x64x3x3x3 .f32) = m ((c : Thread nD τ).loc main_arg10)
  a11 : (V0 (Proc.devRef .tc Cert.ReferenceIdeal.main_arg11) : FVec Ideal S64 .f32) = m ((c : Thread nD τ).loc main_arg11)
  a12 : (V0 (Proc.devRef .tc Cert.ReferenceIdeal.main_arg12) : FVec Ideal S128x128x3x3 .f32) = m ((c : Thread nD τ).loc main_arg12)
  a13 : (V0 (Proc.devRef .tc Cert.ReferenceIdeal.main_arg13) : FVec Ideal S128 .f32) = m ((c : Thread nD τ).loc main_arg13)
  a14 : (V0 (Proc.devRef .tc Cert.ReferenceIdeal.main_arg14) : FVec Ideal S2x128x1x1 .f32) = m ((c : Thread nD τ).loc main_arg14)
  a15 : (V0 (Proc.devRef .tc Cert.ReferenceIdeal.main_arg15) : FVec Ideal S2 .f32) = m ((c : Thread nD τ).loc main_arg15)
  a16 : (V0 (Proc.devRef .tc Cert.ReferenceIdeal.main_arg16) : FVec Ideal S14x128x1x1 .f32) = m ((c : Thread nD τ).loc main_arg16)
  a17 : (V0 (Proc.devRef .tc Cert.ReferenceIdeal.main_arg17) : FVec Ideal S14 .f32) = m ((c : Thread nD τ).loc main_arg17)
  a18 : (V0 (Proc.devRef .tc Cert.ReferenceIdeal.main_arg18) : FVec Ideal S4x128x1x1 .f32) = m ((c : Thread nD τ).loc main_arg18)
  a19 : (V0 (Proc.devRef .tc Cert.ReferenceIdeal.main_arg19) : FVec Ideal S4 .f32) = m ((c : Thread nD τ).loc main_arg19)

variable {m c V0}

/-- The voxels' features agree. -/
theorem vox_join (hs : Same m c V0) (n : Fin 12288) (hn : n.val < 12000) (j : Fin 128) :
    (W4 m ρ c (Proc.devRef .tc main_v8) : FVec Ideal S12288x128 .f32) (ix2 n j) = rvox V0 (ix2 (⟨n.val, hn⟩ : Fin 12000) j) :=
  (kfeat m ρ c _ _ _ _ _ _ _ rfl rfl rfl rfl rfl rfl rfl n hn j).trans
    (rvox_at V0 _ _ _ _ _ _ _ hs.a0 hs.a2 hs.a3 hs.a4 hs.a5 hs.a6 hs.a7 ⟨n.val, hn⟩ j).symm

/-- The first convolution's results agree. -/
theorem stage1 (hs : Same m c V0) (hok : Ok (m ((c : Thread nD τ).loc main_arg1))) (o : Fin 64) (d : Fin 6) (y : Fin 102) (x : Fin 90) :
    (Cert.ReferenceIdeal.Value.res_main_v41 V0 : FVec Ideal Cert.ReferenceIdeal.S64x6x102x90 .f32) (ix4 o d y x)
      = if h : 1 ≤ d.val ∧ d.val - 1 < 4 then
          (W16 m ρ c (Proc.devRef .tc main_v133) : FVec Ideal S102x96x256 .f32) (ix3 y (⟨x.val, by omega⟩ : Fin 96) (⟨(d.val - 1) * 64 + o.val, by omega⟩ : Fin 256))
        else (0 : EReal) := by
  have e := (W16_arr m ρ c 5).trans (reg1 (V15 m ρ) c _ _ _ rfl rfl rfl)
  refine (conv1_join (W15 m ρ c (Proc.devRef .tc main_v60)) (W15 m ρ c (Proc.devRef .tc main_v129)) (W15 m ρ c (Proc.devRef .tc main_v132)) V0 _ _ hs.a8 hs.a9
    (grid_join m ρ c _ rfl hok V0 hs.a1 (vox_join ρ hs)) (fun p k f => ?_) (fun f => ?_) o d y x).trans (dite_congr rfl (fun h => (congrFun e (ix3 y (⟨x.val, by omega⟩ : Fin 96) (⟨(d.val - 1) * 64 + o.val, by omega⟩ : Fin 256))).symm) fun _ => rfl)
  · refine (v129_at (W14 m ρ c) p k f).trans ?_
    rw [W14_args m ρ c main_arg8 (by decide)]
  · refine (v132_at (W14 m ρ c) f).trans ?_
    rw [W14_args m ρ c main_arg9 (by decide)]

/-- The second convolution's results agree. -/
theorem stage2 (hs : Same m c V0) (hok : Ok (m ((c : Thread nD τ).loc main_arg1))) (o : Fin 128) (y : Fin 102) (x : Fin 90) :
    (Cert.ReferenceIdeal.Value.res_main_v61 V0 : FVec Ideal Cert.ReferenceIdeal.S128x102x90 .f32) (ix3 o y x)
      = (W18 m ρ c (Proc.devRef .tc main_v170) : FVec Ideal S102x96x128 .f32) (ix3 y (⟨x.val, by omega⟩ : Fin 96) (⟨o.val % 2 * 64 + o.val / 2, by omega⟩ : Fin 128)) := by
  have e := (W18_arr m ρ c 5).trans (reg2 (V17 m ρ) c (W16 m ρ c (Proc.devRef .tc main_v133)) _ _ (W17_of m ρ c main_v133 (by decide)) rfl rfl)
  refine (conv2_join (W16 m ρ c (Proc.devRef .tc main_v133)) (W17 m ρ c (Proc.devRef .tc main_v166)) (W17 m ρ c (Proc.devRef .tc main_v169)) V0 _ _ hs.a10 hs.a11
    (stage1 ρ hs hok) (fun p k f => ?_) (fun f => ?_) o y x).trans (congrFun e (ix3 y (⟨x.val, by omega⟩ : Fin 96) (⟨o.val % 2 * 64 + o.val / 2, by omega⟩ : Fin 128))).symm
  · refine (v166_at (W16 m ρ c) p k f).trans ?_
    rw [W16_args m ρ c main_arg10 (by decide)]
  · refine (v169_at (W16 m ρ c) f).trans ?_
    rw [W16_args m ρ c main_arg11 (by decide)]

/-- The literal of the channels' order holds until the third convolution's weights are laid out. -/
theorem hc18 (k : Fin 128) : (W18 m ρ c (Proc.devRef .tc main_c) : IVec S128 32) (ix1 k) = BitVec.ofNat 32 (2 * (k.val % 64) + k.val / 64) := by
  rw [W18_of m ρ c main_c (by decide), W17_of m ρ c main_c (by decide), W16_of m ρ c main_c (by decide), W15_of m ρ c main_c (by decide), W14_of m ρ c main_c (by decide),
    W13_of m ρ c main_c (by decide), W12_of m ρ c main_c (by decide), W11_of m ρ c main_c (by decide), W10_of m ρ c main_c (by decide), W9_of m ρ c main_c (by decide),
    W8_of m ρ c main_c (by decide), W7_of m ρ c main_c (by decide), W6_of m ρ c main_c (by decide), W5_of m ρ c main_c (by decide), W4_of m ρ c main_c (by decide),
    W3_of m ρ c main_c (by decide), W2_of m ρ c main_c (by decide)]
  have e : ∀ U : Valuation τ sig (Elt Ideal), (StableHlo.after hostOps0 U (Proc.devRef .tc main_c) : IVec S128 32) (ix1 k) = lit0 (S128.rowMajor (ix1 k)) := by
    intro U
    simp only [hostOps0]
    after_results_simp
  exact (e (W0 m ρ c)).trans (lit0_at k)

/-- A head's value at one place: its weights `w` over the features `v`, and its bias `b`. -/
def headAt (w v : Fin 128 → EReal) (b : EReal) : EReal := (∑ f : Fin 128, w f * v f) + b

/-- The last kernel's result in the reference's features. -/
theorem stage3 (hs : Same m c V0) (hok : Ok (m ((c : Thread nD τ).loc main_arg1))) (y : Fin 100) (x : Fin 88) (q : Fin 20) :
    (W20 m ρ c (Proc.devRef .tc main_v188) : FVec Ideal S102x96x20 .f32) (ix3 (⟨y.val + 1, by omega⟩ : Fin 102) (up x) q)
      = headAt (fun f => (W19 m ρ c (Proc.devRef .tc main_v186) : FVec Ideal S128x20 .f32) (ix2 f q))
          (fun f => (Cert.ReferenceIdeal.Value.res_main_v75 V0 : FVec Ideal Cert.ReferenceIdeal.S128x100x88 .f32) (ix3 f y x))
          ((W19 m ρ c (Proc.devRef .tc main_v187) : FVec Ideal S20 .f32) (ix1 q)) := by
  refine (congrFun (W20_arr m ρ c 7) _).trans ((reg3 (V19 m ρ) c (W18 m ρ c (Proc.devRef .tc main_v170)) (W19 m ρ c (Proc.devRef .tc main_v179)) (m ((c : Thread nD τ).loc main_arg13))
    (W19 m ρ c (Proc.devRef .tc main_v186)) (W19 m ρ c (Proc.devRef .tc main_v187)) (W19_of m ρ c main_v170 (by decide)) rfl (W19_args m ρ c main_arg13 (by decide)) rfl rfl y x q).trans ?_)
  refine congrArg₂ (· + ·) (Finset.sum_congr rfl fun f _ => (mul_comm _ _).trans (congrArg₂ (· * ·) rfl ?_)) rfl
  refine (conv3_join (W18 m ρ c (Proc.devRef .tc main_v170)) (W19 m ρ c (Proc.devRef .tc main_v179)) V0 _ _ hs.a12 hs.a13 (stage2 ρ hs hok) (fun p k f => ?_) f y x).symm
  refine (v179_at (W18 m ρ c) (hc18 ρ) p k f).trans ?_
  rw [W18_args m ρ c main_arg12 (by decide)]

end Cert.KernelIdeal.Value
end
-- ==== Proof.PreGrid.lean ====
module

public import proofs.«01_k».proof.Proof.Grid
public import proofs.«01_k».proof.Proof.Claims
public import Idealize.ShloMosaic.Lib.ReduceAll

@[expose] public section

set_option maxRecDepth 16384
noncomputable section
open Idealize.ShloMosaic Idealize.ShloMosaic.TcCoe Idealize.SL.Sem
namespace Cert.Proof

open Cert.Pre_in_grid Cert.Pre_in_grid.Facts

/-- A word between zero and a small bound, both tests signed. -/
theorem word_between (a : BitVec 32) (q : ℕ) (hq : q < 2 ^ 31) (h1 : IntOp.cmpi .sge a 0#32 = 1#1) (h2 : IntOp.cmpi .slt a (BitVec.ofNat 32 q) = 1#1) : a.toNat < q := by
  have h1' := IntOp.cmpi_sge.1 h1
  have h2' := IntOp.cmpi_slt.1 h2
  rw [Cert.KernelIdeal.Value.toInt_small q hq] at h2'
  rw [BitVec.toInt_zero] at h1'
  have := BitVec.toInt_eq_toNat_cond a
  split at this <;> omega

/-- A column of the coordinates. -/
theorem col_at (I : IVec S12000x4 32) (n : Fin 12000) :
    shapeCast S12000 (extractStridedSlice S12000x1 ![0, 0] I slices_S12000x4_S12000x1_0_0) shapeCasts_S12000x1_S12000 (ix1 n) = I (ix2 n 0)
    ∧ shapeCast S12000 (extractStridedSlice S12000x1 ![0, 1] I slices_S12000x4_S12000x1_0_1) shapeCasts_S12000x1_S12000 (ix1 n) = I (ix2 n 1)
    ∧ shapeCast S12000 (extractStridedSlice S12000x1 ![0, 2] I slices_S12000x4_S12000x1_0_2) shapeCasts_S12000x1_S12000 (ix1 n) = I (ix2 n 2)
    ∧ shapeCast S12000 (extractStridedSlice S12000x1 ![0, 3] I slices_S12000x4_S12000x1_0_3) shapeCasts_S12000x1_S12000 (ix1 n) = I (ix2 n 3) := by
  refine ⟨?_, ?_, ?_, ?_⟩ <;> pointwise []

/-- The precondition says of every voxel that it names a cell of the grid. -/
theorem in_grid_ok {F : FTy → Type} [FloatOps F] (x0) (I : IVec S12000x4 32) (x2 x3 x4 x5 x6 x7 x8 x9 x10 x11 x12 x13 x14 x15 x16 x17 x18 x19)
    (h : (Cert.Pre_in_grid.fn (F := F) x0 I x2 x3 x4 x5 x6 x7 x8 x9 x10 x11 x12 x13 x14 x15 x16 x17 x18 x19) = fun _ => 1#1) : Cert.KernelIdeal.Value.Ok I := by
  intro n
  have h1 := congrFun h ix0
  unfold Cert.Pre_in_grid.fn Cert.Pre_in_grid.fn_part1 at h1
  have h2 := Host.reduce_andi_all _ _ _ _ ix0 h1 (ix1 n)
  obtain ⟨c0, c1, c2, c3⟩ := col_at I n
  have h3 : IntOp.andi (IntOp.andi (IntOp.andi (IntOp.andi (IntOp.andi (IntOp.andi
      (IntOp.cmpi .eq (shapeCast S12000 (extractStridedSlice S12000x1 ![0, 0] I slices_S12000x4_S12000x1_0_0) shapeCasts_S12000x1_S12000 (ix1 n)) 0#32)
      (IntOp.cmpi .sge (shapeCast S12000 (extractStridedSlice S12000x1 ![0, 1] I slices_S12000x4_S12000x1_0_1) shapeCasts_S12000x1_S12000 (ix1 n)) 0#32))
      (IntOp.cmpi .slt (shapeCast S12000 (extractStridedSlice S12000x1 ![0, 1] I slices_S12000x4_S12000x1_0_1) shapeCasts_S12000x1_S12000 (ix1 n)) 100#32))
      (IntOp.cmpi .sge (shapeCast S12000 (extractStridedSlice S12000x1 ![0, 2] I slices_S12000x4_S12000x1_0_2) shapeCasts_S12000x1_S12000 (ix1 n)) 0#32))
      (IntOp.cmpi .slt (shapeCast S12000 (extractStridedSlice S12000x1 ![0, 2] I slices_S12000x4_S12000x1_0_2) shapeCasts_S12000x1_S12000 (ix1 n)) 88#32))
      (IntOp.cmpi .sge (shapeCast S12000 (extractStridedSlice S12000x1 ![0, 3] I slices_S12000x4_S12000x1_0_3) shapeCasts_S12000x1_S12000 (ix1 n)) 0#32))
      (IntOp.cmpi .slt (shapeCast S12000 (extractStridedSlice S12000x1 ![0, 3] I slices_S12000x4_S12000x1_0_3) shapeCasts_S12000x1_S12000 (ix1 n)) 8#32) = 1#1 := h2
  rw [c0, c1, c2, c3] at h3
  obtain ⟨h3, g6⟩ := IntOp.andi_eq_one.1 h3
  obtain ⟨h3, g5⟩ := IntOp.andi_eq_one.1 h3
  obtain ⟨h3, g4⟩ := IntOp.andi_eq_one.1 h3
  obtain ⟨h3, g3⟩ := IntOp.andi_eq_one.1 h3
  obtain ⟨h3, g2⟩ := IntOp.andi_eq_one.1 h3
  obtain ⟨g0, g1⟩ := IntOp.andi_eq_one.1 h3
  refine ⟨?_, word_between _ 100 (by decide) g1 g2, word_between _ 88 (by decide) g3 g4, word_between _ 8 (by decide) g5 g6⟩
  have := IntOp.cmpi_eq.1 g0
  rw [this]
  rfl

end Cert.Proof
end
-- ==== Proof.Algebraic.lean ====
module

public import proofs.«01_k».proof.Proof.Final
public import proofs.«01_k».proof.Proof.PreGrid

/-! The value claim: over the reals extended with the two infinities, the kernel's three results are the reference's. -/

@[expose] public section

set_option maxRecDepth 16384
noncomputable section
open Idealize.ShloMosaic Idealize.ShloMosaic.TcCoe Idealize.SL.Sem

namespace Cert.KernelIdeal.Value
open Cert.KernelIdeal Cert.KernelIdeal.Gen Cert.KernelIdeal.Run
open Cert.ReferenceIdeal.Value (head0 head1 head2 res_main_v75)

variable {m : (ℓ : Loc nD τ sig) → Buf (Elt Ideal) ℓ} (ρ : Dev nD → PrngReg) {c : Dev nD}
variable {V0 : Valuation Cert.ReferenceIdeal.τ Cert.ReferenceIdeal.sig (Elt Ideal)}

/-- The last kernel's result at one place and channel, in the arguments of the channel's head. -/
theorem head_at (hs : Same m c V0) (hok : Ok (m ((c : Thread nD τ).loc main_arg1))) (y : Fin 100) (x : Fin 88) (q : Fin 20) (w : Fin 128 → EReal) (b : EReal)
    (hw : ∀ f, (W19 m ρ c (Proc.devRef .tc main_v186) : FVec Ideal S128x20 .f32) (ix2 f q) = w f) (hb : (W19 m ρ c (Proc.devRef .tc main_v187) : FVec Ideal S20 .f32) (ix1 q) = b) :
    (W20 m ρ c (Proc.devRef .tc main_v188) : FVec Ideal S102x96x20 .f32) (ix3 (⟨y.val + 1, by omega⟩ : Fin 102) (up x) q)
      = headAt w (fun f => (res_main_v75 V0 : FVec Ideal Cert.ReferenceIdeal.S128x100x88 .f32) (ix3 f y x)) b := by
  rw [stage3 ρ hs hok y x q, hb, funext hw]

/-- The first result. -/
theorem result0 (hs : Same m c V0) (hok : Ok (m ((c : Thread nD τ).loc main_arg1))) (w : FVec Ideal S2x128x1x1 .f32) (b : FVec Ideal S2 .f32)
    (X : FVec Ideal Cert.ReferenceIdeal.S128x100x88 .f32) (hX : res_main_v75 V0 = X) (h14 : m ((c : Thread nD τ).loc main_arg14) = w) (h15 : m ((c : Thread nD τ).loc main_arg15) = b) :
    (W21 m ρ c (Proc.devRef .tc main_v192) : FVec Ideal S1x2x100x88 .f32)
      = addf (Host.dotGeneral Cert.ReferenceIdeal.dot_S1x2x128_S128x100x88_S1x2x100x88_2_0_01_12_n_n none (shapeCast _ w Cert.ReferenceIdeal.Gen.shapeCasts_S2x128x1x1_S1x2x128)
          X) (broadcastInDim Cert.ReferenceIdeal.S1x2x100x88 ![1] Cert.ReferenceIdeal.Gen.bcast_S2_S1x2x100x88_1 b) := by
  subst hX
  funext i
  obtain ⟨z, q, y, x, rfl⟩ : ∃ (z : Fin 1) (q : Fin 2) (y : Fin 100) (x : Fin 88), i = ix4 z q y x := ⟨i 0, i 1, i 2, i 3, (ix4_eta i).symm⟩
  obtain rfl : z = 0 := Subsingleton.elim _ _
  refine ((v192_at (W20 m ρ c) q y x).trans (head_at ρ hs hok y x _ (fun f => w (ix4 q f 0 0)) (b (ix1 q)) (fun f => ?_) ?_)).trans (head0 _ w b q y x).symm
  · refine (v186_at (W18 m ρ c) f _).trans ((dif_pos q.isLt).trans ?_)
    rw [W18_args m ρ c main_arg14 (by decide), h14]
  · refine (v187_at (W18 m ρ c) _).trans ((dif_pos q.isLt).trans ?_)
    rw [W18_args m ρ c main_arg15 (by decide), h15]

/-- The second result. -/
theorem result1 (hs : Same m c V0) (hok : Ok (m ((c : Thread nD τ).loc main_arg1))) (w : FVec Ideal S14x128x1x1 .f32) (b : FVec Ideal S14 .f32)
    (X : FVec Ideal Cert.ReferenceIdeal.S128x100x88 .f32) (hX : res_main_v75 V0 = X) (h16 : m ((c : Thread nD τ).loc main_arg16) = w) (h17 : m ((c : Thread nD τ).loc main_arg17) = b) :
    (W21 m ρ c (Proc.devRef .tc main_v193) : FVec Ideal S1x14x100x88 .f32)
      = addf (Host.dotGeneral Cert.ReferenceIdeal.dot_S1x14x128_S128x100x88_S1x14x100x88_2_0_01_12_n_n none (shapeCast _ w Cert.ReferenceIdeal.Gen.shapeCasts_S14x128x1x1_S1x14x128)
          X) (broadcastInDim Cert.ReferenceIdeal.S1x14x100x88 ![1] Cert.ReferenceIdeal.Gen.bcast_S14_S1x14x100x88_1 b) := by
  subst hX
  funext i
  obtain ⟨z, q, y, x, rfl⟩ : ∃ (z : Fin 1) (q : Fin 14) (y : Fin 100) (x : Fin 88), i = ix4 z q y x := ⟨i 0, i 1, i 2, i 3, (ix4_eta i).symm⟩
  obtain rfl : z = 0 := Subsingleton.elim _ _
  have e : (2 + q.val) - 2 < 14 := by omega
  have eq : (⟨(2 + q.val) - 2, e⟩ : Fin 14) = q := Fin.ext (by show (2 + q.val) - 2 = q.val; omega)
  refine ((v193_at (W20 m ρ c) q y x).trans (head_at ρ hs hok y x _ (fun f => w (ix4 q f 0 0)) (b (ix1 q)) (fun f => ?_) ?_)).trans (head1 _ w b q y x).symm
  · refine (v186_at (W18 m ρ c) f _).trans ((dif_neg (by show ¬ 2 + q.val < 2; omega)).trans ((dif_pos e).trans ?_))
    rw [W18_args m ρ c main_arg16 (by decide), h16, eq]
  · refine (v187_at (W18 m ρ c) _).trans ((dif_neg (by show ¬ 2 + q.val < 2; omega)).trans ((dif_pos e).trans ?_))
    rw [W18_args m ρ c main_arg17 (by decide), h17, eq]

/-- The third result. -/
theorem result2 (hs : Same m c V0) (hok : Ok (m ((c : Thread nD τ).loc main_arg1))) (w : FVec Ideal S4x128x1x1 .f32) (b : FVec Ideal S4 .f32)
    (X : FVec Ideal Cert.ReferenceIdeal.S128x100x88 .f32) (hX : res_main_v75 V0 = X) (h18 : m ((c : Thread nD τ).loc main_arg18) = w) (h19 : m ((c : Thread nD τ).loc main_arg19) = b) :
    (W21 m ρ c (Proc.devRef .tc main_v194) : FVec Ideal S1x4x100x88 .f32)
      = addf (Host.dotGeneral Cert.ReferenceIdeal.dot_S1x4x128_S128x100x88_S1x4x100x88_2_0_01_12_n_n none (shapeCast _ w Cert.ReferenceIdeal.Gen.shapeCasts_S4x128x1x1_S1x4x128)
          X) (broadcastInDim Cert.ReferenceIdeal.S1x4x100x88 ![1] Cert.ReferenceIdeal.Gen.bcast_S4_S1x4x100x88_1 b) := by
  subst hX
  funext i
  obtain ⟨z, q, y, x, rfl⟩ : ∃ (z : Fin 1) (q : Fin 4) (y : Fin 100) (x : Fin 88), i = ix4 z q y x := ⟨i 0, i 1, i 2, i 3, (ix4_eta i).symm⟩
  obtain rfl : z = 0 := Subsingleton.elim _ _
  have e : (16 + q.val) - 2 - 14 < 4 := by omega
  have eq : (⟨(16 + q.val) - 2 - 14, e⟩ : Fin 4) = q := Fin.ext (by show (16 + q.val) - 2 - 14 = q.val; omega)
  refine ((v194_at (W20 m ρ c) q y x).trans (head_at ρ hs hok y x _ (fun f => w (ix4 q f 0 0)) (b (ix1 q)) (fun f => ?_) ?_)).trans (head2 _ w b q y x).symm
  · refine (v186_at (W18 m ρ c) f _).trans ((dif_neg (by show ¬ 16 + q.val < 2; omega)).trans ((dif_neg (by show ¬ 16 + q.val - 2 < 14; omega)).trans ?_))
    rw [W18_args m ρ c main_arg18 (by decide), h18, eq]
  · refine (v187_at (W18 m ρ c) _).trans ((dif_neg (by show ¬ 16 + q.val < 2; omega)).trans ((dif_neg (by show ¬ 16 + q.val - 2 < 14; omega)).trans ?_))
    rw [W18_args m ρ c main_arg19 (by decide), h19, eq]

end Cert.KernelIdeal.Value

namespace Cert.Proof
open Cert.KernelIdeal.Value (Same result0 result1 result2)

theorem algebraic : Cert.algebraic_KernelIdeal_ReferenceIdeal_pre_in_grid := by
  intro m g m' g' hpre hargs
  have hok : ∀ c : Dev Cert.KernelIdeal.nD, Cert.KernelIdeal.Value.Ok (m ((c.tc : Thread Cert.KernelIdeal.nD Cert.KernelIdeal.τ).loc Cert.KernelIdeal.main_arg1)) := fun c =>
    in_grid_ok _ _ _ _ _ _ _ _ _ _ _ _ _ _ _ _ _ _ _ _ (hpre c)
  have hs : ∀ c : Dev Cert.KernelIdeal.nD, Same m c (Idealize.ShloMosaic.StableHlo.launchContents m' c) := fun c => by
    obtain ⟨a0, a1, a2, a3, a4, a5, a6, a7, a8, a9, a10, a11, a12, a13, a14, a15, a16, a17, a18, a19⟩ := hargs c
    exact ⟨a0, a1, a2, a3, a4, a5, a6, a7, a8, a9, a10, a11, a12, a13, a14, a15, a16, a17, a18, a19⟩
  refine ⟨fun c => Cert.KernelIdeal.Run.W21 m g c (Proc.devRef .tc Cert.KernelIdeal.main_v192), fun c => Cert.KernelIdeal.Run.W21 m g c (Proc.devRef .tc Cert.KernelIdeal.main_v193),
    fun c => Cert.KernelIdeal.Run.W21 m g c (Proc.devRef .tc Cert.KernelIdeal.main_v194), ?_, ?_⟩
  · refine (θ_run Cert.KernelIdeal.defs _ _).mono (fun r h c => ?_) (Cert.KernelIdeal.Run.run m g)
    have k := Cert.KernelIdeal.Run.kept m g r.2.mem h.1 c
    exact ⟨h.1 c _ (Cert.KernelIdeal.Run.mem_uc Cert.KernelIdeal.main_v192 (by decide)), h.1 c _ (Cert.KernelIdeal.Run.mem_uc Cert.KernelIdeal.main_v193 (by decide)),
      h.1 c _ (Cert.KernelIdeal.Run.mem_uc Cert.KernelIdeal.main_v194 (by decide)),
      k Cert.KernelIdeal.main_arg0 (by decide) (by decide), k Cert.KernelIdeal.main_arg1 (by decide) (by decide), k Cert.KernelIdeal.main_arg2 (by decide) (by decide), k Cert.KernelIdeal.main_arg3 (by decide) (by decide),
      k Cert.KernelIdeal.main_arg4 (by decide) (by decide), k Cert.KernelIdeal.main_arg5 (by decide) (by decide), k Cert.KernelIdeal.main_arg6 (by decide) (by decide), k Cert.KernelIdeal.main_arg7 (by decide) (by decide),
      k Cert.KernelIdeal.main_arg8 (by decide) (by decide), k Cert.KernelIdeal.main_arg9 (by decide) (by decide), k Cert.KernelIdeal.main_arg10 (by decide) (by decide), k Cert.KernelIdeal.main_arg11 (by decide) (by decide),
      k Cert.KernelIdeal.main_arg12 (by decide) (by decide), k Cert.KernelIdeal.main_arg13 (by decide) (by decide), k Cert.KernelIdeal.main_arg14 (by decide) (by decide), k Cert.KernelIdeal.main_arg15 (by decide) (by decide),
      k Cert.KernelIdeal.main_arg16 (by decide) (by decide), k Cert.KernelIdeal.main_arg17 (by decide) (by decide), k Cert.KernelIdeal.main_arg18 (by decide) (by decide), k Cert.KernelIdeal.main_arg19 (by decide) (by decide)⟩
  · refine (θ_run Cert.ReferenceIdeal.defs _ _).mono (fun r h c => ?_) (Cert.ReferenceIdeal.Value.run m' g')
    obtain ⟨h0, h1, h2, hrest⟩ := h c
    refine ⟨h0.trans ?_, h1.trans ?_, h2.trans ?_, hrest⟩
    · exact (result0 g (hs c) (hok c) _ _ _ rfl (hs c).a14.symm (hs c).a15.symm).symm
    · exact (result1 g (hs c) (hok c) _ _ _ rfl (hs c).a16.symm (hs c).a17.symm).symm
    · exact (result2 g (hs c) (hok c) _ _ _ rfl (hs c).a18.symm (hs c).a19.symm).symm

end Cert.Proof
end
-- ==== Proof.lean ====
module

public import proofs.«01_k».proof.Proof.Claims
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts, Cert.Pre_in_grid.Gen.facts,
    quiescent_Kernel, quiescent_KernelIdeal, quiescent_KernelIdeal_pre_in_grid, quiescent_ReferenceIdeal,
    quiescent_ReferenceIdeal_pre_in_grid, preserves, algebraic⟩

end Cert.Proof

end
